-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11)
      ∧ r.2.mem ((c.tc : Thread Cert.FfnReferenceIdeal.nD Cert.FfnReferenceIdeal.τ).loc Cert.FfnReferenceIdeal.main_arg12) = m ((c.tc : Thread Cert.FfnReferenceIdeal.nD Cert.FfnReferenceIdeal.τ).loc Cert.FfnReferenceIdeal.main_arg12))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9)
      ∧ r.2.mem ((c.tc : Thread Cert.MidReferenceIdeal.nD Cert.MidReferenceIdeal.τ).loc Cert.MidReferenceIdeal.main_arg10) = m ((c.tc : Thread Cert.MidReferenceIdeal.nD Cert.MidReferenceIdeal.τ).loc Cert.MidReferenceIdeal.main_arg10)
      ∧ r.2.mem ((c.tc : Thread Cert.MidReferenceIdeal.nD Cert.MidReferenceIdeal.τ).loc Cert.MidReferenceIdeal.main_arg11) = m ((c.tc : Thread Cert.MidReferenceIdeal.nD Cert.MidReferenceIdeal.τ).loc Cert.MidReferenceIdeal.main_arg11)
      ∧ r.2.mem ((c.tc : Thread Cert.MidReferenceIdeal.nD Cert.MidReferenceIdeal.τ).loc Cert.MidReferenceIdeal.main_arg12) = m ((c.tc : Thread Cert.MidReferenceIdeal.nD Cert.MidReferenceIdeal.τ).loc Cert.MidReferenceIdeal.main_arg12))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def preserves_Kernel_KernelIdeal : Prop :=
  IdealRules.named_const.Statement Cert.KernelIdeal.κ "skip" .f32 0xC2B00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)
      ∧ m' ((c.tc : Thread Cert.FfnReferenceIdeal.nD Cert.FfnReferenceIdeal.τ).loc Cert.FfnReferenceIdeal.main_arg11) = m ((c.tc : Thread Cert.FfnIdeal.nD Cert.FfnIdeal.τ).loc Cert.FfnIdeal.main_arg11)
      ∧ m' ((c.tc : Thread Cert.FfnReferenceIdeal.nD Cert.FfnReferenceIdeal.τ).loc Cert.FfnReferenceIdeal.main_arg12) = m ((c.tc : Thread Cert.FfnIdeal.nD Cert.FfnIdeal.τ).loc Cert.FfnIdeal.main_arg12)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v99) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10)
          ∧ r.2.mem ((c.tc : Thread Cert.FfnReferenceIdeal.nD Cert.FfnReferenceIdeal.τ).loc Cert.FfnReferenceIdeal.main_arg11) = m' ((c.tc : Thread Cert.FfnReferenceIdeal.nD Cert.FfnReferenceIdeal.τ).loc Cert.FfnReferenceIdeal.main_arg11)
          ∧ r.2.mem ((c.tc : Thread Cert.FfnReferenceIdeal.nD Cert.FfnReferenceIdeal.τ).loc Cert.FfnReferenceIdeal.main_arg12) = m' ((c.tc : Thread Cert.FfnReferenceIdeal.nD Cert.FfnReferenceIdeal.τ).loc Cert.FfnReferenceIdeal.main_arg12))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)
      ∧ m' ((c.tc : Thread Cert.MidReferenceIdeal.nD Cert.MidReferenceIdeal.τ).loc Cert.MidReferenceIdeal.main_arg9) = m ((c.tc : Thread Cert.MidIdeal.nD Cert.MidIdeal.τ).loc Cert.MidIdeal.main_arg9)
      ∧ m' ((c.tc : Thread Cert.MidReferenceIdeal.nD Cert.MidReferenceIdeal.τ).loc Cert.MidReferenceIdeal.main_arg10) = m ((c.tc : Thread Cert.MidIdeal.nD Cert.MidIdeal.τ).loc Cert.MidIdeal.main_arg10)
      ∧ m' ((c.tc : Thread Cert.MidReferenceIdeal.nD Cert.MidReferenceIdeal.τ).loc Cert.MidReferenceIdeal.main_arg11) = m ((c.tc : Thread Cert.MidIdeal.nD Cert.MidIdeal.τ).loc Cert.MidIdeal.main_arg11)
      ∧ m' ((c.tc : Thread Cert.MidReferenceIdeal.nD Cert.MidReferenceIdeal.τ).loc Cert.MidReferenceIdeal.main_arg12) = m ((c.tc : Thread Cert.MidIdeal.nD Cert.MidIdeal.τ).loc Cert.MidIdeal.main_arg12)) →
    ∃ (v0 : (c : Dev Cert.MidIdeal.nD) → Buf (Elt Ideal) ((c.tc : Thread Cert.MidIdeal.nD Cert.MidIdeal.τ).loc Cert.MidIdeal.main_v0)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v85) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9)
          ∧ r.2.mem ((c.tc : Thread Cert.MidReferenceIdeal.nD Cert.MidReferenceIdeal.τ).loc Cert.MidReferenceIdeal.main_arg10) = m' ((c.tc : Thread Cert.MidReferenceIdeal.nD Cert.MidReferenceIdeal.τ).loc Cert.MidReferenceIdeal.main_arg10)
          ∧ r.2.mem ((c.tc : Thread Cert.MidReferenceIdeal.nD Cert.MidReferenceIdeal.τ).loc Cert.MidReferenceIdeal.main_arg11) = m' ((c.tc : Thread Cert.MidReferenceIdeal.nD Cert.MidReferenceIdeal.τ).loc Cert.MidReferenceIdeal.main_arg11)
          ∧ r.2.mem ((c.tc : Thread Cert.MidReferenceIdeal.nD Cert.MidReferenceIdeal.τ).loc Cert.MidReferenceIdeal.main_arg12) = m' ((c.tc : Thread Cert.MidReferenceIdeal.nD Cert.MidReferenceIdeal.τ).loc Cert.MidReferenceIdeal.main_arg12))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v85) = v0 c
          ∧ r.2.mem ((c.tc : Thread Cert.InprojReferenceIdeal.nD Cert.InprojReferenceIdeal.τ).loc Cert.InprojReferenceIdeal.main_v86) = v1 c
          ∧ r.2.mem ((c.tc : Thread Cert.InprojReferenceIdeal.nD Cert.InprojReferenceIdeal.τ).loc Cert.InprojReferenceIdeal.main_v88) = v2 c
          ∧ r.2.mem ((c.tc : Thread Cert.InprojReferenceIdeal.nD Cert.InprojReferenceIdeal.τ).loc Cert.InprojReferenceIdeal.main_v89) = v3 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMid : Cert.Mid.Facts) (hMidIdeal : Cert.MidIdeal.Facts) (hMidReferenceIdeal : Cert.MidReferenceIdeal.Facts) (hInproj : Cert.Inproj.Facts) (hInprojIdeal : Cert.InprojIdeal.Facts) (hInprojReferenceIdeal : Cert.InprojReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mid (hMid := hMid)
    ∧ quiescent_MidIdeal (hMidIdeal := hMidIdeal)
    ∧ quiescent_MidReferenceIdeal (hMidReferenceIdeal := hMidReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Mid_MidIdeal
    ∧ algebraic_MidIdeal_MidReferenceIdeal (hMidIdeal := hMidIdeal) (hMidReferenceIdeal := hMidReferenceIdeal)
    ∧ preserves_Inproj_InprojIdeal
    ∧ algebraic_InprojIdeal_InprojReferenceIdeal (hInprojIdeal := hInprojIdeal) (hInprojReferenceIdeal := hInprojReferenceIdeal)
-- ==== Kernel.lean ====
abbrev S32768x768 : Shape := ⟨2, ![32768, 768]⟩
abbrev S32768x256 : Shape := ⟨2, ![32768, 256]⟩
abbrev S2048x128 : Shape := ⟨2, ![2048, 128]⟩
abbrev S8192x128 : Shape := ⟨2, ![8192, 128]⟩
abbrev S1x128 : Shape := ⟨2, ![1, 128]⟩
abbrev S256x256 : Shape := ⟨2, ![256, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 2
  | .vmem => 8
  | .smem => 0
  | _ => 0

abbrev bufTy : (tb : Table) → Fin (tcTables nBuf tb) → BufTy
  | .hbm, ⟨0, _⟩ => ⟨S32768x768, .bf16⟩
  | .hbm, ⟨1, _⟩ => ⟨S32768x256, .bf16⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .bf16⟩
  | .local _ .vmem, ⟨7, _⟩ => ⟨S2048x128, .bf16⟩
  | _, _ => ⟨S32768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_mult1 (i : grid0.Coords) : BitVec 32 :=
  let arg2 : BitVec 32 := BitVec.ofNat 32 (i 2).val
  let c16_i32 : BitVec 32 := 16#32
  let v17 : BitVec 32 := Scalar.muli arg2 c16_i32
  let c0_i32 : BitVec 32 := 0#32
  let v18 : BitVec 32 := Scalar.addi v17 c0_i32
  let c1_i32_16 : BitVec 32 := 1#32
  let v49 : BitVec 32 := Scalar.subi v18 c1_i32_16
  let c0_i32_17 : BitVec 32 := 0#32
  let v50 : BitVec 32 := Scalar.maxsi v49 c0_i32_17
  let c128_i32_18 : BitVec 32 := 128#32
  let v51 : BitVec 32 := Scalar.muli v50 c128_i32_18
  v51
def k0_mult2 (i : grid0.Coords) : BitVec 32 :=
  let arg2 : BitVec 32 := BitVec.ofNat 32 (i 2).val
  let c16_i32_1 : BitVec 32 := 16#32
  let v19 : BitVec 32 := Scalar.muli arg2 c16_i32_1
  let c1_i32 : BitVec 32 := 1#32
  let v20 : BitVec 32 := Scalar.addi v19 c1_i32
  let c1_i32_19 : BitVec 32 := 1#32
  let v52 : BitVec 32 := Scalar.subi v20 c1_i32_19
  let c0_i32_20 : BitVec 32 := 0#32
  let v53 : BitVec 32 := Scalar.maxsi v52 c0_i32_20
  let c128_i32_21 : BitVec 32 := 128#32
  let v54 : BitVec 32 := Scalar.muli v53 c128_i32_21
  v54
def k0_mult3 (i : grid0.Coords) : BitVec 32 :=
  let arg2 : BitVec 32 := BitVec.ofNat 32 (i 2).val
  let c16_i32_2 : BitVec 32 := 16#32
  let v21 : BitVec 32 := Scalar.muli arg2 c16_i32_2
  let c2_i32 : BitVec 32 := 2#32
  let v22 : BitVec 32 := Scalar.addi v21 c2_i32
  let c1_i32_22 : BitVec 32 := 1#32
  let v55 : BitVec 32 := Scalar.subi v22 c1_i32_22
  let c0_i32_23 : BitVec 32 := 0#32
  let v56 : BitVec 32 := Scalar.maxsi v55 c0_i32_23
  let c128_i32_24 : BitVec 32 := 128#32
  let v57 : BitVec 32 := Scalar.muli v56 c128_i32_24
  v57
def k0_mult4 (i : grid0.Coords) : BitVec 32 :=
  let arg2 : BitVec 32 := BitVec.ofNat 32 (i 2).val
  let c16_i32_3 : BitVec 32 := 16#32
  let v23 : BitVec 32 := Scalar.muli arg2 c16_i32_3
  let c3_i32 : BitVec 32 := 3#32
  let v24 : BitVec 32 := Scalar.addi v23 c3_i32
  let c1_i32_25 : BitVec 32 := 1#32
  let v58 : BitVec 32 := Scalar.subi v24 c1_i32_25
  let c0_i32_26 : BitVec 32 := 0#32
  let v59 : BitVec 32 := Scalar.maxsi v58 c0_i32_26
  let c128_i32_27 : BitVec 32 := 128#32
  let v60 : BitVec 32 := Scalar.muli v59 c128_i32_27
  v60
def k0_mult5 (i : grid0.Coords) : BitVec 32 :=
  let arg2 : BitVec 32 := BitVec.ofNat 32 (i 2).val
  let c16_i32_4 : BitVec 32 := 16#32
  let v25 : BitVec 32 := Scalar.muli arg2 c16_i32_4
  let c4_i32 : BitVec 32 := 4#32
  let v26 : BitVec 32 := Scalar.addi v25 c4_i32
  let c1_i32_28 : BitVec 32 := 1#32
  let v61 : BitVec 32 := Scalar.subi v26 c1_i32_28
  let c0_i32_29 : BitVec 32 := 0#32
  let v62 : BitVec 32 := Scalar.maxsi v61 c0_i32_29
  let c128_i32_30 : BitVec 32 := 128#32
  let v63 : BitVec 32 := Scalar.muli v62 c128_i32_30
  v63
def k0_mult6 (i : grid0.Coords) : BitVec 32 :=
  let arg2 : BitVec 32 := BitVec.ofNat 32 (i 2).val
  let c16_i32_5 : BitVec 32 := 16#32
  let v27 : BitVec 32 := Scalar.muli arg2 c16_i32_5
  let c5_i32 : BitVec 32 := 5#32
  let v28 : BitVec 32 := Scalar.addi v27 c5_i32
  let c1_i32_31 : BitVec 32 := 1#32
  let v64 : BitVec 32 := Scalar.subi v28 c1_i32_31
  let c0_i32_32 : BitVec 32 := 0#32
  let v65 : BitVec 32 := Scalar.maxsi v64 c0_i32_32
  let c128_i32_33 : BitVec 32 := 128#32
  let v66 : BitVec 32 := Scalar.muli v65 c128_i32_33
  v66
def k0_mult7 (i : grid0.Coords) : BitVec 32 :=
  let arg2 : BitVec 32 := BitVec.ofNat 32 (i 2).val
  let c16_i32_6 : BitVec 32 := 16#32
  let v29 : BitVec 32 := Scalar.muli arg2 c16_i32_6
  let c6_i32 : BitVec 32 := 6#32
  let v30 : BitVec 32 := Scalar.addi v29 c6_i32
  let c1_i32_34 : BitVec 32 := 1#32
  let v67 : BitVec 32 := Scalar.subi v30 c1_i32_34
  let c0_i32_35 : BitVec 32 := 0#32
  let v68 : BitVec 32 := Scalar.maxsi v67 c0_i32_35
  let c128_i32_36 : BitVec 32 := 128#32
  let v69 : BitVec 32 := Scalar.muli v68 c128_i32_36
  v69
def k0_mult8 (i : grid0.Coords) : BitVec 32 :=
  let arg2 : BitVec 32 := BitVec.ofNat 32 (i 2).val
  let c16_i32_7 : BitVec 32 := 16#32
  let v31 : BitVec 32 := Scalar.muli arg2 c16_i32_7
  let c7_i32 : BitVec 32 := 7#32
  let v32 : BitVec 32 := Scalar.addi v31 c7_i32
  let c1_i32_37 : BitVec 32 := 1#32
  let v70 : BitVec 32 := Scalar.subi v32 c1_i32_37
  let c0_i32_38 : BitVec 32 := 0#32
  let v71 : BitVec 32 := Scalar.maxsi v70 c0_i32_38
  let c128_i32_39 : BitVec 32 := 128#32
  let v72 : BitVec 32 := Scalar.muli v71 c128_i32_39
  v72
def k0_mult9 (i : grid0.Coords) : BitVec 32 :=
  let arg2 : BitVec 32 := BitVec.ofNat 32 (i 2).val
  let c16_i32_8 : BitVec 32 := 16#32
  let v33 : BitVec 32 := Scalar.muli arg2 c16_i32_8
  let c8_i32 : BitVec 32 := 8#32
  let v34 : BitVec 32 := Scalar.addi v33 c8_i32
  let c1_i32_40 : BitVec 32 := 1#32
  let v73 : BitVec 32 := Scalar.subi v34 c1_i32_40
  let c0_i32_41 : BitVec 32 := 0#32
  let v74 : BitVec 32 := Scalar.maxsi v73 c0_i32_41
  let c128_i32_42 : BitVec 32 := 128#32
  let v75 : BitVec 32 := Scalar.muli v74 c128_i32_42
  v75
def k0_mult10 (i : grid0.Coords) : BitVec 32 :=
  let arg2 : BitVec 32 := BitVec.ofNat 32 (i 2).val
  let c16_i32_9 : BitVec 32 := 16#32
  let v35 : BitVec 32 := Scalar.muli arg2 c16_i32_9
  let c9_i32 : BitVec 32 := 9#32
  let v36 : BitVec 32 := Scalar.addi v35 c9_i32
  let c1_i32_43 : BitVec 32 := 1#32
  let v76 : BitVec 32 := Scalar.subi v36 c1_i32_43
  let c0_i32_44 : BitVec 32 := 0#32
  let v77 : BitVec 32 := Scalar.maxsi v76 c0_i32_44
  let c128_i32_45 : BitVec 32 := 128#32
  let v78 : BitVec 32 := Scalar.muli v77 c128_i32_45
  v78
def k0_mult11 (i : grid0.Coords) : BitVec 32 :=
  let arg2 : BitVec 32 := BitVec.ofNat 32 (i 2).val
  let c16_i32_10 : BitVec 32 := 16#32
  let v37 : BitVec 32 := Scalar.muli arg2 c16_i32_10
  let c10_i32 : BitVec 32 := 10#32
  let v38 : BitVec 32 := Scalar.addi v37 c10_i32
  let c1_i32_46 : BitVec 32 := 1#32
  let v79 : BitVec 32 := Scalar.subi v38 c1_i32_46
  let c0_i32_47 : BitVec 32 := 0#32
  let v80 : BitVec 32 := Scalar.maxsi v79 c0_i32_47
  let c128_i32_48 : BitVec 32 := 128#32
  let v81 : BitVec 32 := Scalar.muli v80 c128_i32_48
  v81
def k0_mult12 (i : grid0.Coords) : BitVec 32 :=
  let arg2 : BitVec 32 := BitVec.ofNat 32 (i 2).val
  let c16_i32_11 : BitVec 32 := 16#32
  let v39 : BitVec 32 := Scalar.muli arg2 c16_i32_11
  let c11_i32 : BitVec 32 := 11#32
  let v40 : BitVec 32 := Scalar.addi v39 c11_i32
  let c1_i32_49 : BitVec 32 := 1#32
  let v82 : BitVec 32 := Scalar.subi v40 c1_i32_49
  let c0_i32_50 : BitVec 32 := 0#32
  let v83 : BitVec 32 := Scalar.maxsi v82 c0_i32_50
  let c128_i32_51 : BitVec 32 := 128#32
  let v84 : BitVec 32 := Scalar.muli v83 c128_i32_51
  v84
def k0_mult13 (i : grid0.Coords) : BitVec 32 :=
  let arg2 : BitVec 32 := BitVec.ofNat 32 (i 2).val
  let c16_i32_12 : BitVec 32 := 16#32
  let v41 : BitVec 32 := Scalar.muli arg2 c16_i32_12
  let c12_i32 : BitVec 32 := 12#32
  let v42 : BitVec 32 := Scalar.addi v41 c12_i32
  let c1_i32_52 : BitVec 32 := 1#32
  let v85 : BitVec 32 := Scalar.subi v42 c1_i32_52
  let c0_i32_53 : BitVec 32 := 0#32
  let v86 : BitVec 32 := Scalar.maxsi v85 c0_i32_53
  let c128_i32_54 : BitVec 32 := 128#32
  let v87 : BitVec 32 := Scalar.muli v86 c128_i32_54
  v87
def k0_mult14 (i : grid0.Coords) : BitVec 32 :=
  let arg2 : BitVec 32 := BitVec.ofNat 32 (i 2).val
  let c16_i32_13 : BitVec 32 := 16#32
  let v43 : BitVec 32 := Scalar.muli arg2 c16_i32_13
  let c13_i32 : BitVec 32 := 13#32
  let v44 : BitVec 32 := Scalar.addi v43 c13_i32
  let c1_i32_55 : BitVec 32 := 1#32
  let v88 : BitVec 32 := Scalar.subi v44 c1_i32_55
  let c0_i32_56 : BitVec 32 := 0#32
  let v89 : BitVec 32 := Scalar.maxsi v88 c0_i32_56
  let c128_i32_57 : BitVec 32 := 128#32
  let v90 : BitVec 32 := Scalar.muli v89 c128_i32_57
  v90
def k0_mult15 (i : grid0.Coords) : BitVec 32 :=
  let arg2 : BitVec 32 := BitVec.ofNat 32 (i 2).val
  let c16_i32_14 : BitVec 32 := 16#32
  let v45 : BitVec 32 := Scalar.muli arg2 c16_i32_14
  let c14_i32 : BitVec 32 := 14#32
  let v46 : BitVec 32 := Scalar.addi v45 c14_i32
  let c1_i32_58 : BitVec 32 := 1#32
  let v91 : BitVec 32 := Scalar.subi v46 c1_i32_58
  let c0_i32_59 : BitVec 32 := 0#32
  let v92 : BitVec 32 := Scalar.maxsi v91 c0_i32_59
  let c128_i32_60 : BitVec 32 := 128#32
  let v93 : BitVec 32 := Scalar.muli v92 c128_i32_60
  v93
def k0_mult16 (i : grid0.Coords) : BitVec 32 :=
  let arg2 : BitVec 32 := BitVec.ofNat 32 (i 2).val
  let c16_i32_15 : BitVec 32 := 16#32
  let v47 : BitVec 32 := Scalar.muli arg2 c16_i32_15
  let c15_i32 : BitVec 32 := 15#32
  let v48 : BitVec 32 := Scalar.addi v47 c15_i32
  let c1_i32_61 : BitVec 32 := 1#32
  let v94 : BitVec 32 := Scalar.subi v48 c1_i32_61
  let c0_i32_62 : BitVec 32 := 0#32
  let v95 : BitVec 32 := Scalar.maxsi v94 c0_i32_62
  let c128_i32_63 : BitVec 32 := 128#32
  let v96 : BitVec 32 := Scalar.muli v95 c128_i32_63
  v96
def k0_off1 (i : grid0.Coords) (c0_i32 : BitVec 32) : Fin 2 → Nat :=
  let arg2 : BitVec 32 := BitVec.ofNat 32 (i 2).val
  let c16_i32 : BitVec 32 := 16#32
  let v17 : BitVec 32 := Scalar.muli arg2 c16_i32
  let v18 : BitVec 32 := Scalar.addi v17 c0_i32
  let c1_i32_16 : BitVec 32 := 1#32
  let v49 : BitVec 32 := Scalar.subi v18 c1_i32_16
  let c0_i32_17 : BitVec 32 := 0#32
  let v50 : BitVec 32 := Scalar.maxsi v49 c0_i32_17
  let c128_i32_18 : BitVec 32 := 128#32
  let v51 : BitVec 32 := Scalar.muli v50 c128_i32_18
  let v273 : BitVec 32 := v51
  let v289 : Index := Scalar.indexCast v273
  let c0_111 : Index := 0#32
  ![v289.toNat, 0]
def k0_mult17 (arg7 : BitVec 32) : BitVec 32 :=
  let c128_i32_383 : BitVec 32 := 128#32
  let v1063 : BitVec 32 := Scalar.muli arg7 c128_i32_383
  v1063

def k0_off2 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk1 (arg7 : BitVec 32) : Prop :=
  (128 ∣ (k0_mult17 arg7).toNat) ∧
  (∀ a, (k0_off2 arg7) a + S128x128.size a ≤ S8192x128.size a)
theorem k0_mult17_dvd : ∀ (arg7 : BitVec 32) (k0_hw1 : k0_chk1 arg7), 128 ∣ (k0_mult17 arg7).toNat := fun arg7 k0_hw1 => k0_hw1.1
theorem k0_off2_inb : ∀ (arg7 : BitVec 32) (k0_hw1 : k0_chk1 arg7), ∀ a, (k0_off2 arg7) a + S128x128.size a ≤ S8192x128.size a := fun arg7 k0_hw1 => k0_hw1.2

def k0_mult18 (arg7 : BitVec 32) : BitVec 32 :=
  let c128_i32_383 : BitVec 32 := 128#32
  let v1063 : BitVec 32 := Scalar.muli arg7 c128_i32_383
  v1063

def k0_off3 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk2 (arg7 : BitVec 32) : Prop :=
  (128 ∣ (k0_mult18 arg7).toNat) ∧
  (∀ a, (k0_off3 arg7) a + S128x128.size a ≤ S8192x128.size a)
theorem k0_mult18_dvd : ∀ (arg7 : BitVec 32) (k0_hw2 : k0_chk2 arg7), 128 ∣ (k0_mult18 arg7).toNat := fun arg7 k0_hw2 => k0_hw2.1
theorem k0_off3_inb : ∀ (arg7 : BitVec 32) (k0_hw2 : k0_chk2 arg7), ∀ a, (k0_off3 arg7) a + S128x128.size a ≤ S8192x128.size a := fun arg7 k0_hw2 => k0_hw2.2

def k0_mult19 (arg7 : BitVec 32) : BitVec 32 :=
  let c128_i32_383 : BitVec 32 := 128#32
  let v1063 : BitVec 32 := Scalar.muli arg7 c128_i32_383
  v1063

def k0_off4 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk3 (arg7 : BitVec 32) : Prop :=
  (128 ∣ (k0_mult19 arg7).toNat) ∧
  (∀ a, (k0_off4 arg7) a + S128x128.size a ≤ S8192x128.size a)
theorem k0_mult19_dvd : ∀ (arg7 : BitVec 32) (k0_hw3 : k0_chk3 arg7), 128 ∣ (k0_mult19 arg7).toNat := fun arg7 k0_hw3 => k0_hw3.1
theorem k0_off4_inb : ∀ (arg7 : BitVec 32) (k0_hw3 : k0_chk3 arg7), ∀ a, (k0_off4 arg7) a + S128x128.size a ≤ S8192x128.size a := fun arg7 k0_hw3 => k0_hw3.2

def k0_mult20 (arg7 : BitVec 32) : BitVec 32 :=
  let c128_i32_383 : BitVec 32 := 128#32
  let v1063 : BitVec 32 := Scalar.muli arg7 c128_i32_383
  v1063

def k0_off5 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk4 (arg7 : BitVec 32) : Prop :=
  (128 ∣ (k0_mult20 arg7).toNat) ∧
  (∀ a, (k0_off5 arg7) a + S128x128.size a ≤ S8192x128.size a)
theorem k0_mult20_dvd : ∀ (arg7 : BitVec 32) (k0_hw4 : k0_chk4 arg7), 128 ∣ (k0_mult20 arg7).toNat := fun arg7 k0_hw4 => k0_hw4.1
theorem k0_off5_inb : ∀ (arg7 : BitVec 32) (k0_hw4 : k0_chk4 arg7), ∀ a, (k0_off5 arg7) a + S128x128.size a ≤ S8192x128.size a := fun arg7 k0_hw4 => k0_hw4.2

def k0_mult21 (arg7 : BitVec 32) : BitVec 32 :=
  let c128_i32_383 : BitVec 32 := 128#32
  let v1063 : BitVec 32 := Scalar.muli arg7 c128_i32_383
  v1063

def k0_off6 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk5 (arg7 : BitVec 32) : Prop :=
  (128 ∣ (k0_mult21 arg7).toNat) ∧
  (∀ a, (k0_off6 arg7) a + S128x128.size a ≤ S8192x128.size a)
theorem k0_mult21_dvd : ∀ (arg7 : BitVec 32) (k0_hw5 : k0_chk5 arg7), 128 ∣ (k0_mult21 arg7).toNat := fun arg7 k0_hw5 => k0_hw5.1
theorem k0_off6_inb : ∀ (arg7 : BitVec 32) (k0_hw5 : k0_chk5 arg7), ∀ a, (k0_off6 arg7) a + S128x128.size a ≤ S8192x128.size a := fun arg7 k0_hw5 => k0_hw5.2

def k0_mult22 (arg7 : BitVec 32) : BitVec 32 :=
  let c128_i32_383 : BitVec 32 := 128#32
  let v1063 : BitVec 32 := Scalar.muli arg7 c128_i32_383
  v1063

def k0_off7 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk6 (arg7 : BitVec 32) : Prop :=
  (128 ∣ (k0_mult22 arg7).toNat) ∧
  (∀ a, (k0_off7 arg7) a + S128x128.size a ≤ S8192x128.size a)
theorem k0_mult22_dvd : ∀ (arg7 : BitVec 32) (k0_hw6 : k0_chk6 arg7), 128 ∣ (k0_mult22 arg7).toNat := fun arg7 k0_hw6 => k0_hw6.1
theorem k0_off7_inb : ∀ (arg7 : BitVec 32) (k0_hw6 : k0_chk6 arg7), ∀ a, (k0_off7 arg7) a + S128x128.size a ≤ S8192x128.size a := fun arg7 k0_hw6 => k0_hw6.2

def k0_mult23 (arg7 : BitVec 32) : BitVec 32 :=
  let c128_i32_383 : BitVec 32 := 128#32
  let v1063 : BitVec 32 := Scalar.muli arg7 c128_i32_383
  v1063

def k0_off8 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk7 (arg7 : BitVec 32) : Prop :=
  (128 ∣ (k0_mult23 arg7).toNat) ∧
  (∀ a, (k0_off8 arg7) a + S128x128.size a ≤ S8192x128.size a)
theorem k0_mult23_dvd : ∀ (arg7 : BitVec 32) (k0_hw7 : k0_chk7 arg7), 128 ∣ (k0_mult23 arg7).toNat := fun arg7 k0_hw7 => k0_hw7.1
theorem k0_off8_inb : ∀ (arg7 : BitVec 32) (k0_hw7 : k0_chk7 arg7), ∀ a, (k0_off8 arg7) a + S128x128.size a ≤ S8192x128.size a := fun arg7 k0_hw7 => k0_hw7.2

def k0_mult24 (arg7 : BitVec 32) : BitVec 32 :=
  let c128_i32_383 : BitVec 32 := 128#32
  let v1063 : BitVec 32 := Scalar.muli arg7 c128_i32_383
  v1063

def k0_off9 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk8 (arg7 : BitVec 32) : Prop :=
  (128 ∣ (k0_mult24 arg7).toNat) ∧
  (∀ a, (k0_off9 arg7) a + S128x128.size a ≤ S8192x128.size a)
theorem k0_mult24_dvd : ∀ (arg7 : BitVec 32) (k0_hw8 : k0_chk8 arg7), 128 ∣ (k0_mult24 arg7).toNat := fun arg7 k0_hw8 => k0_hw8.1
theorem k0_off9_inb : ∀ (arg7 : BitVec 32) (k0_hw8 : k0_chk8 arg7), ∀ a, (k0_off9 arg7) a + S128x128.size a ≤ S8192x128.size a := fun arg7 k0_hw8 => k0_hw8.2

def k0_mult25 (arg7 : BitVec 32) : BitVec 32 :=
  let c128_i32_383 : BitVec 32 := 128#32
  let v1063 : BitVec 32 := Scalar.muli arg7 c128_i32_383
  v1063

def k0_off10 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk9 (arg7 : BitVec 32) : Prop :=
  (128 ∣ (k0_mult25 arg7).toNat) ∧
  (∀ a, (k0_off10 arg7) a + S128x128.size a ≤ S8192x128.size a)
theorem k0_mult25_dvd : ∀ (arg7 : BitVec 32) (k0_hw9 : k0_chk9 arg7), 128 ∣ (k0_mult25 arg7).toNat := fun arg7 k0_hw9 => k0_hw9.1
theorem k0_off10_inb : ∀ (arg7 : BitVec 32) (k0_hw9 : k0_chk9 arg7), ∀ a, (k0_off10 arg7) a + S128x128.size a ≤ S8192x128.size a := fun arg7 k0_hw9 => k0_hw9.2

def k0_mult26 (arg7 : BitVec 32) : BitVec 32 :=
  let c128_i32_383 : BitVec 32 := 128#32
  let v1063 : BitVec 32 := Scalar.muli arg7 c128_i32_383
  v1063

def k0_off11 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk10 (arg7 : BitVec 32) : Prop :=
  (128 ∣ (k0_mult26 arg7).toNat) ∧
  (∀ a, (k0_off11 arg7) a + S128x128.size a ≤ S8192x128.size a)
theorem k0_mult26_dvd : ∀ (arg7 : BitVec 32) (k0_hw10 : k0_chk10 arg7), 128 ∣ (k0_mult26 arg7).toNat := fun arg7 k0_hw10 => k0_hw10.1
theorem k0_off11_inb : ∀ (arg7 : BitVec 32) (k0_hw10 : k0_chk10 arg7), ∀ a, (k0_off11 arg7) a + S128x128.size a ≤ S8192x128.size a := fun arg7 k0_hw10 => k0_hw10.2

def k0_mult27 (arg7 : BitVec 32) : BitVec 32 :=
  let c128_i32_383 : BitVec 32 := 128#32
  let v1063 : BitVec 32 := Scalar.muli arg7 c128_i32_383
  v1063

def k0_off12 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk11 (arg7 : BitVec 32) : Prop :=
  (128 ∣ (k0_mult27 arg7).toNat) ∧
  (∀ a, (k0_off12 arg7) a + S128x128.size a ≤ S8192x128.size a)
theorem k0_mult27_dvd : ∀ (arg7 : BitVec 32) (k0_hw11 : k0_chk11 arg7), 128 ∣ (k0_mult27 arg7).toNat := fun arg7 k0_hw11 => k0_hw11.1
theorem k0_off12_inb : ∀ (arg7 : BitVec 32) (k0_hw11 : k0_chk11 arg7), ∀ a, (k0_off12 arg7) a + S128x128.size a ≤ S8192x128.size a := fun arg7 k0_hw11 => k0_hw11.2

def k0_mult28 (arg7 : BitVec 32) : BitVec 32 :=
  let c128_i32_383 : BitVec 32 := 128#32
  let v1063 : BitVec 32 := Scalar.muli arg7 c128_i32_383
  v1063

def k0_off13 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk12 (arg7 : BitVec 32) : Prop :=
  (128 ∣ (k0_mult28 arg7).toNat) ∧
  (∀ a, (k0_off13 arg7) a + S128x128.size a ≤ S8192x128.size a)
theorem k0_mult28_dvd : ∀ (arg7 : BitVec 32) (k0_hw12 : k0_chk12 arg7), 128 ∣ (k0_mult28 arg7).toNat := fun arg7 k0_hw12 => k0_hw12.1
theorem k0_off13_inb : ∀ (arg7 : BitVec 32) (k0_hw12 : k0_chk12 arg7), ∀ a, (k0_off13 arg7) a + S128x128.size a ≤ S8192x128.size a := fun arg7 k0_hw12 => k0_hw12.2

def k0_mult29 (arg7 : BitVec 32) : BitVec 32 :=
  let c128_i32_383 : BitVec 32 := 128#32
  let v1063 : BitVec 32 := Scalar.muli arg7 c128_i32_383
  v1063

def k0_off14 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk13 (arg7 : BitVec 32) : Prop :=
  (128 ∣ (k0_mult29 arg7).toNat) ∧
  (∀ a, (k0_off14 arg7) a + S128x128.size a ≤ S8192x128.size a)
theorem k0_mult29_dvd : ∀ (arg7 : BitVec 32) (k0_hw13 : k0_chk13 arg7), 128 ∣ (k0_mult29 arg7).toNat := fun arg7 k0_hw13 => k0_hw13.1
theorem k0_off14_inb : ∀ (arg7 : BitVec 32) (k0_hw13 : k0_chk13 arg7), ∀ a, (k0_off14 arg7) a + S128x128.size a ≤ S8192x128.size a := fun arg7 k0_hw13 => k0_hw13.2

def k0_mult30 (arg7 : BitVec 32) : BitVec 32 :=
  let c128_i32_383 : BitVec 32 := 128#32
  let v1063 : BitVec 32 := Scalar.muli arg7 c128_i32_383
  v1063

def k0_off15 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk14 (arg7 : BitVec 32) : Prop :=
  (128 ∣ (k0_mult30 arg7).toNat) ∧
  (∀ a, (k0_off15 arg7) a + S128x128.size a ≤ S8192x128.size a)
theorem k0_mult30_dvd : ∀ (arg7 : BitVec 32) (k0_hw14 : k0_chk14 arg7), 128 ∣ (k0_mult30 arg7).toNat := fun arg7 k0_hw14 => k0_hw14.1
theorem k0_off15_inb : ∀ (arg7 : BitVec 32) (k0_hw14 : k0_chk14 arg7), ∀ a, (k0_off15 arg7) a + S128x128.size a ≤ S8192x128.size a := fun arg7 k0_hw14 => k0_hw14.2

def k0_mult31 (arg7 : BitVec 32) : BitVec 32 :=
  let c128_i32_383 : BitVec 32 := 128#32
  let v1063 : BitVec 32 := Scalar.muli arg7 c128_i32_383
  v1063

def k0_off16 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk15 (arg7 : BitVec 32) : Prop :=
  (128 ∣ (k0_mult31 arg7).toNat) ∧
  (∀ a, (k0_off16 arg7) a + S128x128.size a ≤ S8192x128.size a)
theorem k0_mult31_dvd : ∀ (arg7 : BitVec 32) (k0_hw15 : k0_chk15 arg7), 128 ∣ (k0_mult31 arg7).toNat := fun arg7 k0_hw15 => k0_hw15.1
theorem k0_off16_inb : ∀ (arg7 : BitVec 32) (k0_hw15 : k0_chk15 arg7), ∀ a, (k0_off16 arg7) a + S128x128.size a ≤ S8192x128.size a := fun arg7 k0_hw15 => k0_hw15.2

def k0_mult32 (arg7 : BitVec 32) : BitVec 32 :=
  let c128_i32_383 : BitVec 32 := 128#32
  let v1063 : BitVec 32 := Scalar.muli arg7 c128_i32_383
  v1063

def k0_off17 (arg7 : BitVec 32) : Fin 2 → Nat :=
  let c128_i32_383 : BitVec 32 := 128#32
  let v1063 : BitVec 32 := Scalar.muli arg7 c128_i32_383
  let v1064 : BitVec 32 := v1063
  let v1065 : Index := Scalar.indexCast v1064
  let c0_384 : Index := 0#32
  ![v1065.toNat, 0]

def k0_chk16 (arg7 : BitVec 32) : Prop :=
  (128 ∣ (k0_mult32 arg7).toNat) ∧
  (∀ a, (k0_off17 arg7) a + S128x128.size a ≤ S8192x128.size a)
theorem k0_mult32_dvd : ∀ (arg7 : BitVec 32) (k0_hw16 : k0_chk16 arg7), 128 ∣ (k0_mult32 arg7).toNat := fun arg7 k0_hw16 => k0_hw16.1
theorem k0_off17_inb : ∀ (arg7 : BitVec 32) (k0_hw16 : k0_chk16 arg7), ∀ a, (k0_off17 arg7) a + S128x128.size a ≤ S8192x128.size a := fun arg7 k0_hw16 => k0_hw16.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "skip" => some ⊥
  | _ => none
-- ==== ReferenceIdeal.lean ====
abbrev S32768x768 : Shape := ⟨2, ![32768, 768]⟩
abbrev S32768x256 : Shape := ⟨2, ![32768, 256]⟩
abbrev S4x8192x4x64 : Shape := ⟨4, ![4, 8192, 4, 64]⟩
abbrev S4x4x8192x8192 : Shape := ⟨4, ![4, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x4x64x8192 : Shape := ⟨4, ![4, 4, 64, 8192]⟩

abbrev nBuf : Space → Nat
  | .hbm => 71
  | .vmem => 0
  | .smem => 0
  | _ => 0

abbrev bufTy : (tb : Table) → Fin (tcTables nBuf tb) → BufTy
  | .hbm, ⟨0, _⟩ => ⟨S32768x768, .bf16⟩
  | .hbm, ⟨1, _⟩ => ⟨S32768x768, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S4x8192x4x64, .f32⟩
  | .hbm, ⟨6, _⟩ => ⟨S4x8192x4x64, .f32⟩
  | .hbm, ⟨7, _⟩ => ⟨S4x8192x4x64, .f32⟩
  | .hbm, ⟨8, _⟩ => ⟨S4x4x8192x8192, .f32⟩
  | .hbm, ⟨9, _⟩ => ⟨S_, .f32⟩
  | .hbm, ⟨10, _⟩ => ⟨S4x4x8192x8192, .f32⟩
  | .hbm, ⟨11, _⟩ => ⟨S4x4x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S4x4x8192x8192, .f32⟩
  | .hbm, ⟨19, _⟩ => ⟨S_, .f32⟩
  | .hbm, ⟨20, _⟩ => ⟨S4x4x8192x8192, .f32⟩
  | .hbm, ⟨21, _⟩ => ⟨S4x4x8192x8192, .f32⟩
  | .hbm, ⟨22, _⟩ => ⟨S4x4x8192x8192, .f32⟩
  | .hbm, ⟨23, _⟩ => ⟨S4x4x8192x8192, .f32⟩
  | .hbm, ⟨24, _⟩ => ⟨S4x4x8192x8192, .i1⟩
  | .hbm, ⟨25, _⟩ => ⟨S4x4x8192x8192, .f32⟩
  | .hbm, ⟨26, _⟩ => ⟨S4x4x8192x8192, .f32⟩
  | .hbm, ⟨27, _⟩ => ⟨S4x4x8192x8192, .f32⟩
  | .hbm, ⟨28, _⟩ => ⟨S4x4x8192x8192, .f32⟩
  | .hbm, ⟨29, _⟩ => ⟨S4x4x8192x8192, .f32⟩
  | .hbm, ⟨30, _⟩ => ⟨S4x4x8192x8192, .f32⟩
  | .hbm, ⟨31, _⟩ => ⟨S4x4x8192x8192, .f32⟩
  | .hbm, ⟨32, _⟩ => ⟨S4x4x8192x8192, .f32⟩
  | .hbm, ⟨33, _⟩ => ⟨S4x4x8192x8192, .f32⟩
  | .hbm, ⟨34, _⟩ => ⟨S4x4x8192x8192, .f32⟩
  | .hbm, ⟨35, _⟩ => ⟨S4x4x8192x8192, .f32⟩
  | .hbm, ⟨36, _⟩ => ⟨S_, .f32⟩
  | .hbm, ⟨37, _⟩ => ⟨S4x4x8192x8192, .f32⟩
  | .hbm, ⟨38, _⟩ => ⟨S4x4x8192x8192, .f32⟩
  | .hbm, ⟨39, _⟩ => ⟨S4x4x8192x8192, .f32⟩
  | .hbm, ⟨40, _⟩ => ⟨S4x4x8192x8192, .f32⟩
  | .hbm, ⟨41, _⟩ => ⟨S4x4x8192x8192, .i1⟩
  | .hbm, ⟨42, _⟩ => ⟨S4x4x8192x8192, .f32⟩
  | .hbm, ⟨43, _⟩ => ⟨S4x4x8192x8192, .f32⟩
  | .hbm, ⟨44, _⟩ => ⟨S4x4x8192x8192, .f32⟩
  | .hbm, ⟨45, _⟩ => ⟨S4x4x8192x8192, .f32⟩
  | .hbm, ⟨46, _⟩ => ⟨S4x4x8192x8192, .f32⟩
  | .hbm, ⟨47, _⟩ => ⟨S4x4x8192x8192, .f32⟩
  | .hbm, ⟨48, _⟩ => ⟨S4x4x8192x8192, .f32⟩
  | .hbm, ⟨49, _⟩ => ⟨S4x4x8192x8192, .f32⟩
  | .hbm, ⟨50, _⟩ => ⟨S4x4x8192x8192, .f32⟩
  | .hbm, ⟨51, _⟩ => ⟨S_, .f32⟩
  | .hbm, ⟨52, _⟩ => ⟨S_, .f32⟩
  | .hbm, ⟨53, _⟩ => ⟨S4x4x8192x8192, .i1⟩
  | .hbm, ⟨54, _⟩ => ⟨S4x4x8192x8192, .f32⟩
  | .hbm, ⟨55, _⟩ => ⟨S4x4x8192x8192, .f32⟩
  | .hbm, ⟨56, _⟩ => ⟨S_, .f32⟩
  | .hbm, ⟨57, _⟩ => ⟨S_, .f32⟩
  | .hbm, ⟨58, _⟩ => ⟨S4x4x8192x8192, .f32⟩
  | .hbm, ⟨59, _⟩ => ⟨S4x4x8192x8192, .f32⟩
  | .hbm, ⟨60, _⟩ => ⟨S4x4x8192x8192, .f32⟩
  | .hbm, ⟨61, _⟩ => ⟨S4x4x8192x8192, .f32⟩
  | .hbm, ⟨62, _⟩ => ⟨S_, .f32⟩
  | .hbm, ⟨63, _⟩ => ⟨S_, .f32⟩
  | .hbm, ⟨64, _⟩ => ⟨S4x4x8192x8192, .i1⟩
  | .hbm, ⟨65, _⟩ => ⟨S4x4x8192x8192, .f32⟩
  | .hbm, ⟨66, _⟩ => ⟨S4x4x8192x8192, .f32⟩
  | .hbm, ⟨67, _⟩ => ⟨S4x4x64x8192, .f32⟩
  | .hbm, ⟨68, _⟩ => ⟨S4x8192x4x64, .f32⟩
  | .hbm, ⟨69, _⟩ => ⟨S32768x256, .f32⟩
  | .hbm, ⟨70, _⟩ => ⟨S32768x256, .bf16⟩
  | _, _ => ⟨S32768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v18 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v19 : Ref sig .tc := ⟨.hbm, 55, rfl⟩
abbrev main_call3_cst : Ref sig .tc := ⟨.hbm, 56, rfl⟩
abbrev main_call3_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== Ffn.lean ====
abbrev S32768x1024 : Shape := ⟨2, ![32768, 1024]⟩
abbrev S32768x768 : Shape := ⟨2, ![32768, 768]⟩
abbrev S32768x512 : Shape := ⟨2, ![32768, 512]⟩
abbrev S32768x256 : Shape := ⟨2, ![32768, 256]⟩
abbrev S3x256 : Shape := ⟨2, ![3, 256]⟩
abbrev S256x1024 : Shape := ⟨2, ![256, 1024]⟩
abbrev S512x1024 : Shape := ⟨2, ![512, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S512x768 : Shape := ⟨2, ![512, 768]⟩
abbrev S8x768 : Shape := ⟨2, ![8, 768]⟩
abbrev S512x512 : Shape := ⟨2, ![512, 512]⟩
abbrev S512x256 : Shape := ⟨2, ![512, 256]⟩
abbrev S512x2816 : Shape := ⟨2, ![512, 2816]⟩
abbrev S8x5632 : Shape := ⟨2, ![8, 5632]⟩
abbrev S8x256 : Shape := ⟨2, ![8, 256]⟩
abbrev S520x256 : Shape := ⟨2, ![520, 256]⟩
abbrev S1x256 : Shape := ⟨2, ![1, 256]⟩
abbrev S512 : Shape := ⟨1, ![512]⟩
abbrev S512x1 : Shape := ⟨2, ![512, 1]⟩
abbrev S1024x256 : Shape := ⟨2, ![1024, 256]⟩

abbrev nBuf : Space → Nat
  | .hbm => 14
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x768, .f32⟩
  | .hbm, ⟨2, _⟩ => ⟨S32768x512, .bf16⟩
  | .hbm, ⟨3, _⟩ => ⟨S32768x256, .bf16⟩
  | .hbm, ⟨4, _⟩ => ⟨S3x256, .f32⟩
  | .hbm, ⟨5, _⟩ => ⟨S256x1024, .bf16⟩
  | .hbm, ⟨6, _⟩ => ⟨S512x1024, .bf16⟩
  | .hbm, ⟨7, _⟩ => ⟨S256x1024, .bf16⟩
  | .hbm, ⟨8, _⟩ => ⟨S1x1024, .f32⟩
  | .hbm, ⟨9, _⟩ => ⟨S1024x5632, .bf16⟩
  | .hbm, ⟨10, _⟩ => ⟨S3x5632, .f32⟩
  | .hbm, ⟨11, _⟩ => ⟨S2816x1024, .bf16⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S8x768, .f32⟩
  | .local _ .vmem, ⟨5, _⟩ => ⟨S8x768, .f32⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S3x256, .f32⟩
  | .local _ .vmem, ⟨11, _⟩ => ⟨S256x1024, .bf16⟩
  | .local _ .vmem, ⟨12, _⟩ => ⟨S512x1024, .bf16⟩
  | .local _ .vmem, ⟨13, _⟩ => ⟨S256x1024, .bf16⟩
  | .local _ .vmem, ⟨14, _⟩ => ⟨S1x1024, .f32⟩
  | .local _ .vmem, ⟨15, _⟩ => ⟨S1024x5632, .bf16⟩
  | .local _ .vmem, ⟨16, _⟩ => ⟨S3x5632, .f32⟩
  | .local _ .vmem, ⟨17, _⟩ => ⟨S2816x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x2816, .bf16⟩
  | .local _ .vmem, ⟨22, _⟩ => ⟨S8x5632, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnReferenceIdeal.lean ====
abbrev S32768x1024 : Shape := ⟨2, ![32768, 1024]⟩
abbrev S32768x768 : Shape := ⟨2, ![32768, 768]⟩
abbrev S32768x512 : Shape := ⟨2, ![32768, 512]⟩
abbrev S32768x256 : Shape := ⟨2, ![32768, 256]⟩
abbrev S3x256 : Shape := ⟨2, ![3, 256]⟩
abbrev S256x1024 : Shape := ⟨2, ![256, 1024]⟩
abbrev S512x1024 : Shape := ⟨2, ![512, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S4x8192x768 : Shape := ⟨3, ![4, 8192, 768]⟩
abbrev S4x8192x256 : Shape := ⟨3, ![4, 8192, 256]⟩
abbrev S_ : Shape := ⟨0, ![]⟩
abbrev S4x8194x256 : Shape := ⟨3, ![4, 8194, 256]⟩
abbrev S1x256 : Shape := ⟨2, ![1, 256]⟩
abbrev S256 : Shape := ⟨1, ![256]⟩
abbrev S1x1x256 : Shape := ⟨3, ![1, 1, 256]⟩
abbrev S1024x1024 : Shape := ⟨2, ![1024, 1024]⟩
abbrev S4x8192x1024 : Shape := ⟨3, ![4, 8192, 1024]⟩
abbrev S4x8192x512 : Shape := ⟨3, ![4, 8192, 512]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S5632 : Shape := ⟨1, ![5632]⟩
abbrev S1x1x5632 : Shape := ⟨3, ![1, 1, 5632]⟩
abbrev S4x8192x2816 : Shape := ⟨3, ![4, 8192, 2816]⟩

abbrev nBuf : Space → Nat
  | .hbm => 133
  | .vmem => 0
  | .smem => 0
  | _ => 0

abbrev hbmTy0_0 (i : Nat) : BufTy := match i % 128 with
  | 0 => ⟨S32768x1024, .f32⟩
  | 1 => ⟨S32768x768, .f32⟩
  | 2 => ⟨S32768x512, .bf16⟩
  | 3 => ⟨S32768x256, .bf16⟩
  | 4 => ⟨S3x256, .f32⟩
  | 5 => ⟨S256x1024, .bf16⟩
  | 6 => ⟨S512x1024, .bf16⟩
  | 7 => ⟨S256x1024, .bf16⟩
  | 8 => ⟨S1x1024, .f32⟩
  | 9 => ⟨S1024x5632, .bf16⟩
  | 10 => ⟨S3x5632, .f32⟩
  | 11 => ⟨S2816x1024, .bf16⟩
  | 12 => ⟨S1x1024, .f32⟩
  | 13 => ⟨S4x8192x768, .f32⟩
  | 14 => ⟨S4x8192x256, .f32⟩
  | 15 => ⟨S4x8192x256, .f32⟩
  | 16 => ⟨S4x8192x256, .f32⟩
  | 17 => ⟨S4x8192x256, .f32⟩
  | 18 => ⟨S_, .i32⟩
  | 19 => ⟨S_, .f32⟩
  | 20 => ⟨S4x8194x256, .f32⟩
  | 21 => ⟨S1x256, .f32⟩
  | 22 => ⟨S256, .f32⟩
  | 23 => ⟨S4x8192x256, .f32⟩
  | 24 => ⟨S1x1x256, .f32⟩
  | 25 => ⟨S4x8192x256, .f32⟩
  | 26 => ⟨S4x8192x256, .f32⟩
  | 27 => ⟨S_, .f32⟩
  | 28 => ⟨S4x8192x256, .f32⟩
  | 29 => ⟨S4x8192x256, .f32⟩
  | 30 => ⟨S1x256, .f32⟩
  | 31 => ⟨S256, .f32⟩
  | 32 => ⟨S4x8192x256, .f32⟩
  | 33 => ⟨S1x1x256, .f32⟩
  | 34 => ⟨S4x8192x256, .f32⟩
  | 35 => ⟨S4x8192x256, .f32⟩
  | 36 => ⟨S4x8192x256, .f32⟩
  | 37 => ⟨S1x256, .f32⟩
  | 38 => ⟨S256, .f32⟩
  | 39 => ⟨S4x8192x256, .f32⟩
  | 40 => ⟨S1x1x256, .f32⟩
  | 41 => ⟨S4x8192x256, .f32⟩
  | 42 => ⟨S4x8192x256, .f32⟩
  | 43 => ⟨S4x8192x256, .f32⟩
  | 44 => ⟨S4x8192x256, .f32⟩
  | 45 => ⟨S1024x1024, .bf16⟩
  | 46 => ⟨S1024x1024, .f32⟩
  | 47 => ⟨S4x8192x1024, .f32⟩
  | 48 => ⟨S32768x512, .f32⟩
  | 49 => ⟨S4x8192x512, .f32⟩
  | 50 => ⟨S32768x256, .f32⟩
  | 51 => ⟨S4x8192x256, .f32⟩
  | 52 => ⟨S4x8192x1024, .f32⟩
  | 53 => ⟨S4x8192x1024, .f32⟩
  | 54 => ⟨S4x8192x1024, .f32⟩
  | 55 => ⟨S1024, .f32⟩
  | 56 => ⟨S4x8192x1024, .f32⟩
  | 57 => ⟨S_, .f32⟩
  | 58 => ⟨S4x8192, .f32⟩
  | 59 => ⟨S4x8192x1, .f32⟩
  | 60 => ⟨S_, .f32⟩
  | 61 => ⟨S4x8192x1, .f32⟩
  | 62 => ⟨S4x8192x1, .f32⟩
  | 63 => ⟨S_, .f32⟩
  | 64 => ⟨S4x8192x1, .f32⟩
  | 65 => ⟨S4x8192x1, .f32⟩
  | 66 => ⟨S4x8192x1, .f32⟩
  | 67 => ⟨S4x8192x1024, .f32⟩
  | 68 => ⟨S4x8192x1024, .f32⟩
  | 69 => ⟨S1x1x1024, .f32⟩
  | 70 => ⟨S4x8192x1024, .f32⟩
  | 71 => ⟨S4x8192x1024, .f32⟩
  | 72 => ⟨S1024x5632, .f32⟩
  | 73 => ⟨S4x8192x5632, .f32⟩
  | 74 => ⟨S_, .i32⟩
  | 75 => ⟨S_, .f32⟩
  | 76 => ⟨S4x8194x5632, .f32⟩
  | 77 => ⟨S1x5632, .f32⟩
  | 78 => ⟨S5632, .f32⟩
  | 79 => ⟨S4x8192x5632, .f32⟩
  | 80 => ⟨S1x1x5632, .f32⟩
  | 81 => ⟨S4x8192x5632, .f32⟩
  | 82 => ⟨S4x8192x5632, .f32⟩
  | 83 => ⟨S_, .f32⟩
  | 84 => ⟨S4x8192x5632, .f32⟩
  | 85 => ⟨S4x8192x5632, .f32⟩
  | 86 => ⟨S1x5632, .f32⟩
  | 87 => ⟨S5632, .f32⟩
  | 88 => ⟨S4x8192x5632, .f32⟩
  | 89 => ⟨S1x1x5632, .f32⟩
  | 90 => ⟨S4x8192x5632, .f32⟩
  | 91 => ⟨S4x8192x5632, .f32⟩
  | 92 => ⟨S4x8192x5632, .f32⟩
  | 93 => ⟨S1x5632, .f32⟩
  | 94 => ⟨S5632, .f32⟩
  | 95 => ⟨S4x8192x5632, .f32⟩
  | 96 => ⟨S1x1x5632, .f32⟩
  | 97 => ⟨S4x8192x5632, .f32⟩
  | 98 => ⟨S4x8192x5632, .f32⟩
  | 99 => ⟨S4x8192x5632, .f32⟩
  | 100 => ⟨S4x8192x2816, .f32⟩
  | 101 => ⟨S4x8192x2816, .f32⟩
  | 102 => ⟨S4x8192x2816, .f32⟩
  | 103 => ⟨S4x8192x2816, .f32⟩
  | 104 => ⟨S_, .f32⟩
  | 105 => ⟨S4x8192x2816, .f32⟩
  | 106 => ⟨S4x8192x2816, .f32⟩
  | 107 => ⟨S_, .f32⟩
  | 108 => ⟨S4x8192x2816, .f32⟩
  | 109 => ⟨S4x8192x2816, .f32⟩
  | 110 => ⟨S4x8192x2816, .f32⟩
  | 111 => ⟨S4x8192x2816, .f32⟩
  | 112 => ⟨S2816x1024, .f32⟩
  | 113 => ⟨S4x8192x1024, .f32⟩
  | 114 => ⟨S4x8192x1024, .f32⟩
  | 115 => ⟨S1024, .f32⟩
  | 116 => ⟨S4x8192x1024, .f32⟩
  | 117 => ⟨S_, .f32⟩
  | 118 => ⟨S4x8192, .f32⟩
  | 119 => ⟨S4x8192x1, .f32⟩
  | 120 => ⟨S_, .f32⟩
  | 121 => ⟨S4x8192x1, .f32⟩
  | 122 => ⟨S4x8192x1, .f32⟩
  | 123 => ⟨S_, .f32⟩
  | 124 => ⟨S4x8192x1, .f32⟩
  | 125 => ⟨S4x8192x1, .f32⟩
  | 126 => ⟨S4x8192x1, .f32⟩
  | 127 => ⟨S4x8192x1024, .f32⟩
  | _ => ⟨S32768x1024, .f32⟩

abbrev hbmTy0_1 (i : Nat) : BufTy := match i % 128 with
  | 0 => ⟨S4x8192x1024, .f32⟩
  | 1 => ⟨S1x1x1024, .f32⟩
  | 2 => ⟨S4x8192x1024, .f32⟩
  | 3 => ⟨S4x8192x1024, .f32⟩
  | 4 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_0 : Ref sig .tc := ⟨.hbm, 57, rfl⟩
abbrev main_v41 : Ref sig .tc := ⟨.hbm, 58, rfl⟩
abbrev main_v42 : Ref sig .tc := ⟨.hbm, 59, rfl⟩
abbrev main_cst_1 : Ref sig .tc := ⟨.hbm, 60, rfl⟩
abbrev main_v43 : Ref sig .tc := ⟨.hbm, 61, rfl⟩
abbrev main_v44 : Ref sig .tc := ⟨.hbm, 62, rfl⟩
abbrev main_cst_2 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_3 : Ref sig .tc := ⟨.hbm, 74, rfl⟩
abbrev main_call1_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_4 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_call2_v0 : Ref sig .tc := ⟨.hbm, 102, rfl⟩
abbrev main_call2_v1 : Ref sig .tc := ⟨.hbm, 103, rfl⟩
abbrev main_call2_cst : Ref sig .tc := ⟨.hbm, 104, rfl⟩
abbrev main_call2_v2 : Ref sig .tc := ⟨.hbm, 105, rfl⟩
abbrev main_call2_v3 : Ref sig .tc := ⟨.hbm, 106, rfl⟩
abbrev main_call2_cst_0 : Ref sig .tc := ⟨.hbm, 107, rfl⟩
abbrev main_call2_v4 : Ref sig .tc := ⟨.hbm, 108, rfl⟩
abbrev main_call2_v5 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_5 : Ref sig .tc := ⟨.hbm, 117, rfl⟩
abbrev main_v87 : Ref sig .tc := ⟨.hbm, 118, rfl⟩
abbrev main_v88 : Ref sig .tc := ⟨.hbm, 119, rfl⟩
abbrev main_cst_6 : Ref sig .tc := ⟨.hbm, 120, rfl⟩
abbrev main_v89 : Ref sig .tc := ⟨.hbm, 121, rfl⟩
abbrev main_v90 : Ref sig .tc := ⟨.hbm, 122, rfl⟩
abbrev main_cst_7 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]
-- ==== Mid.lean ====
abbrev S32768x1024 : Shape := ⟨2, ![32768, 1024]⟩
abbrev S32768x768 : Shape := ⟨2, ![32768, 768]⟩
abbrev S32768x512 : Shape := ⟨2, ![32768, 512]⟩
abbrev S32768x256 : Shape := ⟨2, ![32768, 256]⟩
abbrev S3x256 : Shape := ⟨2, ![3, 256]⟩
abbrev S256x1024 : Shape := ⟨2, ![256, 1024]⟩
abbrev S512x1024 : Shape := ⟨2, ![512, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S512x768 : Shape := ⟨2, ![512, 768]⟩
abbrev S8x768 : Shape := ⟨2, ![8, 768]⟩
abbrev S512x512 : Shape := ⟨2, ![512, 512]⟩
abbrev S512x256 : Shape := ⟨2, ![512, 256]⟩
abbrev S512x2816 : Shape := ⟨2, ![512, 2816]⟩
abbrev S8x5632 : Shape := ⟨2, ![8, 5632]⟩
abbrev S8x256 : Shape := ⟨2, ![8, 256]⟩
abbrev S520x256 : Shape := ⟨2, ![520, 256]⟩
abbrev S1x256 : Shape := ⟨2, ![1, 256]⟩
abbrev S512 : Shape := ⟨1, ![512]⟩
abbrev S512x1 : Shape := ⟨2, ![512, 1]⟩
abbrev S1024x256 : Shape := ⟨2, ![1024, 256]⟩

abbrev nBuf : Space → Nat
  | .hbm => 14
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x768, .f32⟩
  | .hbm, ⟨2, _⟩ => ⟨S32768x512, .bf16⟩
  | .hbm, ⟨3, _⟩ => ⟨S32768x256, .bf16⟩
  | .hbm, ⟨4, _⟩ => ⟨S3x256, .f32⟩
  | .hbm, ⟨5, _⟩ => ⟨S256x1024, .bf16⟩
  | .hbm, ⟨6, _⟩ => ⟨S512x1024, .bf16⟩
  | .hbm, ⟨7, _⟩ => ⟨S256x1024, .bf16⟩
  | .hbm, ⟨8, _⟩ => ⟨S1x1024, .f32⟩
  | .hbm, ⟨9, _⟩ => ⟨S1024x5632, .bf16⟩
  | .hbm, ⟨10, _⟩ => ⟨S3x5632, .f32⟩
  | .hbm, ⟨11, _⟩ => ⟨S2816x1024, .bf16⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S8x768, .f32⟩
  | .local _ .vmem, ⟨5, _⟩ => ⟨S8x768, .f32⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S3x256, .f32⟩
  | .local _ .vmem, ⟨11, _⟩ => ⟨S256x1024, .bf16⟩
  | .local _ .vmem, ⟨12, _⟩ => ⟨S512x1024, .bf16⟩
  | .local _ .vmem, ⟨13, _⟩ => ⟨S256x1024, .bf16⟩
  | .local _ .vmem, ⟨14, _⟩ => ⟨S1x1024, .f32⟩
  | .local _ .vmem, ⟨15, _⟩ => ⟨S1024x5632, .bf16⟩
  | .local _ .vmem, ⟨16, _⟩ => ⟨S3x5632, .f32⟩
  | .local _ .vmem, ⟨17, _⟩ => ⟨S2816x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x2816, .bf16⟩
  | .local _ .vmem, ⟨22, _⟩ => ⟨S8x5632, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MidReferenceIdeal.lean ====
abbrev S32768x1024 : Shape := ⟨2, ![32768, 1024]⟩
abbrev S32768x768 : Shape := ⟨2, ![32768, 768]⟩
abbrev S32768x512 : Shape := ⟨2, ![32768, 512]⟩
abbrev S32768x256 : Shape := ⟨2, ![32768, 256]⟩
abbrev S3x256 : Shape := ⟨2, ![3, 256]⟩
abbrev S256x1024 : Shape := ⟨2, ![256, 1024]⟩
abbrev S512x1024 : Shape := ⟨2, ![512, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S4x8192x768 : Shape := ⟨3, ![4, 8192, 768]⟩
abbrev S4x8192x256 : Shape := ⟨3, ![4, 8192, 256]⟩
abbrev S_ : Shape := ⟨0, ![]⟩
abbrev S4x8194x256 : Shape := ⟨3, ![4, 8194, 256]⟩
abbrev S1x256 : Shape := ⟨2, ![1, 256]⟩
abbrev S256 : Shape := ⟨1, ![256]⟩
abbrev S1x1x256 : Shape := ⟨3, ![1, 1, 256]⟩
abbrev S1024x1024 : Shape := ⟨2, ![1024, 1024]⟩
abbrev S4x8192x1024 : Shape := ⟨3, ![4, 8192, 1024]⟩
abbrev S4x8192x512 : Shape := ⟨3, ![4, 8192, 512]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S5632 : Shape := ⟨1, ![5632]⟩
abbrev S1x1x5632 : Shape := ⟨3, ![1, 1, 5632]⟩
abbrev S4x8192x2816 : Shape := ⟨3, ![4, 8192, 2816]⟩

abbrev nBuf : Space → Nat
  | .hbm => 116
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x768, .f32⟩
  | .hbm, ⟨2, _⟩ => ⟨S32768x512, .bf16⟩
  | .hbm, ⟨3, _⟩ => ⟨S32768x256, .bf16⟩
  | .hbm, ⟨4, _⟩ => ⟨S3x256, .f32⟩
  | .hbm, ⟨5, _⟩ => ⟨S256x1024, .bf16⟩
  | .hbm, ⟨6, _⟩ => ⟨S512x1024, .bf16⟩
  | .hbm, ⟨7, _⟩ => ⟨S256x1024, .bf16⟩
  | .hbm, ⟨8, _⟩ => ⟨S1x1024, .f32⟩
  | .hbm, ⟨9, _⟩ => ⟨S1024x5632, .bf16⟩
  | .hbm, ⟨10, _⟩ => ⟨S3x5632, .f32⟩
  | .hbm, ⟨11, _⟩ => ⟨S2816x1024, .bf16⟩
  | .hbm, ⟨12, _⟩ => ⟨S1x1024, .f32⟩
  | .hbm, ⟨13, _⟩ => ⟨S4x8192x768, .f32⟩
  | .hbm, ⟨14, _⟩ => ⟨S4x8192x256, .f32⟩
  | .hbm, ⟨15, _⟩ => ⟨S4x8192x256, .f32⟩
  | .hbm, ⟨16, _⟩ => ⟨S4x8192x256, .f32⟩
  | .hbm, ⟨17, _⟩ => ⟨S4x8192x256, .f32⟩
  | .hbm, ⟨18, _⟩ => ⟨S_, .i32⟩
  | .hbm, ⟨19, _⟩ => ⟨S_, .f32⟩
  | .hbm, ⟨20, _⟩ => ⟨S4x8194x256, .f32⟩
  | .hbm, ⟨21, _⟩ => ⟨S1x256, .f32⟩
  | .hbm, ⟨22, _⟩ => ⟨S256, .f32⟩
  | .hbm, ⟨23, _⟩ => ⟨S4x8192x256, .f32⟩
  | .hbm, ⟨24, _⟩ => ⟨S1x1x256, .f32⟩
  | .hbm, ⟨25, _⟩ => ⟨S4x8192x256, .f32⟩
  | .hbm, ⟨26, _⟩ => ⟨S4x8192x256, .f32⟩
  | .hbm, ⟨27, _⟩ => ⟨S_, .f32⟩
  | .hbm, ⟨28, _⟩ => ⟨S4x8192x256, .f32⟩
  | .hbm, ⟨29, _⟩ => ⟨S4x8192x256, .f32⟩
  | .hbm, ⟨30, _⟩ => ⟨S1x256, .f32⟩
  | .hbm, ⟨31, _⟩ => ⟨S256, .f32⟩
  | .hbm, ⟨32, _⟩ => ⟨S4x8192x256, .f32⟩
  | .hbm, ⟨33, _⟩ => ⟨S1x1x256, .f32⟩
  | .hbm, ⟨34, _⟩ => ⟨S4x8192x256, .f32⟩
  | .hbm, ⟨35, _⟩ => ⟨S4x8192x256, .f32⟩
  | .hbm, ⟨36, _⟩ => ⟨S4x8192x256, .f32⟩
  | .hbm, ⟨37, _⟩ => ⟨S1x256, .f32⟩
  | .hbm, ⟨38, _⟩ => ⟨S256, .f32⟩
  | .hbm, ⟨39, _⟩ => ⟨S4x8192x256, .f32⟩
  | .hbm, ⟨40, _⟩ => ⟨S1x1x256, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S4x8192x256, .f32⟩
  | .hbm, ⟨45, _⟩ => ⟨S1024x1024, .bf16⟩
  | .hbm, ⟨46, _⟩ => ⟨S1024x1024, .f32⟩
  | .hbm, ⟨47, _⟩ => ⟨S4x8192x1024, .f32⟩
  | .hbm, ⟨48, _⟩ => ⟨S32768x512, .f32⟩
  | .hbm, ⟨49, _⟩ => ⟨S4x8192x512, .f32⟩
  | .hbm, ⟨50, _⟩ => ⟨S32768x256, .f32⟩
  | .hbm, ⟨51, _⟩ => ⟨S4x8192x256, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S1024, .f32⟩
  | .hbm, ⟨56, _⟩ => ⟨S4x8192x1024, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S_, .f32⟩
  | .hbm, ⟨64, _⟩ => ⟨S4x8192x1, .f32⟩
  | .hbm, ⟨65, _⟩ => ⟨S4x8192x1, .f32⟩
  | .hbm, ⟨66, _⟩ => ⟨S4x8192x1, .f32⟩
  | .hbm, ⟨67, _⟩ => ⟨S4x8192x1024, .f32⟩
  | .hbm, ⟨68, _⟩ => ⟨S4x8192x1024, .f32⟩
  | .hbm, ⟨69, _⟩ => ⟨S1x1x1024, .f32⟩
  | .hbm, ⟨70, _⟩ => ⟨S4x8192x1024, .f32⟩
  | .hbm, ⟨71, _⟩ => ⟨S4x8192x1024, .f32⟩
  | .hbm, ⟨72, _⟩ => ⟨S1024x5632, .f32⟩
  | .hbm, ⟨73, _⟩ => ⟨S4x8192x5632, .f32⟩
  | .hbm, ⟨74, _⟩ => ⟨S_, .i32⟩
  | .hbm, ⟨75, _⟩ => ⟨S_, .f32⟩
  | .hbm, ⟨76, _⟩ => ⟨S4x8194x5632, .f32⟩
  | .hbm, ⟨77, _⟩ => ⟨S1x5632, .f32⟩
  | .hbm, ⟨78, _⟩ => ⟨S5632, .f32⟩
  | .hbm, ⟨79, _⟩ => ⟨S4x8192x5632, .f32⟩
  | .hbm, ⟨80, _⟩ => ⟨S1x1x5632, .f32⟩
  | .hbm, ⟨81, _⟩ => ⟨S4x8192x5632, .f32⟩
  | .hbm, ⟨82, _⟩ => ⟨S4x8192x5632, .f32⟩
  | .hbm, ⟨83, _⟩ => ⟨S_, .f32⟩
  | .hbm, ⟨84, _⟩ => ⟨S4x8192x5632, .f32⟩
  | .hbm, ⟨85, _⟩ => ⟨S4x8192x5632, .f32⟩
  | .hbm, ⟨86, _⟩ => ⟨S1x5632, .f32⟩
  | .hbm, ⟨87, _⟩ => ⟨S5632, .f32⟩
  | .hbm, ⟨88, _⟩ => ⟨S4x8192x5632, .f32⟩
  | .hbm, ⟨89, _⟩ => ⟨S1x1x5632, .f32⟩
  | .hbm, ⟨90, _⟩ => ⟨S4x8192x5632, .f32⟩
  | .hbm, ⟨91, _⟩ => ⟨S4x8192x5632, .f32⟩
  | .hbm, ⟨92, _⟩ => ⟨S4x8192x5632, .f32⟩
  | .hbm, ⟨93, _⟩ => ⟨S1x5632, .f32⟩
  | .hbm, ⟨94, _⟩ => ⟨S5632, .f32⟩
  | .hbm, ⟨95, _⟩ => ⟨S4x8192x5632, .f32⟩
  | .hbm, ⟨96, _⟩ => ⟨S1x1x5632, .f32⟩
  | .hbm, ⟨97, _⟩ => ⟨S4x8192x5632, .f32⟩
  | .hbm, ⟨98, _⟩ => ⟨S4x8192x5632, .f32⟩
  | .hbm, ⟨99, _⟩ => ⟨S4x8192x5632, .f32⟩
  | .hbm, ⟨100, _⟩ => ⟨S4x8192x2816, .f32⟩
  | .hbm, ⟨101, _⟩ => ⟨S4x8192x2816, .f32⟩
  | .hbm, ⟨102, _⟩ => ⟨S4x8192x2816, .f32⟩
  | .hbm, ⟨103, _⟩ => ⟨S4x8192x2816, .f32⟩
  | .hbm, ⟨104, _⟩ => ⟨S_, .f32⟩
  | .hbm, ⟨105, _⟩ => ⟨S4x8192x2816, .f32⟩
  | .hbm, ⟨106, _⟩ => ⟨S4x8192x2816, .f32⟩
  | .hbm, ⟨107, _⟩ => ⟨S_, .f32⟩
  | .hbm, ⟨108, _⟩ => ⟨S4x8192x2816, .f32⟩
  | .hbm, ⟨109, _⟩ => ⟨S4x8192x2816, .f32⟩
  | .hbm, ⟨110, _⟩ => ⟨S4x8192x2816, .f32⟩
  | .hbm, ⟨111, _⟩ => ⟨S4x8192x2816, .f32⟩
  | .hbm, ⟨112, _⟩ => ⟨S2816x1024, .f32⟩
  | .hbm, ⟨113, _⟩ => ⟨S4x8192x1024, .f32⟩
  | .hbm, ⟨114, _⟩ => ⟨S4x8192x1024, .f32⟩
  | .hbm, ⟨115, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_0 : Ref sig .tc := ⟨.hbm, 57, rfl⟩
abbrev main_v41 : Ref sig .tc := ⟨.hbm, 58, rfl⟩
abbrev main_v42 : Ref sig .tc := ⟨.hbm, 59, rfl⟩
abbrev main_cst_1 : Ref sig .tc := ⟨.hbm, 60, rfl⟩
abbrev main_v43 : Ref sig .tc := ⟨.hbm, 61, rfl⟩
abbrev main_v44 : Ref sig .tc := ⟨.hbm, 62, rfl⟩
abbrev main_cst_2 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_3 : Ref sig .tc := ⟨.hbm, 74, rfl⟩
abbrev main_call1_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_4 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_call2_v0 : Ref sig .tc := ⟨.hbm, 102, rfl⟩
abbrev main_call2_v1 : Ref sig .tc := ⟨.hbm, 103, rfl⟩
abbrev main_call2_cst : Ref sig .tc := ⟨.hbm, 104, rfl⟩
abbrev main_call2_v2 : Ref sig .tc := ⟨.hbm, 105, rfl⟩
abbrev main_call2_v3 : Ref sig .tc := ⟨.hbm, 106, rfl⟩
abbrev main_call2_cst_0 : Ref sig .tc := ⟨.hbm, 107, rfl⟩
abbrev main_call2_v4 : Ref sig .tc := ⟨.hbm, 108, rfl⟩
abbrev main_call2_v5 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]
-- ==== Inproj.lean ====
abbrev S32768x1024 : Shape := ⟨2, ![32768, 1024]⟩
abbrev S1x1024 : Shape := ⟨2, ![1, 1024]⟩
abbrev S1024x768 : Shape := ⟨2, ![1024, 768]⟩
abbrev S1024x2048 : Shape := ⟨2, ![1024, 2048]⟩
abbrev S1024x128 : Shape := ⟨2, ![1024, 128]⟩
abbrev S4x1536 : Shape := ⟨2, ![4, 1536]⟩
abbrev S32768x768 : Shape := ⟨2, ![32768, 768]⟩
abbrev S32768x2048 : Shape := ⟨2, ![32768, 2048]⟩
abbrev S32768x128 : Shape := ⟨2, ![32768, 128]⟩
abbrev S1024x1024 : Shape := ⟨2, ![1024, 1024]⟩
abbrev S8x1536 : Shape := ⟨2, ![8, 1536]⟩
abbrev S1024 : Shape := ⟨1, ![1024]⟩
abbrev S1024x1 : Shape := ⟨2, ![1024, 1]⟩
abbrev S1024x512 : Shape := ⟨2, ![1024, 512]⟩
abbrev S8x128 : Shape := ⟨2, ![8, 128]⟩
abbrev S1032x128 : Shape := ⟨2, ![1032, 128]⟩
abbrev S1x128 : Shape := ⟨2, ![1, 128]⟩

abbrev nBuf : Space → Nat
  | .hbm => 11
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x768, .bf16⟩
  | .hbm, ⟨3, _⟩ => ⟨S1024x2048, .bf16⟩
  | .hbm, ⟨4, _⟩ => ⟨S1024x768, .bf16⟩
  | .hbm, ⟨5, _⟩ => ⟨S1024x128, .bf16⟩
  | .hbm, ⟨6, _⟩ => ⟨S4x1536, .f32⟩
  | .hbm, ⟨7, _⟩ => ⟨S32768x768, .f32⟩
  | .hbm, ⟨8, _⟩ => ⟨S32768x2048, .f32⟩
  | .hbm, ⟨9, _⟩ => ⟨S32768x768, .bf16⟩
  | .hbm, ⟨10, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x2048, .bf16⟩
  | .local _ .vmem, ⟨5, _⟩ => ⟨S1024x768, .bf16⟩
  | .local _ .vmem, ⟨6, _⟩ => ⟨S1024x128, .bf16⟩
  | .local _ .vmem, ⟨7, _⟩ => ⟨S4x1536, .f32⟩
  | .local _ .vmem, ⟨8, _⟩ => ⟨S1024x768, .f32⟩
  | .local _ .vmem, ⟨9, _⟩ => ⟨S1024x768, .f32⟩
  | .local _ .vmem, ⟨10, _⟩ => ⟨S1024x2048, .f32⟩
  | .local _ .vmem, ⟨11, _⟩ => ⟨S1024x2048, .f32⟩
  | .local _ .vmem, ⟨12, _⟩ => ⟨S1024x768, .bf16⟩
  | .local _ .vmem, ⟨13, _⟩ => ⟨S1024x768, .bf16⟩
  | .local _ .vmem, ⟨14, _⟩ => ⟨S1024x128, .f32⟩
  | .local _ .vmem, ⟨15, _⟩ => ⟨S1024x128, .f32⟩
  | .local _ .vmem, ⟨16, _⟩ => ⟨S8x1536, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojReferenceIdeal.lean ====
abbrev S32768x1024 : Shape := ⟨2, ![32768, 1024]⟩
abbrev S1x1024 : Shape := ⟨2, ![1, 1024]⟩
abbrev S1024x768 : Shape := ⟨2, ![1024, 768]⟩
abbrev S1024x2048 : Shape := ⟨2, ![1024, 2048]⟩
abbrev S1024x128 : Shape := ⟨2, ![1024, 128]⟩
abbrev S4x1536 : Shape := ⟨2, ![4, 1536]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x768 : Shape := ⟨3, ![4, 8192, 768]⟩
abbrev S4x8192x2048 : Shape := ⟨3, ![4, 8192, 2048]⟩
abbrev S4x8192x128 : Shape := ⟨3, ![4, 8192, 128]⟩
abbrev S4x8192x512 : Shape := ⟨3, ![4, 8192, 512]⟩
abbrev S4x8192x1536 : Shape := ⟨3, ![4, 8192, 1536]⟩
abbrev S4x8195x1536 : Shape := ⟨3, ![4, 8195, 1536]⟩
abbrev S1x1536 : Shape := ⟨2, ![1, 1536]⟩
abbrev S1536 : Shape := ⟨1, ![1536]⟩
abbrev S1x1x1536 : Shape := ⟨3, ![1, 1, 1536]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S32768x768 : Shape := ⟨2, ![32768, 768]⟩
abbrev S32768x2048 : Shape := ⟨2, ![32768, 2048]⟩
abbrev S32768x128 : Shape := ⟨2, ![32768, 128]⟩

abbrev nBuf : Space → Nat
  | .hbm => 116
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x768, .bf16⟩
  | .hbm, ⟨3, _⟩ => ⟨S1024x2048, .bf16⟩
  | .hbm, ⟨4, _⟩ => ⟨S1024x768, .bf16⟩
  | .hbm, ⟨5, _⟩ => ⟨S1024x128, .bf16⟩
  | .hbm, ⟨6, _⟩ => ⟨S4x1536, .f32⟩
  | .hbm, ⟨7, _⟩ => ⟨S4x8192x1024, .f32⟩
  | .hbm, ⟨8, _⟩ => ⟨S1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S1024x768, .f32⟩
  | .hbm, ⟨26, _⟩ => ⟨S4x8192x768, .f32⟩
  | .hbm, ⟨27, _⟩ => ⟨S1024x2048, .f32⟩
  | .hbm, ⟨28, _⟩ => ⟨S4x8192x2048, .f32⟩
  | .hbm, ⟨29, _⟩ => ⟨S1024x768, .f32⟩
  | .hbm, ⟨30, _⟩ => ⟨S4x8192x768, .f32⟩
  | .hbm, ⟨31, _⟩ => ⟨S1024x128, .f32⟩
  | .hbm, ⟨32, _⟩ => ⟨S4x8192x128, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x512, .f32⟩
  | .hbm, ⟨37, _⟩ => ⟨S4x8192x1536, .f32⟩
  | .hbm, ⟨38, _⟩ => ⟨S_, .i32⟩
  | .hbm, ⟨39, _⟩ => ⟨S_, .f32⟩
  | .hbm, ⟨40, _⟩ => ⟨S4x8195x1536, .f32⟩
  | .hbm, ⟨41, _⟩ => ⟨S1x1536, .f32⟩
  | .hbm, ⟨42, _⟩ => ⟨S1536, .f32⟩
  | .hbm, ⟨43, _⟩ => ⟨S4x8192x1536, .f32⟩
  | .hbm, ⟨44, _⟩ => ⟨S1x1x1536, .f32⟩
  | .hbm, ⟨45, _⟩ => ⟨S4x8192x1536, .f32⟩
  | .hbm, ⟨46, _⟩ => ⟨S4x8192x1536, .f32⟩
  | .hbm, ⟨47, _⟩ => ⟨S_, .f32⟩
  | .hbm, ⟨48, _⟩ => ⟨S4x8192x1536, .f32⟩
  | .hbm, ⟨49, _⟩ => ⟨S4x8192x1536, .f32⟩
  | .hbm, ⟨50, _⟩ => ⟨S1x1536, .f32⟩
  | .hbm, ⟨51, _⟩ => ⟨S1536, .f32⟩
  | .hbm, ⟨52, _⟩ => ⟨S4x8192x1536, .f32⟩
  | .hbm, ⟨53, _⟩ => ⟨S1x1x1536, .f32⟩
  | .hbm, ⟨54, _⟩ => ⟨S4x8192x1536, .f32⟩
  | .hbm, ⟨55, _⟩ => ⟨S4x8192x1536, .f32⟩
  | .hbm, ⟨56, _⟩ => ⟨S4x8192x1536, .f32⟩
  | .hbm, ⟨57, _⟩ => ⟨S1x1536, .f32⟩
  | .hbm, ⟨58, _⟩ => ⟨S1536, .f32⟩
  | .hbm, ⟨59, _⟩ => ⟨S4x8192x1536, .f32⟩
  | .hbm, ⟨60, _⟩ => ⟨S1x1x1536, .f32⟩
  | .hbm, ⟨61, _⟩ => ⟨S4x8192x1536, .f32⟩
  | .hbm, ⟨62, _⟩ => ⟨S4x8192x1536, .f32⟩
  | .hbm, ⟨63, _⟩ => ⟨S4x8192x1536, .f32⟩
  | .hbm, ⟨64, _⟩ => ⟨S1x1536, .f32⟩
  | .hbm, ⟨65, _⟩ => ⟨S1536, .f32⟩
  | .hbm, ⟨66, _⟩ => ⟨S4x8192x1536, .f32⟩
  | .hbm, ⟨67, _⟩ => ⟨S1x1x1536, .f32⟩
  | .hbm, ⟨68, _⟩ => ⟨S4x8192x1536, .f32⟩
  | .hbm, ⟨69, _⟩ => ⟨S4x8192x1536, .f32⟩
  | .hbm, ⟨70, _⟩ => ⟨S4x8192x1536, .f32⟩
  | .hbm, ⟨71, _⟩ => ⟨S4x8192x1536, .f32⟩
  | .hbm, ⟨72, _⟩ => ⟨S4x8192x1536, .f32⟩
  | .hbm, ⟨73, _⟩ => ⟨S_, .f32⟩
  | .hbm, ⟨74, _⟩ => ⟨S4x8192x1536, .f32⟩
  | .hbm, ⟨75, _⟩ => ⟨S4x8192x1536, .f32⟩
  | .hbm, ⟨76, _⟩ => ⟨S_, .f32⟩
  | .hbm, ⟨77, _⟩ => ⟨S4x8192x1536, .f32⟩
  | .hbm, ⟨78, _⟩ => ⟨S4x8192x1536, .f32⟩
  | .hbm, ⟨79, _⟩ => ⟨S4x8192x1536, .f32⟩
  | .hbm, ⟨80, _⟩ => ⟨S4x8192x512, .f32⟩
  | .hbm, ⟨81, _⟩ => ⟨S4x8192x512, .f32⟩
  | .hbm, ⟨82, _⟩ => ⟨S4x8192x512, .f32⟩
  | .hbm, ⟨83, _⟩ => ⟨S4x8192x4x128, .f32⟩
  | .hbm, ⟨84, _⟩ => ⟨S4x8192x4x128, .f32⟩
  | .hbm, ⟨85, _⟩ => ⟨S_, .f32⟩
  | .hbm, ⟨86, _⟩ => ⟨S4x8192x4, .f32⟩
  | .hbm, ⟨87, _⟩ => ⟨S4x8192x4x1, .f32⟩
  | .hbm, ⟨88, _⟩ => ⟨S_, .f32⟩
  | .hbm, ⟨89, _⟩ => ⟨S4x8192x4x1, .f32⟩
  | .hbm, ⟨90, _⟩ => ⟨S4x8192x4x1, .f32⟩
  | .hbm, ⟨91, _⟩ => ⟨S4x8192x4x1, .f32⟩
  | .hbm, ⟨92, _⟩ => ⟨S4x8192x4x128, .f32⟩
  | .hbm, ⟨93, _⟩ => ⟨S4x8192x4x128, .f32⟩
  | .hbm, ⟨94, _⟩ => ⟨S_, .f32⟩
  | .hbm, ⟨95, _⟩ => ⟨S4x8192x4x128, .f32⟩
  | .hbm, ⟨96, _⟩ => ⟨S4x8192x4x128, .f32⟩
  | .hbm, ⟨97, _⟩ => ⟨S4x8192x4x128, .f32⟩
  | .hbm, ⟨98, _⟩ => ⟨S4x8192x4x128, .f32⟩
  | .hbm, ⟨99, _⟩ => ⟨S_, .f32⟩
  | .hbm, ⟨100, _⟩ => ⟨S4x8192x4, .f32⟩
  | .hbm, ⟨101, _⟩ => ⟨S4x8192x4x1, .f32⟩
  | .hbm, ⟨102, _⟩ => ⟨S_, .f32⟩
  | .hbm, ⟨103, _⟩ => ⟨S4x8192x4x1, .f32⟩
  | .hbm, ⟨104, _⟩ => ⟨S4x8192x4x1, .f32⟩
  | .hbm, ⟨105, _⟩ => ⟨S4x8192x4x1, .f32⟩
  | .hbm, ⟨106, _⟩ => ⟨S4x8192x4x128, .f32⟩
  | .hbm, ⟨107, _⟩ => ⟨S4x8192x4x128, .f32⟩
  | .hbm, ⟨108, _⟩ => ⟨S4x8192x512, .f32⟩
  | .hbm, ⟨109, _⟩ => ⟨S4x8192x512, .f32⟩
  | .hbm, ⟨110, _⟩ => ⟨S4x8192x2048, .f32⟩
  | .hbm, ⟨111, _⟩ => ⟨S32768x768, .f32⟩
  | .hbm, ⟨112, _⟩ => ⟨S32768x2048, .f32⟩
  | .hbm, ⟨113, _⟩ => ⟨S32768x768, .f32⟩
  | .hbm, ⟨114, _⟩ => ⟨S32768x768, .bf16⟩
  | .hbm, ⟨115, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_3 : Ref sig .tc := ⟨.hbm, 85, rfl⟩
abbrev main_v64 : Ref sig .tc := ⟨.hbm, 86, rfl⟩
abbrev main_v65 : Ref sig .tc := ⟨.hbm, 87, rfl⟩
abbrev main_cst_4 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_5 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_6 : Ref sig .tc := ⟨.hbm, 99, rfl⟩
abbrev main_v75 : Ref sig .tc := ⟨.hbm, 100, rfl⟩
abbrev main_v76 : Ref sig .tc := ⟨.hbm, 101, rfl⟩
abbrev main_cst_7 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]
-- ==== Proof.PI.While.lean ====
/-
  The sixteen backward walks of the stick-breaking body. Each `while` of the kernel is a label that calls itself; all
  sixteen have one shape, `wBody`: while the block number is not negative and the largest carry is above the skip
  threshold, read the block's keys and values, fold them into the carry and the accumulator, and go on one block
  earlier. `wRes` is what such a walk returns, and `label_le` says that every label of this shape meets the
  specification "hold the keys and the values, return `wRes`", by induction on the blocks still to visit.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.FrameBody
public import Idealize.ShloMosaic.Lib.Pipeline.ValueKit.Geometry
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The variants: the naturals, the blocks a walk has still to visit. -/
abbrev 𝒱₀ : Variants := Variants.nat

/-- What a walk carries: the block number, the carry and the accumulator. -/
abbrev Res (F : FTy → Type) : Type := BitVec 32 × FVec F S256x1 .f32 × FVec F S256x128 .f32

/-- The test before each block. -/
def go (j : BitVec 32) (c : FVec F S256x1 .f32) : BitVec 1 :=
  Scalar.andi (Scalar.cmpi .sge j 0#32) (Scalar.cmpf .ogt (k0_pay1 c) (Named.named κ "skip" 0xC2B00000#32))

/-- Rows `128 j … 128 j + 127` of a staged array (zeros at a block outside it, which no walk reads). -/
def blkAt (X : S8192x128.Idx → Elt F .bf16) (j : BitVec 32) : Vec F S128x128 .bf16 :=
  if h : k0_chk1 j then
    View.ld X (Rect.unit (s := S8192x128) (k0_off2 j) S128x128.size (k0_off2_inb j h))
  else constant S128x128 .bf16 0

/-- One label's body, its own call left open. -/
def wBody (call : BitVec 32 → FVec F S256x1 .f32 → FVec F S256x128 .f32 → Prog (TpuEff nD τ sig (Elt F) (Λ₀ F) .tc) (Res F))
    (arg4 arg5 : Memref sig .tc .vmem S8192x128 .bf16) (qq : FVec F S256x128 .bf16) (later : FVec F S128x128 .bf16)
    (j : BitVec 32) (c : FVec F S256x1 .f32) (a : FVec F S256x128 .f32) : Prog (TpuEff nD τ sig (Elt F) (Λ₀ F) .tc) (Res F) := do
  if go j c = 1#1 then do
    have hw : k0_chk1 j := (← Prog.lift (TpuEff.assume (k0_chk1 j) (k0_chk1.dec j))).down
    let kb : Vec F S128x128 .bf16 ← Prog.lift (.load arg4 (Rect.unit (s := S8192x128) (k0_off2 j) S128x128.size (k0_off2_inb j hw)).toLoadRect (View.loadsAt_vmem h_S128x128))
    let vb : Vec F S128x128 .bf16 ← Prog.lift (.load arg5 (Rect.unit (s := S8192x128) (k0_off2 j) S128x128.size (k0_off2_inb j hw)).toLoadRect (View.loadsAt_vmem h_S128x128))
    call (Scalar.subi j 1#32) (k0_pay5 qq c kb) (k0_pay4 qq later c a kb vb)
  else pure (j, c, a)

/-- What a walk with at most `n` blocks to visit returns, over the keys `Xk` and the values `Xv`. -/
def wRes (Xk Xv : S8192x128.Idx → Elt F .bf16) (qq : FVec F S256x128 .bf16) (later : FVec F S128x128 .bf16) :
    ℕ → BitVec 32 → FVec F S256x1 .f32 → FVec F S256x128 .f32 → Res F
  | 0, j, c, a => (j, c, a)
  | n + 1, j, c, a =>
    if go j c = 1#1 then
      wRes Xk Xv qq later n (Scalar.subi j 1#32) (k0_pay5 qq c (blkAt Xk j)) (k0_pay4 qq later c a (blkAt Xk j) (blkAt Xv j))
    else (j, c, a)

section Walk

variable (arg4 arg5 : Memref sig .tc .vmem S8192x128 .bf16)
  (fk : arg4.view.ref.ty.Contents (Elt F)) (fv : arg5.view.ref.ty.Contents (Elt F))
  (qq : FVec F S256x128 .bf16) (later : FVec F S128x128 .bf16)

variable (t : Dev nD)

/-- The keys and the values, held whole at their contents. -/
def held : sProp 𝕄 :=
  iprop((arg4.view.loc (t : Thread nD τ) ↦{fullShare} (fk : Buf (Elt F) (arg4.view.loc (t : Thread nD τ))))
    ∗ (arg5.view.loc (t : Thread nD τ) ↦{fullShare} (fv : Buf (Elt F) (arg5.view.loc (t : Thread nD τ)))))

/-- A walk's specification: hold the keys and the values, return `wRes` with them as they were. -/
def spec (n : ℕ) (j : BitVec 32) (c : FVec F S256x1 .f32) (a : FVec F S256x128 .f32) : sWPT 𝕄 (Res F) := do
  sWPT.consume (held arg4 arg5 fk fv t)
  sWPT.produce (held arg4 arg5 fk fv t)
  pure (wRes (arg4.view.read (Elt F) fk) (arg5.view.read (Elt F) fv) qq later n j c a)

theorem spec_apply (n : ℕ) (j : BitVec 32) (c : FVec F S256x1 .f32) (a : FVec F S256x128 .f32) (K : Res F → sProp 𝕄) :
    spec arg4 arg5 fk fv qq later t n j c a K
      = iprop(held arg4 arg5 fk fv t ∗ (held arg4 arg5 fk fv t -∗ K (wRes (arg4.view.read (Elt F) fk) (arg5.view.read (Elt F) fv) qq later n j c a))) := rfl

theorem sge_of_go {j : BitVec 32} {c : FVec F S256x1 .f32} (h : go j c = 1#1) : 0 ≤ j.toInt := by
  unfold go at h
  have h1 : Scalar.cmpi .sge j 0#32 = 1#1 := by
    revert h
    generalize Scalar.cmpi .sge j 0#32 = x
    generalize Scalar.cmpf .ogt (k0_pay1 c) (Named.named κ "skip" 0xC2B00000#32) = y
    revert x y; decide
  have h2 : (BitVec.sle 0#32 j) = true := by
    revert h1; show BitVec.ofBool (BitVec.sle 0#32 j) = 1#1 → _
    cases BitVec.sle 0#32 j <;> decide
  have h3 := BitVec.sle_iff_toInt_le.mp h2
  simpa using h3

theorem subi_toInt {j : BitVec 32} (h : 0 ≤ j.toInt) : (Scalar.subi j 1#32).toInt = j.toInt - 1 := by
  have e : Scalar.subi j 1#32 = j - 1#32 := rfl
  have hj := j.isLt
  rw [e, BitVec.toInt_sub]
  rw [BitVec.toInt_eq_toNat_cond] at h ⊢
  split at h <;> [skip; omega]
  rw [if_pos (by assumption)]
  rw [show (1#32 : BitVec 32).toInt = 1 from by decide]
  rw [Int.bmod_def]; split <;> omega

theorem chk_of {j : BitVec 32} (h : 0 ≤ j.toInt) (h' : j.toInt < 64) : k0_chk1 j := by
  have key : ∀ n : Fin 64, k0_chk1 (BitVec.ofNat 32 n.val) := by decide +kernel
  have hj := j.isLt
  have hn : j.toNat < 64 := by
    rw [BitVec.toInt_eq_toNat_cond] at h h'
    split at h <;> split at h' <;> omega
  have := key ⟨j.toNat, hn⟩
  simpa using this

/-- With no block left to visit a label's body returns what it carries. -/
theorem wBody_zero (call : BitVec 32 → FVec F S256x1 .f32 → FVec F S256x128 .f32 → Prog (TpuEff nD τ sig (Elt F) (Λ₀ F) .tc) (Res F))
    (E : Set ℕ) (bd : Option 𝒱₀.V) (j : BitVec 32) (c : FVec F S256x1 .f32) (a : FVec F S256x128 .f32) (hj : j.toInt < 0) (K : Res F → sProp 𝕄) :
    spec arg4 arg5 fk fv qq later t 0 j c a K
      ⊢ wp frame (wpE (defs₀ (F := F)) 𝒱₀ (t : Thread nD τ) bd) E (wBody call arg4 arg5 qq later j c a) K := by
  rw [spec_apply]
  unfold wBody
  have h : ¬ go j c = 1#1 := fun h => absurd (sge_of_go h) (by omega)
  simp only [h, ↓reduceIte, Prog.pure_eq_ret, wRes]
  iintro ⟨H, Hk⟩
  rw [wp_ret]; imodintro
  iapply Hk; iexact H

/-- With blocks left to visit a label's body reads one block and goes on through its call. -/
theorem wBody_succ (call : BitVec 32 → FVec F S256x1 .f32 → FVec F S256x128 .f32 → Prog (TpuEff nD τ sig (Elt F) (Λ₀ F) .tc) (Res F))
    (E : Set ℕ) (bd : Option 𝒱₀.V) (n : ℕ)
    (hcall : ∀ (j : BitVec 32) (c : FVec F S256x1 .f32) (a : FVec F S256x128 .f32), j.toInt < (n : ℤ) → j.toInt < 64 → ∀ K : Res F → sProp 𝕄, spec arg4 arg5 fk fv qq later t n j c a K
      ⊢ wp frame (wpE (defs₀ (F := F)) 𝒱₀ (t : Thread nD τ) bd) E (call j c a) K)
    (j : BitVec 32) (c : FVec F S256x1 .f32) (a : FVec F S256x128 .f32) (hj : j.toInt < (n + 1 : ℕ)) (hj' : j.toInt < 64) (K : Res F → sProp 𝕄) :
    spec arg4 arg5 fk fv qq later t (n + 1) j c a K
      ⊢ wp frame (wpE (defs₀ (F := F)) 𝒱₀ (t : Thread nD τ) bd) E (wBody call arg4 arg5 qq later j c a) K := by
  rw [spec_apply]
  unfold wBody
  by_cases h : go j c = 1#1
  · have h0 := sge_of_go h
    have hw := chk_of h0 hj'
    simp only [h, ↓reduceIte, Prog.lift, Prog.bind_op, Prog.bind_ret, wRes, blkAt, dif_pos hw, ← View.readAt_eq_ld]
    unfold held
    iintro ⟨⟨Hx, Hw⟩, Hk⟩
    iapply (wp_assume 𝒱₀ (t : Thread nD τ) bd E hw)
    iapply (wp_load 𝒱₀ (t : Thread nD τ) bd E (m := arg4) (Finset.subset_univ _)) $$ Hx; iintro Hx
    iapply (wp_load 𝒱₀ (t : Thread nD τ) bd E (m := arg5) (Finset.subset_univ _)) $$ Hw; iintro Hw
    iapply (hcall _ _ _ (by rw [subi_toInt h0]; push_cast at hj; omega) (by rw [subi_toInt h0]; omega) K)
    rw [spec_apply]; unfold held
    isplitl [Hx Hw]
    · isplitl [Hx]; · iexact Hx
      iexact Hw
    iintro ⟨Hx, Hw⟩
    iapply Hk
    isplitl [Hx]; · iexact Hx
    iexact Hw
  · simp only [h, ↓reduceIte, Prog.pure_eq_ret, wRes]
    iintro ⟨H, Hk⟩
    rw [wp_ret]; imodintro
    iapply Hk; iexact H

/-- The specification at a label's own result type, which is the walk's up to `inn`. -/
def specAt {ρ : Type} (inn : Res F → ρ) (n : ℕ) (j : BitVec 32) (c : FVec F S256x1 .f32) (a : FVec F S256x128 .f32) : sWPT 𝕄 ρ := do
  sWPT.consume (held arg4 arg5 fk fv t)
  sWPT.produce (held arg4 arg5 fk fv t)
  pure (inn (wRes (arg4.view.read (Elt F) fk) (arg5.view.read (Elt F) fv) qq later n j c a))

theorem specAt_apply {ρ : Type} (inn : Res F → ρ) (n : ℕ) (j : BitVec 32) (c : FVec F S256x1 .f32) (a : FVec F S256x128 .f32) (K : ρ → sProp 𝕄) :
    specAt arg4 arg5 fk fv qq later t inn n j c a K
      = iprop(held arg4 arg5 fk fv t ∗ (held arg4 arg5 fk fv t -∗ K (inn (wRes (arg4.view.read (Elt F) fk) (arg5.view.read (Elt F) fv) qq later n j c a)))) := rfl

/-- A label whose body is `wBody` of its own call meets the specification. -/
theorem label_le (ℓ : (Λ₀ F).Label) (mk : BitVec 32 → FVec F S256x1 .f32 → FVec F S256x128 .f32 → (Λ₀ F).Args ℓ)
    (out : (Λ₀ F).Result ℓ → Res F) (inn : Res F → (Λ₀ F).Result ℓ) (hio : ∀ r, out (inn r) = r) (E : Set ℕ)
    (hb : ∀ (j : BitVec 32) (c : FVec F S256x1 .f32) (a : FVec F S256x128 .f32) (bd : Option 𝒱₀.V) (K : (Λ₀ F).Result ℓ → sProp 𝕄),
      wp frame (wpE (defs₀ (F := F)) 𝒱₀ (t : Thread nD τ) bd) E
          (wBody (fun j c a => Prog.op (.call ℓ (mk j c a)) fun r => .ret (out r)) arg4 arg5 qq later j c a) (fun r => K (inn r))
        ⊢ wp frame (wpE (defs₀ (F := F)) 𝒱₀ (t : Thread nD τ) bd) E (defs₀ (F := F) .tc ℓ (mk j c a)) K) :
    ∀ (n : ℕ) (j : BitVec 32) (c : FVec F S256x1 .f32) (a : FVec F S256x128 .f32), j.toInt < n → j.toInt < 64 →
      specAt arg4 arg5 fk fv qq later t inn n j c a
        ≤ wp frame (wpE (defs₀ (F := F)) 𝒱₀ (t : Thread nD τ) (some n)) E (defs₀ (F := F) .tc ℓ (mk j c a)) := by
  intro n
  induction n with
  | zero =>
    intro j c a hj _ K
    exact (wBody_zero arg4 arg5 fk fv qq later t _ E _ j c a (by simpa using hj) _).trans (hb j c a _ K)
  | succ n ih =>
    intro j c a hj hj' K
    refine (wBody_succ arg4 arg5 fk fv qq later t _ E (some (n + 1)) n (fun j c a hj hj' K => ?_) j c a hj hj' _).trans (hb j c a _ K)
    refine BIBase.Entails.trans ?_ (wp_call_spec 𝒱₀ (t : Thread nD τ) (some (n + 1)) E
      (specAt arg4 arg5 fk fv qq later t inn n j c a) n (fun u hu => by cases hu; exact Nat.lt_succ_self n) (ih j c a hj hj'))
    rw [specAt_apply, spec_apply]
    iintro ⟨H, Hk⟩
    isplitl [H]; · iexact H
    iintro H
    rw [wp_ret, hio]; imodintro
    iapply Hk; iexact H

/-- A walk of any of the sixteen labels, called from the body: the continuation runs at `wRes`. -/
theorem wp_walk {α : Type} (ℓ : (Λ₀ F).Label) (mk : BitVec 32 → FVec F S256x1 .f32 → FVec F S256x128 .f32 → (Λ₀ F).Args ℓ)
    (out : (Λ₀ F).Result ℓ → Res F) (inn : Res F → (Λ₀ F).Result ℓ) (hio : ∀ r, out (inn r) = r)
    (hb : ∀ (j : BitVec 32) (c : FVec F S256x1 .f32) (a : FVec F S256x128 .f32) (bd : Option 𝒱₀.V) (K : (Λ₀ F).Result ℓ → sProp 𝕄),
      wp frame (wpE (defs₀ (F := F)) 𝒱₀ (t : Thread nD τ) bd) Set.univ
          (wBody (fun j c a => Prog.op (.call ℓ (mk j c a)) fun r => .ret (out r)) arg4 arg5 qq later j c a) (fun r => K (inn r))
        ⊢ wp frame (wpE (defs₀ (F := F)) 𝒱₀ (t : Thread nD τ) bd) Set.univ (defs₀ (F := F) .tc ℓ (mk j c a)) K)
    (j : BitVec 32) (c : FVec F S256x1 .f32) (a : FVec F S256x128 .f32) (hj : j.toInt < 64)
    {k : (Λ₀ F).Result ℓ → Prog (TpuEff nD τ sig (Elt F) (Λ₀ F) .tc) α} {Q : α → sProp 𝕄} :
    (arg4.view.loc (t : Thread nD τ) ↦{fullShare} (fk : Buf (Elt F) (arg4.view.loc (t : Thread nD τ))))
      ⊢ iprop((arg5.view.loc (t : Thread nD τ) ↦{fullShare} (fv : Buf (Elt F) (arg5.view.loc (t : Thread nD τ))))
        -∗ ((arg4.view.loc (t : Thread nD τ) ↦{fullShare} (fk : Buf (Elt F) (arg4.view.loc (t : Thread nD τ))))
            -∗ (arg5.view.loc (t : Thread nD τ) ↦{fullShare} (fv : Buf (Elt F) (arg5.view.loc (t : Thread nD τ))))
            -∗ wp frame (wpE (defs₀ (F := F)) 𝒱₀ (t : Thread nD τ) none) Set.univ (k (inn (wRes (arg4.view.read (Elt F) fk) (arg5.view.read (Elt F) fv) qq later 64 j c a))) Q)
        -∗ wp frame (wpE (defs₀ (F := F)) 𝒱₀ (t : Thread nD τ) none) Set.univ (.op (.call ℓ (mk j c a)) k) Q) := by
  iintro Hk Hv H
  iapply (wp_call_spec 𝒱₀ (t : Thread nD τ) none Set.univ
      (specAt arg4 arg5 fk fv qq later t inn 64 j c a) (64 : ℕ) (fun u hu => nomatch hu)
      (label_le arg4 arg5 fk fv qq later t ℓ mk out inn hio Set.univ hb 64 j c a (by exact_mod_cast hj) hj))
  rw [specAt_apply]; unfold held
  isplitl [Hk Hv]
  · isplitl [Hk]; · iexact Hk
    iexact Hv
  iintro ⟨Hk, Hv⟩
  iapply H $$ Hk Hv

/-- The body's first walked block is below block 64: the grid's last coordinate is below 4. -/
theorem blk_lt (i : grid0.Coords) (s : Fin 16) :
    (Scalar.subi (Scalar.addi (Scalar.muli (BitVec.ofNat 32 (i 2).val) 16#32) (BitVec.ofNat 32 s.val)) 2#32).toInt < 64 := by
  have key : ∀ (n : Fin 4) (s : Fin 16),
      (Scalar.subi (Scalar.addi (Scalar.muli (BitVec.ofNat 32 n.val) 16#32) (BitVec.ofNat 32 s.val)) 2#32).toInt < 64 := by decide +kernel
  exact key (i 2) s

end Walk

end Cert.KernelIdeal.Hand

end
-- ==== Proof.PI.Block.lean ====
/-
  One of the sixteen sub-blocks of the stick-breaking body, as a function of its number `s`: the queries of its 128 rows
  stacked by head, the first window of 256 keys, the masked logarithms, their running sums, the weights, the first
  accumulator and carry, and the rows it stores once its walk is over. `outC` is what the whole body leaves in the output.
-/
module

public import proofs.«01_k».proof.Proof.PI.While
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The sub-block's number among the sequence's blocks of 128 rows. -/
def blkNo (i : grid0.Coords) (s : Fin 16) : BitVec 32 :=
  Scalar.addi (Scalar.muli (BitVec.ofNat 32 (i 2).val) 16#32) (BitVec.ofNat 32 s.val)

/-- The first row of the sub-block's first window of keys. -/
def winAt (i : grid0.Coords) (s : Fin 16) : BitVec 32 :=
  Scalar.muli (Scalar.maxsi (Scalar.subi (blkNo i s) 1#32) 0#32) 128#32

/-- Where sub-block `s` starts in a block of 2048 rows. -/
def rowOff (s : Fin 16) : Fin 2 → ℕ := ![128 * s.val, 0]

theorem rowOff_inb (s : Fin 16) (a : Fin 2) : rowOff s a + S128x128.size a ≤ S2048x128.size a := by
  have := s.isLt
  fin_cases a
  · show 128 * s.val + 128 ≤ 2048; omega
  · show 0 + 128 ≤ 128; omega

section Block

variable (Xq : S2048x128.Idx → Elt F .bf16) (Xk Xv : S8192x128.Idx → Elt F .bf16) (i : grid0.Coords) (s : Fin 16)

/-- The sub-block's queries. -/
def qRows : Vec F S128x128 .bf16 := View.ld Xq (Rect.unit (s := S2048x128) (rowOff s) S128x128.size (rowOff_inb s))

/-- The first window of the keys or the values. -/
def winRows (X : S8192x128.Idx → Elt F .bf16) : Vec F S256x128 .bf16 :=
  View.ld X (Rect.unit (s := S8192x128) (k0_off1 i (BitVec.ofNat 32 s.val)) S256x128.size (k0_off1_inb i s))

/-- The queries scaled, the two heads' rows stacked, each with the other head's lanes at zero. -/
def qqB (q : Vec F S128x128 .bf16) : FVec F S256x128 .bf16 := k0_pay84 k0_pay81 q

/-- The window's scores. -/
def zB (q : Vec F S128x128 .bf16) (kw : Vec F S256x128 .bf16) : FVec F S256x256 .f32 := k0_pay116 (qqB q) kw

/-- Which of the window's keys lie before the query. -/
def strictB : IVec S256x256 1 := k0_pay132 k0_pay82 (blkNo i s) (winAt i s)

/-- The window's logarithms, zero at a key that is not before the query. -/
def lomB (q : Vec F S128x128 .bf16) (kw : Vec F S256x128 .bf16) : FVec F S256x256 .f32 :=
  k0_pay148 (zB q kw) (strictB i s) (Scalar.ofBits .f32 0x00000000#32)

/-- The window's weights. -/
def wB (q : Vec F S128x128 .bf16) (kw : Vec F S256x128 .bf16) : FVec F S256x256 .bf16 :=
  k0_pay191 (zB q kw) (strictB i s) (lomB i s q kw) (k0_pay173 k0_pay83 (lomB i s q kw))

/-- What the window adds to the result. -/
def accB (q : Vec F S128x128 .bf16) (kw vw : Vec F S256x128 .bf16) : FVec F S256x128 .f32 := k0_pay210 (wB i s q kw) vw

/-- The window's sums, with which the walk starts. -/
def carryB (q : Vec F S128x128 .bf16) (kw : Vec F S256x128 .bf16) : FVec F S256x1 .f32 := k0_pay226 (lomB i s q kw)

/-- The accumulator once the walk is over. -/
def walkB : FVec F S256x128 .f32 :=
  (wRes Xk Xv (qqB (qRows Xq s)) k0_pay242 64 (Scalar.subi (blkNo i s) 2#32)
    (carryB i s (qRows Xq s) (winRows i s Xk)) (accB i s (qRows Xq s) (winRows i s Xk) (winRows i s Xv))).2.2

/-- The rows the sub-block stores. -/
def outB : FVec F S128x128 .bf16 := k0_pay243 k0_pay81 (walkB Xq Xk Xv i s)

/-- The sixteen stores, newest first. -/
def outPieces : List (View.Piece (Elt F) S2048x128 .bf16) :=
  View.tilePieces S128x128.size rowOff rowOff_inb (fun s => outB Xq Xk Xv i s) 16 (Nat.le_refl 16)

/-- What the body leaves in the output's block. -/
def outC : S2048x128.Idx → Elt F .bf16 := fun y =>
  outB Xq Xk Xv i ⟨(y 0).val / 128, by have h : (y 0).val < 2048 := (y 0).isLt; show (y 0).val / 128 < 16; omega⟩
    (Fin.cons ⟨(y 0).val % 128, Nat.mod_lt _ (by decide)⟩ (Fin.cons ⟨(y 1).val, (y 1).isLt⟩ finZeroElim))

/-- After the sixteen stores the output's block reads `outC`, whatever it held before. -/
theorem read_outPieces (arg6 : Memref sig .tc .vmem S2048x128 .bf16) (fo : arg6.view.ty.Contents (Elt F)) :
    arg6.view.read (Elt F) (arg6.view.writes (Elt F) fo (outPieces Xq Xk Xv i)) = outC Xq Xk Xv i := by
  funext y
  have h : (y 0).val < 2048 := (y 0).isLt
  refine View.read_tilePieces arg6.view fo S128x128.size rowOff rowOff_inb (fun s => outB Xq Xk Xv i s) 16 (Nat.le_refl 16) y
    ⟨(y 0).val / 128, by omega⟩ (by show (y 0).val / 128 < 16; omega)
    (Fin.cons ⟨(y 0).val % 128, Nat.mod_lt _ (by decide)⟩ (Fin.cons ⟨(y 1).val, (y 1).isLt⟩ finZeroElim)) ?_ 0 ?_
  · intro a
    fin_cases a
    · show (y 0).val = 128 * ((y 0).val / 128) + (y 0).val % 128; omega
    · show (y 1).val = 0 + (y 1).val; omega
  · intro s' hs
    have hne : s'.val ≠ (y 0).val / 128 := fun e => hs (Fin.ext e)
    show (y 0).val < 128 * s'.val ∨ 128 * s'.val + 128 ≤ (y 0).val
    omega

end Block

end Cert.KernelIdeal.Hand

end
-- ==== Proof.PI.Run.lean ====
module

public import proofs.«01_k».proof.Proof.PI.Block
public import proofs.«01_k».proof.Proof.Gen.KernelIdeal.Launch
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body run once, on any memrefs holding the queries, the keys and the values: it hands them back as they were, and
    the output with the sixteen sub-blocks' rows stored. -/
theorem kernelRun (t : Dev nD) (i : grid0.Coords)
    (arg3 : Memref sig .tc .vmem S2048x128 .bf16) (harg3 : arg3.IsWhole) (arg4 : Memref sig .tc .vmem S8192x128 .bf16) (harg4 : arg4.IsWhole)
    (arg5 : Memref sig .tc .vmem S8192x128 .bf16) (harg5 : arg5.IsWhole) (arg6 : Memref sig .tc .vmem S2048x128 .bf16) (harg6 : arg6.IsWhole)
    (fq : Buf (Elt F) (arg3.view.loc (t : Thread nD τ))) (fk : Buf (Elt F) (arg4.view.loc (t : Thread nD τ)))
    (fv : Buf (Elt F) (arg5.view.loc (t : Thread nD τ))) (fo : Buf (Elt F) (arg6.view.loc (t : Thread nD τ))) (K : PUnit → sProp 𝕄) :
    iprop((arg3.view.loc (t : Thread nD τ) ↦{fullShare} fq) ∗ (arg4.view.loc (t : Thread nD τ) ↦{fullShare} fk)
        ∗ (arg5.view.loc (t : Thread nD τ) ↦{fullShare} fv) ∗ (arg6.view.loc (t : Thread nD τ) ↦{fullShare} fo)
        ∗ (iprop((arg3.view.loc (t : Thread nD τ) ↦{fullShare} fq) ∗ (arg4.view.loc (t : Thread nD τ) ↦{fullShare} fk)
        ∗ (arg5.view.loc (t : Thread nD τ) ↦{fullShare} fv) ∗ (arg6.view.loc (t : Thread nD τ) ↦{fullShare} (arg6.view.writes (Elt F) fo (outPieces (arg3.view.read (Elt F) fq) (arg4.view.read (Elt F) fk) (arg5.view.read (Elt F) fv) i)))) -∗ K ⟨⟩))
      ⊢ wp frame (wpE (defs₀ (F := F)) 𝒱₀ t none) Set.univ
          (cc0_stickbreak i arg3 harg3 arg4 harg4 arg5 harg5 arg6 harg6) K := by
  simp only [cc0_stickbreak_eq_skeleton]; unfold cc0_stickbreak_skel
  iintro ⟨Hq, Hk, Hv, Ho, HK⟩
  sl_exec_parts
  simp only [Prog.lift, Prog.bind_op, Prog.bind_ret]
  iapply (wp_walk arg4 arg5 fk fv _ _ t 1 (fun j c a => ⟨i, arg4, harg4, _, _, arg5, harg5, j, c, a⟩) id id (fun _ => rfl)
    (fun _ _ _ _ _ => BIBase.Entails.rfl) _ _ _ (blk_lt i 0)) $$ Hk Hv
  iintro Hk Hv
  sl_exec
  simp only [Prog.lift, Prog.bind_op, Prog.bind_ret]
  iapply (wp_walk arg4 arg5 fk fv _ _ t 2 (fun j c a => ⟨i, arg4, harg4, _, _, arg5, harg5, j, c, a⟩) id id (fun _ => rfl)
    (fun _ _ _ _ _ => BIBase.Entails.rfl) _ _ _ (blk_lt i 1)) $$ Hk Hv
  iintro Hk Hv
  sl_exec
  simp only [Prog.lift, Prog.bind_op, Prog.bind_ret]
  iapply (wp_walk arg4 arg5 fk fv _ _ t 3 (fun j c a => ⟨i, arg4, harg4, _, _, arg5, harg5, j, c, a⟩) id id (fun _ => rfl)
    (fun _ _ _ _ _ => BIBase.Entails.rfl) _ _ _ (blk_lt i 2)) $$ Hk Hv
  iintro Hk Hv
  sl_exec
  simp only [Prog.lift, Prog.bind_op, Prog.bind_ret]
  iapply (wp_walk arg4 arg5 fk fv _ _ t 4 (fun j c a => ⟨i, arg4, harg4, _, _, arg5, harg5, j, c, a⟩) id id (fun _ => rfl)
    (fun _ _ _ _ _ => BIBase.Entails.rfl) _ _ _ (blk_lt i 3)) $$ Hk Hv
  iintro Hk Hv
  sl_exec
  simp only [Prog.lift, Prog.bind_op, Prog.bind_ret]
  iapply (wp_walk arg4 arg5 fk fv _ _ t 5 (fun j c a => ⟨i, arg4, harg4, _, _, arg5, harg5, j, c, a⟩) id id (fun _ => rfl)
    (fun _ _ _ _ _ => BIBase.Entails.rfl) _ _ _ (blk_lt i 4)) $$ Hk Hv
  iintro Hk Hv
  sl_exec
  simp only [Prog.lift, Prog.bind_op, Prog.bind_ret]
  iapply (wp_walk arg4 arg5 fk fv _ _ t 6 (fun j c a => ⟨i, arg4, harg4, _, _, arg5, harg5, j, c, a⟩) id id (fun _ => rfl)
    (fun _ _ _ _ _ => BIBase.Entails.rfl) _ _ _ (blk_lt i 5)) $$ Hk Hv
  iintro Hk Hv
  sl_exec
  simp only [Prog.lift, Prog.bind_op, Prog.bind_ret]
  iapply (wp_walk arg4 arg5 fk fv _ _ t 7 (fun j c a => ⟨i, arg4, harg4, _, _, arg5, harg5, j, c, a⟩) id id (fun _ => rfl)
    (fun _ _ _ _ _ => BIBase.Entails.rfl) _ _ _ (blk_lt i 6)) $$ Hk Hv
  iintro Hk Hv
  sl_exec
  simp only [Prog.lift, Prog.bind_op, Prog.bind_ret]
  iapply (wp_walk arg4 arg5 fk fv _ _ t 8 (fun j c a => ⟨i, arg4, harg4, _, _, arg5, harg5, j, c, a⟩) id id (fun _ => rfl)
    (fun _ _ _ _ _ => BIBase.Entails.rfl) _ _ _ (blk_lt i 7)) $$ Hk Hv
  iintro Hk Hv
  sl_exec
  simp only [Prog.lift, Prog.bind_op, Prog.bind_ret]
  iapply (wp_walk arg4 arg5 fk fv _ _ t 9 (fun j c a => ⟨i, arg4, harg4, _, _, arg5, harg5, j, c, a⟩) id id (fun _ => rfl)
    (fun _ _ _ _ _ => BIBase.Entails.rfl) _ _ _ (blk_lt i 8)) $$ Hk Hv
  iintro Hk Hv
  sl_exec
  simp only [Prog.lift, Prog.bind_op, Prog.bind_ret]
  iapply (wp_walk arg4 arg5 fk fv _ _ t 10 (fun j c a => ⟨i, arg4, harg4, _, _, arg5, harg5, j, c, a⟩) id id (fun _ => rfl)
    (fun _ _ _ _ _ => BIBase.Entails.rfl) _ _ _ (blk_lt i 9)) $$ Hk Hv
  iintro Hk Hv
  sl_exec
  simp only [Prog.lift, Prog.bind_op, Prog.bind_ret]
  iapply (wp_walk arg4 arg5 fk fv _ _ t 11 (fun j c a => ⟨i, arg4, harg4, _, _, arg5, harg5, j, c, a⟩) id id (fun _ => rfl)
    (fun _ _ _ _ _ => BIBase.Entails.rfl) _ _ _ (blk_lt i 10)) $$ Hk Hv
  iintro Hk Hv
  sl_exec
  simp only [Prog.lift, Prog.bind_op, Prog.bind_ret]
  iapply (wp_walk arg4 arg5 fk fv _ _ t 12 (fun j c a => ⟨i, arg4, harg4, _, _, arg5, harg5, j, c, a⟩) id id (fun _ => rfl)
    (fun _ _ _ _ _ => BIBase.Entails.rfl) _ _ _ (blk_lt i 11)) $$ Hk Hv
  iintro Hk Hv
  sl_exec
  simp only [Prog.lift, Prog.bind_op, Prog.bind_ret]
  iapply (wp_walk arg4 arg5 fk fv _ _ t 13 (fun j c a => ⟨i, arg4, harg4, _, _, arg5, harg5, j, c, a⟩) id id (fun _ => rfl)
    (fun _ _ _ _ _ => BIBase.Entails.rfl) _ _ _ (blk_lt i 12)) $$ Hk Hv
  iintro Hk Hv
  sl_exec
  simp only [Prog.lift, Prog.bind_op, Prog.bind_ret]
  iapply (wp_walk arg4 arg5 fk fv _ _ t 14 (fun j c a => ⟨i, arg4, harg4, _, _, arg5, harg5, j, c, a⟩) id id (fun _ => rfl)
    (fun _ _ _ _ _ => BIBase.Entails.rfl) _ _ _ (blk_lt i 13)) $$ Hk Hv
  iintro Hk Hv
  sl_exec
  simp only [Prog.lift, Prog.bind_op, Prog.bind_ret]
  iapply (wp_walk arg4 arg5 fk fv _ _ t 15 (fun j c a => ⟨i, arg4, harg4, _, _, arg5, harg5, j, c, a⟩) id id (fun _ => rfl)
    (fun _ _ _ _ _ => BIBase.Entails.rfl) _ _ _ (blk_lt i 14)) $$ Hk Hv
  iintro Hk Hv
  sl_exec
  simp only [Prog.lift, Prog.bind_op, Prog.bind_ret]
  iapply (wp_walk arg4 arg5 fk fv _ _ t 16 (fun j c a => ⟨i, arg4, harg4, _, _, arg5, harg5, j, c, a⟩) id id (fun _ => rfl)
    (fun _ _ _ _ _ => BIBase.Entails.rfl) _ _ _ (blk_lt i 15)) $$ Hk Hv
  iintro Hk Hv
  sl_exec
  rw [wp_ret]; imodintro
  iapply HK
  isplitl [Hq]; · iexact Hq
  isplitl [Hk]; · iexact Hk
  isplitl [Hv]; · iexact Hv
  iexact Ho

/-- The same over owned windows: the three inputs at what they read, the output at anything. -/
theorem kernelRun_owns (t : Dev nD) (i : grid0.Coords)
    (arg3 : Memref sig .tc .vmem S2048x128 .bf16) (harg3 : arg3.IsWhole) (arg4 : Memref sig .tc .vmem S8192x128 .bf16) (harg4 : arg4.IsWhole)
    (arg5 : Memref sig .tc .vmem S8192x128 .bf16) (harg5 : arg5.IsWhole) (arg6 : Memref sig .tc .vmem S2048x128 .bf16) (harg6 : arg6.IsWhole)
    (Xq : S2048x128.Idx → Elt F .bf16) (Xk Xv : S8192x128.Idx → Elt F .bf16) (Xo : S2048x128.Idx → Elt F .bf16) (K : PUnit → sProp 𝕄) :
    iprop(owns (t : Thread nD τ) arg3 fullShare Xq ∗ owns (t : Thread nD τ) arg4 fullShare Xk ∗ owns (t : Thread nD τ) arg5 fullShare Xv
        ∗ owns (t : Thread nD τ) arg6 fullShare Xo
        ∗ (iprop(owns (t : Thread nD τ) arg3 fullShare Xq ∗ owns (t : Thread nD τ) arg4 fullShare Xk ∗ owns (t : Thread nD τ) arg5 fullShare Xv
            ∗ owns (t : Thread nD τ) arg6 fullShare (outC Xq Xk Xv i)) -∗ K ⟨⟩))
      ⊢ wp frame (wpE (defs₀ (F := F)) 𝒱₀ t none) Set.univ
          (cc0_stickbreak i arg3 harg3 arg4 harg4 arg5 harg5 arg6 harg6) K := by
  unfold owns
  rw [harg3.set_eq_univ, harg4.set_eq_univ, harg5.set_eq_univ, harg6.set_eq_univ]
  iintro ⟨⟨%f0, %e0, H0⟩, ⟨%f1, %e1, H1⟩, ⟨%f2, %e2, H2⟩, ⟨%f3, -, H3⟩, HK⟩
  iapply (kernelRun t i arg3 harg3 arg4 harg4 arg5 harg5 arg6 harg6 f0 f1 f2 f3 K)
  isplitl [H0]; · iexact H0
  isplitl [H1]; · iexact H1
  isplitl [H2]; · iexact H2
  isplitl [H3]; · iexact H3
  iintro ⟨H0, H1, H2, H3⟩
  iapply HK
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  iexists _; isplitr; swap; · iexact H3
  ipureintro
  rw [read_outPieces, ← e0, ← e1, ← e2]

end Cert.KernelIdeal.Hand

end
-- ==== Proof.PI.Body.lean ====
/-
  The stick-breaking launch. The queries, the keys and the values are three windows on the one argument; each keeps its
  block, and the output's block holds `outC` of the three. The launch then leaves the argument as it was and every
  semaphore counter at zero, and the result's blocks are what the body left.
-/
module

public import proofs.«01_k».proof.Proof.PI.Run
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Pipeline (Dat BodyObligation)

variable (m : (ℓ : Loc nD τ sig) → Buf (Elt F) ℓ) (ρ : Dev nD → PrngReg)

/-- What the launch finds in a buffer: the memory it starts from. -/
abbrev V (c : Dev nD) (b : Ref sig .tc) : Buf (Elt F) ((c : Thread nD τ).loc b) := m ((c : Thread nD τ).loc b)

/-- The three input windows' blocks at a point. -/
def qBlk (c : Dev nD) (t : Fin grid0.N) : S2048x128.Idx → Elt F .bf16 := (win0_0.blk t).view.read (Elt F) (V m c main_arg0)
def kBlk (c : Dev nD) (t : Fin grid0.N) : S8192x128.Idx → Elt F .bf16 := (win0_1.blk t).view.read (Elt F) (V m c main_arg0)
def vBlk (c : Dev nD) (t : Fin grid0.N) : S8192x128.Idx → Elt F .bf16 := (win0_2.blk t).view.read (Elt F) (V m c main_arg0)

/-- What the body leaves in each window's buffer. -/
def afterW (c : Dev nD) (t : Fin grid0.N) : (w : Fin 4) → (spec0 w).block.Idx → Elt F (spec0 w).elt
  | 0 => qBlk m c t
  | 1 => kBlk m c t
  | 2 => vBlk m c t
  | 3 => outC (qBlk m c t) (kBlk m c t) (vBlk m c t) (grid0.coords t)
  | ⟨_ + 4, h⟩ => absurd h (Nat.not_lt.2 (Nat.le_add_left _ _))

/-- The proof data on core `c`. -/
def dats (_ : Fin 1) (c : Dev nD) : Dat τ (Elt F) Unit ℕ (UR sig nD τ) ℕ (cfg0 (F := F)) c where
  A w := V m c (Pipeline.arrRef spec0 w)
  after w t := afterW m c t w
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]

theorem before_0 (c : Dev nD) (t : Fin (cfg0 (F := F)).N) (d) : (dats m 0 c).before 0 t d = qBlk m c t :=
  ((dats m 0 c).before_in_eq_fetched 0 rfl (fun _ => rfl) (fun _ _ _ => rfl) (fun _ => rfl) t d).trans rfl
theorem before_1 (c : Dev nD) (t : Fin (cfg0 (F := F)).N) (d) : (dats m 0 c).before 1 t d = kBlk m c t :=
  ((dats m 0 c).before_in_eq_fetched 1 rfl (fun _ => rfl) (fun _ _ _ => rfl) (fun _ => rfl) t d).trans rfl
theorem before_2 (c : Dev nD) (t : Fin (cfg0 (F := F)).N) (d) : (dats m 0 c).before 2 t d = vBlk m c t :=
  ((dats m 0 c).before_in_eq_fetched 2 rfl (fun _ => rfl) (fun _ _ _ => rfl) (fun _ => rfl) t d).trans rfl

/-- The windows' staging memrefs at a point, as the pipeline passes them, and their wholeness. -/
abbrev mq (t : Fin (cfg0 (F := F)).N) : Memref sig .tc .vmem S2048x128 .bf16 := win0_0.stage ((cfg0 (F := F)).slots t 0)
abbrev mk (t : Fin (cfg0 (F := F)).N) : Memref sig .tc .vmem S8192x128 .bf16 := win0_1.stage ((cfg0 (F := F)).slots t 1)
abbrev mv (t : Fin (cfg0 (F := F)).N) : Memref sig .tc .vmem S8192x128 .bf16 := win0_2.stage ((cfg0 (F := F)).slots t 2)
abbrev mo (t : Fin (cfg0 (F := F)).N) : Memref sig .tc .vmem S2048x128 .bf16 := win0_3.stage ((cfg0 (F := F)).slots t 3)

/-- What the body is called with at point `t`, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (mq (F := F) t) fullShare ((dats m 0 c).before 0 t d))
    ∗ (∃ d, owns (c : Thread nD τ) (mk (F := F) t) fullShare ((dats m 0 c).before 1 t d))
    ∗ (∃ d, owns (c : Thread nD τ) (mv (F := F) t) fullShare ((dats m 0 c).before 2 t d))
    ∗ (∃ d, owns (c : Thread nD τ) (mo (F := F) t) fullShare ((dats m 0 c).before 3 t d)))
def bodyPost (c : Dev nD) (t : Fin (cfg0 (F := F)).N) : sProp 𝕄 :=
  iprop((dats m 0 c).Φ t.succ ∗ (dats m 0 c).owesAt () t.succ
    ∗ owns (c : Thread nD τ) (mq (F := F) t) fullShare ((dats m 0 c).after 0 t)
    ∗ owns (c : Thread nD τ) (mk (F := F) t) fullShare ((dats m 0 c).after 1 t)
    ∗ owns (c : Thread nD τ) (mv (F := F) t) fullShare ((dats m 0 c).after 2 t)
    ∗ owns (c : Thread nD τ) (mo (F := F) t) fullShare ((dats m 0 c).after 3 t))

/-- The body at a point: the three blocks opened, the run, the output's block read off its stores. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [before_0, before_1, before_2]
  rw [show (dats m 0 c).after 0 t = qBlk m c t from rfl, show (dats m 0 c).after 1 t = kBlk m c t from rfl,
    show (dats m 0 c).after 2 t = vBlk m c t from rfl,
    show (dats m 0 c).after 3 t = outC (qBlk m c t) (kBlk m c t) (vBlk m c t) (grid0.coords t) from rfl]
  iintro ⟨HΦ, HO, ⟨%d0, H0⟩, ⟨%d1, H1⟩, ⟨%d2, H2⟩, ⟨%d3, H3⟩⟩
  iapply (kernelRun_owns c (grid0.coords t) (mq (F := F) t) _ (mk (F := F) t) _ (mv (F := F) t) _ (mo (F := F) t) _
    (qBlk m c t) (kBlk m c t) (vBlk m c t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-- The body table's row at the point is the body as the pipeline calls it. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) :
    BodyObligation (dats (F := F) m 0 c) (defs₀ (F := F)) 𝒱₀ () Set.univ := fun t => by
  rw [bigSep_W0, bigSep_W0, defs₀_row]
  exact triple_restated (sound_body m c t) rfl .rfl fun _ => .rfl

/-- @main is the launch alone. -/
theorem hmain (𝒱 : Variants) :
    Pipeline.HMain (Ix := Unit) (Name := ℕ) (U := UR sig nD τ) (Lvl := ℕ) cfgs 0 defs₀ 𝒱 m (main (F := F)) (V m) :=
  Pipeline.hmain_region cfgs 0 defs₀ 𝒱 m main fun c => (main_chain c).trans rfl

-- the library theorem's implicit arguments are found by unfolding plain definitions in types
set_option backward.isDefEq.respectTransparency.types false in
/-- From any memory with zero counters every weakly fair execution of @main ends, with the argument as it was, the result
    at what the body's blocks make of it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_shared (Q' := _) cfgs (dats m) 0 launch₀0 defs₀ 𝒱₀ m ρ main
    (hbody := fun c => (body_obligation m c).loose) (hq := fun _ _ _ => rfl) (howed := fun _ _ => rfl) (V := V m)
    (hmain := hmain m 𝒱₀) (hA := A_eq m) (hΦ := fun _ _ => rfl)

variable {m ρ}

/-- The argument after the run. -/
theorem final_arg0 {r : PUnit × MemSt nD τ sig (Elt F)} (h : Pipeline.FramePost cfgs (dats (F := F) m) 0 (V m) r) (c : Dev nD) :
    r.2.mem ((c : Thread nD τ).loc main_arg0) = m ((c : Thread nD τ).loc main_arg0) :=
  (Pipeline.FramePost.in_eq h c 0 rfl).trans rfl

end Cert.KernelIdeal.Hand

end
-- ==== Proof.Frames.lean ====
/- The frames of the three programs and the rule the idealization used. -/
module

public import proofs.«01_k».proof.Defs
public import proofs.«01_k».proof.Proof.P.Body
public import proofs.«01_k».proof.Proof.PI.Body
public import proofs.«01_k».proof.Proof.Gen.ReferenceIdeal.Run
public import Idealize.ShloMosaic.Adequacy
public import Idealize.ShloMosaic.Init

@[expose] public section

noncomputable section

namespace Cert.Frames

open Idealize.ShloMosaic Idealize.SL.Sem

/-- The kernel runs to the end, leaves its argument as it was and every counter at zero. -/
theorem frame_p : Cert.quiescent_Kernel := fun m ρ _ =>
  (θ_run Cert.Kernel.defs _ _).mono (fun _ h => ⟨fun c => Cert.Kernel.Hand.final_arg0 h.1 c, h.2⟩)
    (Cert.Kernel.Hand.run_main (F := Bits) m ρ)

/-- The same of the kernel read over the extended reals. -/
theorem frame_pi : Cert.quiescent_KernelIdeal := fun m ρ _ =>
  (θ_run Cert.KernelIdeal.defs _ _).mono (fun _ h => ⟨fun c => Cert.KernelIdeal.Hand.final_arg0 h.1 c, h.2⟩)
    (Cert.KernelIdeal.Hand.run_main (F := Ideal) m ρ)

/-- The reference runs to the end and leaves its argument as it was; it has no counters. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one constant that is named: the threshold at which the kernel stops its walk, read as minus infinity. -/
theorem preserves : Cert.preserves_Kernel_KernelIdeal :=
  IdealRules.named_const.statement Cert.KernelIdeal.κ "skip" .f32 0xC2B00000#32 ⊥ rfl

end Cert.Frames

end
-- ==== Proof.Sum.Stick.lean ====
/- Stick-breaking weights over the extended reals: a sum over the keys before a query, taken block by block from the
   query backwards, each block with what the later ones have left. -/
module

public import Idealize.ShloMosaic.Lib.Pointwise

@[expose] public section

noncomputable section

namespace Cert.Stick

open Idealize.ShloMosaic Finset

/-- The logarithm of one minus the sigmoid of `x`, as `-(max x 0 + log (1 + exp (-|x|)))`. -/
def lg (x : EReal) : EReal := 0 - (max x 0 + Ideal.log (1 + Ideal.exp (0 - max x (-x))))

theorem log_one : Ideal.log 1 = 0 := by
  rw [show (1 : EReal) = ((1 : ℝ) : EReal) from rfl, Ideal.log_coe, if_neg (by norm_num), Real.log_one, EReal.coe_zero]

theorem lg_bot : lg ⊥ = 0 := by simp [lg, log_one]

theorem lg_top : lg ⊤ = ⊥ := by simp [lg, log_one]

theorem lg_coe (r : ℝ) : lg (r : EReal) = ((-(max r 0 + Real.log (1 + Real.exp (-|r|))) : ℝ) : EReal) := by
  have h : (1 : EReal) = ((1 : ℝ) : EReal) := rfl
  have h0 : (0 : EReal) = ((0 : ℝ) : EReal) := rfl
  have hm (a b : ℝ) : max (a : EReal) (b : EReal) = ((max a b : ℝ) : EReal) := (EReal.coe_strictMono.monotone.map_max).symm
  have ha : max r (-r) = |r| := rfl
  have hp : ¬ 1 + Real.exp (-|r|) ≤ 0 := by have := Real.exp_pos (-|r|); linarith
  rw [lg, ← EReal.coe_neg, hm, ha, h0, hm, ← EReal.coe_sub, Ideal.exp_coe, h, ← EReal.coe_add, Ideal.log_coe, zero_sub,
    if_neg hp, ← EReal.coe_add, ← EReal.coe_sub, zero_sub]

theorem lg_ne_top (x : EReal) : lg x ≠ ⊤ := by
  induction x with
  | bot => rw [lg_bot]; exact EReal.zero_ne_top
  | top => rw [lg_top]; exact bot_ne_top
  | coe r => rw [lg_coe]; exact EReal.coe_ne_top _

/-- The reference's exponent is the kernel's: the sigmoid's logarithm with the tail taken out of a sum that holds the
    key's own term, against the score, its own term and the tail. At an infinite score both are minus infinity. -/
theorem lg_neg_add (x T : EReal) : lg (-x) + ((lg x + T) - lg x) = x + lg x + T := by
  induction x with
  | bot => simp [lg_bot, lg_top]
  | top => simp [lg_bot, lg_top]
  | coe r =>
    have e : ((lg (r : EReal) + T) - lg r) = T := by
      rw [lg_coe, sub_eq_add_neg, add_comm _ T, add_assoc, ← EReal.coe_neg, ← EReal.coe_add, add_neg_cancel, EReal.coe_zero, add_zero]
    rw [e]
    congr 1
    rw [← EReal.coe_neg, lg_coe, lg_coe, ← EReal.coe_add, abs_neg]
    congr 1
    rcases le_total r 0 with h | h
    · rw [max_eq_right h, max_eq_left (by linarith : (0 : ℝ) ≤ -r)]; ring
    · rw [max_eq_left h, max_eq_right (by linarith : -r ≤ (0 : ℝ))]; ring

theorem add_sub_self {x : EReal} (h : x ≠ ⊤) : x + (x - x) = x := by
  induction x with
  | bot => simp
  | top => exact absurd rfl h
  | coe r => rw [← EReal.coe_sub, sub_self, EReal.coe_zero, add_zero]

/-- A sum cut in a high part and what is left of each term is the sum itself, a term at minus infinity included. -/
theorem hi_lo {n : ℕ} (f : Fin n → EReal) (hf : ∀ c, f c ≠ ⊤) (p : Fin n → Prop) [DecidablePred p] :
    (∑ c, f c * (if p c then 1 else 0)) + (∑ c, (f c - f c) * (if p c then 1 else 0)) = ∑ c, if p c then f c else 0 := by
  rw [← Finset.sum_add_distrib]
  refine Finset.sum_congr rfl fun c _ => ?_
  by_cases h : p c
  · simp only [h, if_true, mul_one]; exact add_sub_self (hf c)
  · simp only [h, if_false, mul_zero, add_zero]

/-- A block's lanes from place `a` on and before `n`, as an interval. -/
theorem fin_sum_ico (w N a n : ℕ) (ha : w ≤ a) (hn : n ≤ w + N) (g : ℕ → EReal) :
    (∑ c : Fin N, if a ≤ w + c.val ∧ w + c.val < n then g (w + c.val) else 0) = ∑ t ∈ Ico a n, g t := by
  rw [Fin.sum_univ_eq_sum_range (fun c => if a ≤ w + c ∧ w + c < n then g (w + c) else 0) N,
    show (Ico a n) = (Ico w (w + N)).filter (fun t => a ≤ t ∧ t < n) by
      ext t; simp only [mem_Ico, mem_filter]; omega,
    Finset.sum_filter, Finset.sum_Ico_eq_sum_range, Nat.add_sub_cancel_left]

section Keys

variable (z v : ℕ → EReal)

/-- What the keys from `b` on and before `n` leave, as a logarithm. -/
def left (b n : ℕ) : EReal := ∑ t ∈ Ico b n, lg (z t)

/-- The weight of key `s` for the query `n`. -/
def wt (n s : ℕ) : EReal := Ideal.exp (z s + lg (z s) + left z (s + 1) n)

/-- The weighted values of the keys from `b` on and before `n`. -/
def part (b n : ℕ) : EReal := ∑ s ∈ Ico b n, wt z n s * v s

theorem left_split {b m n : ℕ} (h₁ : b ≤ m) (h₂ : m ≤ n) : left z b n = left z b m + left z m n :=
  (Finset.sum_Ico_consecutive (fun t => lg (z t)) h₁ h₂).symm

theorem part_split {b m n : ℕ} (h₁ : b ≤ m) (h₂ : m ≤ n) :
    part z v b n = (∑ s ∈ Ico b m, Ideal.exp (z s + lg (z s) + left z (s + 1) m + left z m n) * v s) + part z v m n := by
  rw [part, ← Finset.sum_Ico_consecutive _ h₁ h₂]
  refine congrArg (· + part z v m n) (Finset.sum_congr rfl fun s hs => ?_)
  rw [wt, left_split z (b := s + 1) (m := m) (mem_Ico.mp hs).2 h₂, ← add_assoc]

/-- Once the later keys have left nothing the earlier ones weigh nothing. -/
theorem part_of_left_bot {m n : ℕ} (h : m ≤ n) (hb : left z m n = ⊥) : part z v 0 n = part z v m n := by
  rw [part_split z v (Nat.zero_le m) h]
  refine (congrArg (· + part z v m n) (Finset.sum_eq_zero fun s _ => ?_)).trans (zero_add _)
  rw [hb, EReal.add_bot, Ideal.exp_bot, zero_mul]

/-- One block of a walk: `N` keys from `b`, with what the keys from `b + N` on have left. -/
theorem part_block {b N n : ℕ} (h : b + N ≤ n) :
    part z v (b + N) n + (∑ c : Fin N, Ideal.exp (z (b + c.val) + lg (z (b + c.val))
        + (∑ c' : Fin N, if c.val < c'.val then lg (z (b + c'.val)) else 0) + left z (b + N) n) * v (b + c.val))
      = part z v b n := by
  rw [part_split z v (Nat.le_add_right b N) h, add_comm (part z v (b + N) n)]
  refine congrArg (· + part z v (b + N) n) ?_
  rw [← fin_sum_ico b N b (b + N) le_rfl le_rfl
    (fun s => Ideal.exp (z s + lg (z s) + left z (s + 1) (b + N) + left z (b + N) n) * v s)]
  refine Finset.sum_congr rfl fun c _ => ?_
  have hc := c.isLt
  rw [if_pos (by omega), show left z (b + c.val + 1) (b + N) = _ from
    (fin_sum_ico b N (b + c.val + 1) (b + N) (by omega) le_rfl (fun t => lg (z t))).symm]
  refine congrArg (fun T => Ideal.exp (z (b + c.val) + lg (z (b + c.val)) + T + left z (b + N) n) * v (b + c.val)) ?_
  refine Finset.sum_congr rfl fun c' _ => ?_
  have hc' := c'.isLt
  exact if_congr (by omega) rfl rfl

theorem left_block {b N n : ℕ} (h : b + N ≤ n) :
    left z (b + N) n + (∑ c : Fin N, lg (z (b + c.val))) = left z b n := by
  rw [left_split z (Nat.le_add_right b N) h, add_comm]
  refine congrArg (· + left z (b + N) n) ?_
  rw [left, ← fin_sum_ico b N b (b + N) le_rfl le_rfl (fun t => lg (z t))]
  refine Finset.sum_congr rfl fun c _ => ?_
  have hc := c.isLt
  rw [if_pos (by omega)]

/-- The first window: `N` keys from `b`, past the query's place, with the keys not before the query at zero. -/
theorem part_window {b N n : ℕ} (hn : n ≤ b + N) :
    (∑ c : Fin N, (if b + c.val < n then Ideal.exp (z (b + c.val) + (if b + c.val < n then lg (z (b + c.val)) else 0)
        + (∑ c' : Fin N, if c.val < c'.val then (if b + c'.val < n then lg (z (b + c'.val)) else 0) else 0)) else 0) * v (b + c.val))
      = part z v b n := by
  rw [part, ← fin_sum_ico b N b n le_rfl hn (fun s => wt z n s * v s)]
  refine Finset.sum_congr rfl fun c _ => ?_
  by_cases hc : b + c.val < n
  · rw [if_pos hc, if_pos hc, if_pos ⟨Nat.le_add_right _ _, hc⟩, wt, left,
      ← fin_sum_ico b N (b + c.val + 1) n (by omega) hn (fun t => lg (z t))]
    refine congrArg (fun T => Ideal.exp (z (b + c.val) + lg (z (b + c.val)) + T) * v (b + c.val)) ?_
    refine Finset.sum_congr rfl fun c' _ => ?_
    by_cases h1 : c.val < c'.val <;> by_cases h2 : b + c'.val < n
    · rw [if_pos h1, if_pos h2, if_pos (by omega)]
    · rw [if_pos h1, if_neg h2, if_neg (by omega)]
    · rw [if_neg h1, if_neg (by omega)]
    · rw [if_neg h1, if_neg (by omega)]
  · rw [if_neg hc, if_neg (by omega), zero_mul]

theorem left_window {b N n : ℕ} (hn : n ≤ b + N) :
    (∑ c : Fin N, if b + c.val < n then lg (z (b + c.val)) else 0) = left z b n := by
  rw [left, ← fin_sum_ico b N b n le_rfl hn (fun t => lg (z t))]
  exact Finset.sum_congr rfl fun c _ => if_congr (by omega) rfl rfl

end Keys

end Cert.Stick

end
-- ==== Proof.PI.Pay.lean ====
/- The body's payloads read at an index over the extended reals. -/
module

public import proofs.«01_k».proof.Proof.PI.Block
public import proofs.«01_k».proof.Proof.Sum.Stick
public import Idealize.ShloMosaic.Lib.Pointwise

@[expose] public section

set_option maxRecDepth 16384

noncomputable section

namespace Cert.KernelIdeal.Hand

open Cert.KernelIdeal Cert.KernelIdeal.Gen Cert.Stick
open Idealize.ShloMosaic

/-- Every 0/1 the kernel compares for and turns into a float. -/
theorem bit_float (p : Bool) :
    (FloatOps.sitofp .f32 (BitVec.setWidth 32 (BitVec.ofBool p)) : Ideal .f32) = if p then (1 : EReal) else 0 := by
  cases p
  · show (((BitVec.setWidth 32 (BitVec.ofBool false)).toInt : ℝ) : EReal) = 0
    rw [show (BitVec.setWidth 32 (BitVec.ofBool false)).toInt = 0 by decide]; simp
  · show (((BitVec.setWidth 32 (BitVec.ofBool true)).toInt : ℝ) : EReal) = 1
    rw [show (BitVec.setWidth 32 (BitVec.ofBool true)).toInt = 1 by decide]; simp

theorem toInt_small {n : ℕ} (h : n < 2 ^ 31) : (BitVec.ofNat 32 n).toInt = n := by
  rw [BitVec.toInt_ofNat', Int.bmod_eq_of_le] <;> omega

theorem slt_small {a b : ℕ} (ha : a < 2 ^ 31) (hb : b < 2 ^ 31) :
    IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_small ha, toInt_small hb]
  simp

theorem sgt_small {a b : ℕ} (ha : a < 2 ^ 31) (hb : b < 2 ^ 31) :
    IntOp.cmpi .sgt (BitVec.ofNat 32 a) (BitVec.ofNat 32 b) = BitVec.ofBool (decide (b < a)) := by
  exact slt_small hb ha

theorem select_eq (b : BitVec 1) (x y : EReal) : Scalar.select b x y = if b = 1#1 then x else y := rfl

theorem later_at {a b : ℕ} (ha : a < 2 ^ 31) (hb : b < 2 ^ 31) :
    (FloatOps.sitofp .f32 (BitVec.setWidth 32 (IntOp.cmpi .sgt (BitVec.ofNat 32 a) (BitVec.ofNat 32 b))) : Ideal .f32)
      = if b < a then (1 : EReal) else 0 := by
  rw [sgt_small ha hb, bit_float]
  simp

theorem pay2_at (qq : FVec Ideal S256x128 .bf16) (k : FVec Ideal S128x128 .bf16) (R : Fin 256) (c : Fin 128) :
    k0_pay2 qq k (ix2 R c) = ∑ l : Fin 128, qq (ix2 R l) * k (ix2 c l) := by
  pointwise [k0_pay2]

theorem pay116_at (qq : FVec Ideal S256x128 .bf16) (k : FVec Ideal S256x128 .bf16) (R : Fin 256) (c : Fin 256) :
    k0_pay116 qq k (ix2 R c) = ∑ l : Fin 128, qq (ix2 R l) * k (ix2 c l) := by
  pointwise [k0_pay116]

theorem pay3_at (qq : FVec Ideal S256x128 .bf16) (k : FVec Ideal S128x128 .bf16) (R : Fin 256) (c : Fin 128) :
    k0_pay3 qq k (ix2 R c) = lg (k0_pay2 qq k (ix2 R c)) := by
  pointwise [k0_pay3]
  rfl

theorem pay242_at (r c : Fin 128) : k0_pay242 (F := Ideal) (ix2 r c) = if c.val < r.val then 1 else 0 := by
  pointwise [k0_pay242]
  exact later_at (by omega) (by omega)

theorem pay5_at (qq : FVec Ideal S256x128 .bf16) (c : FVec Ideal S256x1 .f32) (k : FVec Ideal S128x128 .bf16) (R : Fin 256) :
    k0_pay5 qq c k (ix2 R 0) = c (ix2 R 0) + ∑ l : Fin 128, k0_pay3 qq k (ix2 R l) := by
  pointwise [k0_pay5]

theorem pay4_at (qq : FVec Ideal S256x128 .bf16) (later : FVec Ideal S128x128 .bf16) (c : FVec Ideal S256x1 .f32) (a : FVec Ideal S256x128 .f32)
    (k v : FVec Ideal S128x128 .bf16) (R : Fin 256) (d : Fin 128) :
    k0_pay4 qq later c a k v (ix2 R d) = a (ix2 R d) + ∑ l : Fin 128,
      Ideal.exp (k0_pay2 qq k (ix2 R l) + k0_pay3 qq k (ix2 R l)
        + ((∑ t : Fin 128, k0_pay3 qq k (ix2 R t) * later (ix2 t l))
          + (∑ t : Fin 128, (k0_pay3 qq k (ix2 R t) - k0_pay3 qq k (ix2 R t)) * later (ix2 t l)))
        + c (ix2 R 0)) * v (ix2 l d) := by
  pointwise [k0_pay4]

theorem pay83_at (r c : Fin 256) : k0_pay83 (F := Ideal) (ix2 r c) = if c.val < r.val then 1 else 0 := by
  pointwise [k0_pay83]
  exact later_at (by omega) (by omega)

theorem pay148_at (z : FVec Ideal S256x256 .f32) (st : IVec S256x256 1) (R c : Fin 256) :
    k0_pay148 z st (Scalar.ofBits .f32 0x00000000#32) (ix2 R c) = if st (ix2 R c) = 1#1 then lg (z (ix2 R c)) else 0 := by
  pointwise [k0_pay148]
  rfl

theorem pay173_at (m : FVec Ideal S256x256 .bf16) (l : FVec Ideal S256x256 .f32) (R c : Fin 256) :
    k0_pay173 m l (ix2 R c) = (∑ t : Fin 256, l (ix2 R t) * m (ix2 t c)) + ∑ t : Fin 256, (l (ix2 R t) - l (ix2 R t)) * m (ix2 t c) := by
  pointwise [k0_pay173]

theorem pay191_at (z l t : FVec Ideal S256x256 .f32) (st : IVec S256x256 1) (R c : Fin 256) :
    k0_pay191 z st l t (ix2 R c) = if st (ix2 R c) = 1#1 then Ideal.exp (z (ix2 R c) + l (ix2 R c) + t (ix2 R c)) else 0 := by
  pointwise [k0_pay191]
  rfl

theorem pay210_at (w : FVec Ideal S256x256 .bf16) (v : FVec Ideal S256x128 .bf16) (R : Fin 256) (d : Fin 128) :
    k0_pay210 w v (ix2 R d) = ∑ c : Fin 256, w (ix2 R c) * v (ix2 c d) := by
  pointwise [k0_pay210]

theorem pay226_at (l : FVec Ideal S256x256 .f32) (R : Fin 256) :
    k0_pay226 l (ix2 R 0) = ∑ c : Fin 256, l (ix2 R c) := by
  pointwise [k0_pay226]

theorem pay81_at (l : Fin 128) : k0_pay81 (ix2 0 l) = BitVec.ofBool (decide (l.val < 64)) := by
  pointwise [k0_pay81]
  exact slt_small (by omega) (by omega)

theorem eighth : Ideal.ofBits .bf16 0x3E00#16 = ((1 / 8 : ℝ) : EReal) := by
  simp [Ideal.ofBits, Ideal.ieee, -EReal.coe_mul]; norm_num

theorem eighth32 : Ideal.ofBits .f32 0x3E000000#32 = ((1 / 8 : ℝ) : EReal) := by
  simp [Ideal.ofBits, Ideal.ieee, -EReal.coe_mul]; norm_num

theorem ofBool_eq_one (p : Prop) [Decidable p] : (BitVec.ofBool (decide p) = 1#1) = p := by
  by_cases h : p <;> simp [h]

/-- The stacked queries: a row of head `R / 128` holds the query's lanes of that head, scaled, and zero elsewhere. -/
theorem pay84_at (q : Vec Ideal S128x128 .bf16) (R : Fin 256) (l : Fin 128) :
    k0_pay84 k0_pay81 q (ix2 R l) = if l.val / 64 = R.val / 128
      then (q (ix2 ⟨R.val % 128, Nat.mod_lt _ (by decide)⟩ l) : EReal) * ((1 / 8 : ℝ) : EReal) else 0 := by
  pointwise [k0_pay84]
  have hR := R.isLt
  have hl := l.isLt
  simp only [select_eq, pay81_at, ofBool_eq_one, eighth]
  by_cases h : R.val < 128
  · rw [dif_pos h]
    by_cases h2 : l.val < 64
    · rw [if_pos h2, if_pos (by omega)]
      simp only [Nat.mod_eq_of_lt h]
    · rw [if_neg h2, if_neg (by omega)]
  · rw [dif_neg h]
    by_cases h2 : l.val < 64
    · rw [if_pos h2, if_neg (by omega)]
    · rw [if_neg h2]
      refine Eq.trans ?_ (if_pos (by omega)).symm
      exact congrArg (fun t : Fin 128 => (q (ix2 t l) : EReal) * ((1 / 8 : ℝ) : EReal))
        (Fin.ext (by show R.val - 128 = R.val % 128; omega))

theorem pay243_at (m : IVec S1x128 1) (a : FVec Ideal S256x128 .f32) (r l : Fin 128) :
    k0_pay243 m a (ix2 r l) = if m (ix2 0 l) = 1#1 then a (ix2 ⟨r.val, by omega⟩ l) else a (ix2 ⟨128 + r.val, by omega⟩ l) := by
  pointwise [k0_pay243]
  rfl

theorem pay1_bot {c : FVec Ideal S256x1 .f32} (h : k0_pay1 c = ⊥) (R : Fin 256) : c (ix2 R 0) = ⊥ := by
  pointwise [k0_pay1] at h
  exact le_bot_iff.mp (((Finset.fold_max_le ⊥).mp h.le).2 (R, 0) (Finset.mem_univ _))

theorem pay82_at (R c : Fin 256) : k0_pay82 (ix2 R c) = BitVec.ofNat 32 c.val - BitVec.ofNat 32 (R.val % 128) := by
  pointwise [k0_pay82]
  refine congrArg (BitVec.ofNat 32 c.val - ·) ?_
  revert R; decide

theorem pay132_at (x : IVec S256x256 32) (a b : BitVec 32) (R c : Fin 256) :
    k0_pay132 x a b (ix2 R c) = IntOp.cmpi .slt (x (ix2 R c)) (Scalar.subi (Scalar.muli a 128#32) b) := by
  pointwise [k0_pay132]

/-- The sub-block's number, the grid's coordinate and the sub-block's place in its block. -/
def blkN (i : grid0.Coords) (s : Fin 16) : ℕ := (i 2).val * 16 + s.val

theorem blkN_lt (i : grid0.Coords) (s : Fin 16) : blkN i s < 64 := by
  have h : (i 2).val < 4 := (i 2).isLt
  have := s.isLt
  unfold blkN; omega

/-- The first key of the sub-block's window. -/
def winN (i : grid0.Coords) (s : Fin 16) : ℕ := (blkN i s - 1) * 128

theorem blkNo_eq (i : grid0.Coords) (s : Fin 16) : blkNo i s = BitVec.ofNat 32 (blkN i s) := by
  unfold blkNo blkN
  rw [BitVec.ofNat_add, BitVec.ofNat_mul]; rfl

theorem winAt_eq (i : grid0.Coords) (s : Fin 16) : winAt i s = BitVec.ofNat 32 (winN i s) := by
  unfold winAt winN
  rw [blkNo_eq]
  have h := blkN_lt i s
  generalize blkN i s = b at h
  exact (by decide : ∀ b : Fin 64, Scalar.muli (Scalar.maxsi (Scalar.subi (BitVec.ofNat 32 b.val) 1#32) 0#32) 128#32
    = BitVec.ofNat 32 ((b.val - 1) * 128)) ⟨b, h⟩

/-- The mask holds the keys before the query. -/
theorem strict_at (i : grid0.Coords) (s : Fin 16) (R c : Fin 256) :
    (strictB i s (ix2 R c) = 1#1) = (winN i s + c.val < blkN i s * 128 + R.val % 128) := by
  have hb := blkN_lt i s
  have hc := c.isLt
  have hr := Nat.mod_lt R.val (by decide : 0 < 128)
  have e : Scalar.subi (Scalar.muli (BitVec.ofNat 32 (blkN i s)) 128#32) (BitVec.ofNat 32 (winN i s))
      = BitVec.ofNat 32 (blkN i s * 128 - winN i s) := by
    unfold winN
    generalize blkN i s = b at hb
    exact (by decide : ∀ b : Fin 64, Scalar.subi (Scalar.muli (BitVec.ofNat 32 b.val) 128#32) (BitVec.ofNat 32 ((b.val - 1) * 128))
      = BitVec.ofNat 32 (b.val * 128 - (b.val - 1) * 128)) ⟨b, hb⟩
  have hw : winN i s ≤ blkN i s * 128 := by unfold winN; omega
  unfold strictB
  rw [pay132_at, pay82_at, blkNo_eq, winAt_eq, e]
  show (BitVec.ofBool (decide ((BitVec.ofNat 32 c.val - BitVec.ofNat 32 (R.val % 128)).toInt < (BitVec.ofNat 32 (blkN i s * 128 - winN i s)).toInt)) = 1#1) = _
  rw [ofBool_eq_one, BitVec.toInt_sub, toInt_small (by omega), toInt_small (by omega), toInt_small (by omega), Int.bmod_eq_of_le (by omega) (by omega)]
  exact propext (by omega)

end Cert.KernelIdeal.Hand

end
-- ==== Proof.PI.Val.lean ====
/- What a sub-block's walk leaves, row by row: the weighted values of every key before the query. -/
module

public import proofs.«01_k».proof.Proof.PI.Pay

@[expose] public section

set_option maxRecDepth 16384

noncomputable section

namespace Cert.KernelIdeal.Hand

open Cert.KernelIdeal Cert.KernelIdeal.Gen Cert.Stick
open Idealize.ShloMosaic

/-- Row `s` of a staged array, zero past its end. -/
def row (X : S8192x128.Idx → Elt Ideal .bf16) (s : ℕ) (l : Fin 128) : EReal :=
  if h : s < 8192 then X (ix2 ⟨s, h⟩ l) else 0

/-- The score of stacked row `R` against key `s`. -/
def sc (qq : FVec Ideal S256x128 .bf16) (Xk : S8192x128.Idx → Elt Ideal .bf16) (R : Fin 256) (s : ℕ) : EReal :=
  ∑ l : Fin 128, qq (ix2 R l) * row Xk s l

theorem blkAt_at (X : S8192x128.Idx → Elt Ideal .bf16) {j : ℕ} (hj : j < 64) (c l : Fin 128) :
    blkAt X (BitVec.ofNat 32 j) (ix2 c l) = row X (j * 128 + c.val) l := by
  have hc := c.isLt
  have key : ∀ n : Fin 64, k0_chk1 (BitVec.ofNat 32 n.val) ∧ k0_off2 (BitVec.ofNat 32 n.val) 0 = n.val * 128 := by decide +kernel
  obtain ⟨h1, h2⟩ := key ⟨j, hj⟩
  unfold blkAt row
  rw [dif_pos h1, dif_pos (by omega)]
  refine congrArg X ?_
  funext a
  fin_cases a
  · refine Fin.ext ?_
    show k0_off2 (BitVec.ofNat 32 j) 0 + 1 * c.val = j * 128 + c.val
    rw [h2, Nat.one_mul]
  · refine Fin.ext ?_
    show 0 + 1 * l.val = l.val
    omega

theorem winRows_at (X : S8192x128.Idx → Elt Ideal .bf16) (i : grid0.Coords) (s : Fin 16) (c : Fin 256) (l : Fin 128) :
    winRows i s X (ix2 c l) = row X (winN i s + c.val) l := by
  have hc := c.isLt
  have hb := blkN_lt i s
  have hw : winN i s ≤ 62 * 128 := by unfold winN; omega
  have h2 : k0_off1 i (BitVec.ofNat 32 s.val) 0 = winN i s := by
    have e : k0_off1 i (BitVec.ofNat 32 s.val) 0 = (winAt i s).toNat := rfl
    rw [e, winAt_eq, BitVec.toNat_ofNat, Nat.mod_eq_of_lt (by omega)]
  unfold winRows row
  rw [dif_pos (by omega)]
  refine congrArg X ?_
  funext a
  fin_cases a
  · refine Fin.ext ?_
    show k0_off1 i (BitVec.ofNat 32 s.val) 0 + 1 * c.val = winN i s + c.val
    rw [h2, Nat.one_mul]
  · refine Fin.ext ?_
    show 0 + 1 * l.val = l.val
    omega

theorem pay3_ne_top (qq : FVec Ideal S256x128 .bf16) (k : FVec Ideal S128x128 .bf16) (R : Fin 256) (c : Fin 128) :
    k0_pay3 qq k (ix2 R c) ≠ (⊤ : EReal) := by
  rw [pay3_at]; exact lg_ne_top _

section Walk

variable (Xk Xv : S8192x128.Idx → Elt Ideal .bf16) (qq : FVec Ideal S256x128 .bf16) (n : Fin 256 → ℕ)

theorem pay2_sc {j : ℕ} (hj : j < 64) (R : Fin 256) (c : Fin 128) :
    k0_pay2 qq (blkAt Xk (BitVec.ofNat 32 j)) (ix2 R c) = sc qq Xk R (j * 128 + c.val) := by
  rw [pay2_at]
  exact Finset.sum_congr rfl fun l _ => by rw [blkAt_at Xk hj]

/-- One visited block: the carry. -/
theorem carry_step {j : ℕ} (hj : j < 64) (c : FVec Ideal S256x1 .f32) (R : Fin 256) (hn : (j + 1) * 128 ≤ n R)
    (hc : c (ix2 R 0) = left (sc qq Xk R) ((j + 1) * 128) (n R)) :
    k0_pay5 qq c (blkAt Xk (BitVec.ofNat 32 j)) (ix2 R 0) = left (sc qq Xk R) (j * 128) (n R) := by
  rw [pay5_at, hc, ← left_block (sc qq Xk R) (b := j * 128) (N := 128) (by omega), show (j + 1) * 128 = j * 128 + 128 by omega]
  refine congrArg (left (sc qq Xk R) (j * 128 + 128) (n R) + ·) (Finset.sum_congr rfl fun l _ => ?_)
  rw [pay3_at, pay2_sc Xk qq hj]

/-- One visited block: the accumulator. -/
theorem acc_step {j : ℕ} (hj : j < 64) (c : FVec Ideal S256x1 .f32) (a : FVec Ideal S256x128 .f32) (R : Fin 256) (d : Fin 128)
    (hn : (j + 1) * 128 ≤ n R) (hc : c (ix2 R 0) = left (sc qq Xk R) ((j + 1) * 128) (n R))
    (ha : a (ix2 R d) = part (sc qq Xk R) (row Xv · d) ((j + 1) * 128) (n R)) :
    k0_pay4 qq k0_pay242 c a (blkAt Xk (BitVec.ofNat 32 j)) (blkAt Xv (BitVec.ofNat 32 j)) (ix2 R d)
      = part (sc qq Xk R) (row Xv · d) (j * 128) (n R) := by
  rw [pay4_at, ha, ← part_block (sc qq Xk R) (row Xv · d) (b := j * 128) (N := 128) (by omega), hc,
    show (j + 1) * 128 = j * 128 + 128 by omega]
  refine congrArg (part (sc qq Xk R) (row Xv · d) (j * 128 + 128) (n R) + ·) (Finset.sum_congr rfl fun l _ => ?_)
  have hl : (∑ t : Fin 128, k0_pay3 qq (blkAt Xk (BitVec.ofNat 32 j)) (ix2 R t) * k0_pay242 (F := Ideal) (ix2 t l))
      + (∑ t : Fin 128, (k0_pay3 qq (blkAt Xk (BitVec.ofNat 32 j)) (ix2 R t) - k0_pay3 qq (blkAt Xk (BitVec.ofNat 32 j)) (ix2 R t))
        * k0_pay242 (F := Ideal) (ix2 t l))
      = ∑ t : Fin 128, if l.val < t.val then lg (sc qq Xk R (j * 128 + t.val)) else 0 := by
    simp only [pay242_at]
    rw [hi_lo (fun t => k0_pay3 qq (blkAt Xk (BitVec.ofNat 32 j)) (ix2 R t)) (fun t => pay3_ne_top _ _ _ _) (fun t => l.val < t.val)]
    refine Finset.sum_congr rfl fun t _ => ?_
    rw [pay3_at, pay2_sc Xk qq hj]
  rw [hl, pay3_at, pay2_sc Xk qq hj, blkAt_at Xv hj]

theorem not_go {j : BitVec 32} {c : FVec Ideal S256x1 .f32} (hj : 0 ≤ j.toInt) (h : ¬ go j c = 1#1) (R : Fin 256) : c (ix2 R 0) = ⊥ := by
  refine pay1_bot ?_ R
  by_contra hb
  refine h ?_
  have h1 : Scalar.cmpi .sge j 0#32 = 1#1 := by
    show BitVec.ofBool (BitVec.sle 0#32 j) = 1#1
    rw [BitVec.sle_iff_toInt_le.mpr (by simpa using hj)]; rfl
  have h2 : Scalar.cmpf .ogt (k0_pay1 c) (Named.named κ "skip" 0xC2B00000#32 : Ideal .f32) = 1#1 := by
    show BitVec.ofBool (decide ((⊥ : EReal) < k0_pay1 c)) = 1#1
    rw [decide_eq_true (bot_lt_iff_ne_bot.mpr hb)]; rfl
  unfold go
  rw [h1, h2]; rfl

/-- A walk with `m` blocks to visit ends with every key before the query weighed in. -/
theorem wRes_at (R : Fin 256) (d : Fin 128) : ∀ (fuel m : ℕ) (j : BitVec 32) (c : FVec Ideal S256x1 .f32) (a : FVec Ideal S256x128 .f32),
    m ≤ fuel → m ≤ 64 → (m = 0 → j.toInt < 0) → (∀ k, m = k + 1 → j = BitVec.ofNat 32 k) → m * 128 ≤ n R →
    c (ix2 R 0) = left (sc qq Xk R) (m * 128) (n R) → a (ix2 R d) = part (sc qq Xk R) (row Xv · d) (m * 128) (n R) →
    (wRes Xk Xv qq k0_pay242 fuel j c a).2.2 (ix2 R d) = part (sc qq Xk R) (row Xv · d) 0 (n R) := by
  intro fuel
  induction fuel with
  | zero =>
    intro m j c a hm _ _ _ _ _ ha
    obtain rfl : m = 0 := by omega
    rw [Nat.zero_mul] at ha
    exact ha
  | succ f ih =>
    intro m j c a hm hm' h0 h1 hn hc ha
    rw [wRes]
    by_cases hg : go j c = 1#1
    · rw [if_pos hg]
      have hj := sge_of_go hg
      cases m with
      | zero => exact absurd (h0 rfl) (by omega)
      | succ k =>
        obtain rfl := h1 k rfl
        refine ih k _ _ _ (by omega) (by omega) ?_ ?_ (by omega) (carry_step Xk qq n (by omega) c R hn hc)
          (acc_step Xk Xv qq n (by omega) c a R d hn hc ha)
        · rintro rfl; decide
        · rintro k' rfl
          have key : ∀ t : Fin 64, Scalar.subi (BitVec.ofNat 32 (t.val + 1)) 1#32 = BitVec.ofNat 32 t.val := by decide
          exact key ⟨k', by omega⟩
    · rw [if_neg hg]
      cases m with
      | zero => rw [Nat.zero_mul] at ha; exact ha
      | succ k =>
        have hj := h1 k rfl
        have hb := not_go (by rw [hj, toInt_small (by omega)]; omega) hg R
        exact ha.trans (part_of_left_bot _ _ hn (hc.symm.trans hb)).symm

end Walk

section Block

variable (Xq : S2048x128.Idx → Elt Ideal .bf16) (Xk Xv : S8192x128.Idx → Elt Ideal .bf16) (i : grid0.Coords) (s : Fin 16)

/-- The query a stacked row belongs to, by its place in the sequence. -/
def qN (R : Fin 256) : ℕ := blkN i s * 128 + R.val % 128

theorem zB_at (q : Vec Ideal S128x128 .bf16) (R c : Fin 256) :
    zB q (winRows i s Xk) (ix2 R c) = sc (qqB q) Xk R (winN i s + c.val) := by
  unfold zB
  rw [pay116_at]
  exact Finset.sum_congr rfl fun l _ => by rw [winRows_at]

theorem lomB_at (q : Vec Ideal S128x128 .bf16) (R c : Fin 256) :
    lomB i s q (winRows i s Xk) (ix2 R c)
      = if winN i s + c.val < qN i s R then lg (sc (qqB q) Xk R (winN i s + c.val)) else 0 := by
  unfold lomB
  rw [pay148_at, zB_at]
  exact if_congr (iff_of_eq (strict_at i s R c)) rfl rfl

theorem qN_le (R : Fin 256) : qN i s R ≤ winN i s + 256 := by
  have := Nat.mod_lt R.val (by decide : 0 < 128)
  unfold qN winN; omega

theorem win_le (R : Fin 256) : winN i s ≤ qN i s R := by
  unfold qN winN; omega

theorem carryB_at (q : Vec Ideal S128x128 .bf16) (R : Fin 256) :
    carryB i s q (winRows i s Xk) (ix2 R 0) = left (sc (qqB q) Xk R) (winN i s) (qN i s R) := by
  unfold carryB
  rw [pay226_at, ← left_window _ (qN_le i s R)]
  exact Finset.sum_congr rfl fun c _ => lomB_at Xk i s q R c

theorem accB_at (q : Vec Ideal S128x128 .bf16) (R : Fin 256) (d : Fin 128) :
    accB i s q (winRows i s Xk) (winRows i s Xv) (ix2 R d)
      = part (sc (qqB q) Xk R) (row Xv · d) (winN i s) (qN i s R) := by
  unfold accB
  rw [pay210_at, ← part_window _ _ (qN_le i s R)]
  refine Finset.sum_congr rfl fun c _ => ?_
  rw [winRows_at]
  refine congrArg (· * row Xv (winN i s + c.val) d) ?_
  unfold wB
  rw [pay191_at, pay173_at]
  refine if_congr (iff_of_eq (strict_at i s R c)) ?_ rfl
  simp only [pay83_at]
  rw [hi_lo (fun t => lomB i s q (winRows i s Xk) (ix2 R t)) ?_ (fun t => c.val < t.val)]
  · simp only [lomB_at, zB_at]
  · intro t
    rw [lomB_at]
    split
    · exact lg_ne_top _
    · exact EReal.zero_ne_top

/-- The walk's end: every key before the row's query. -/
theorem walkB_at (R : Fin 256) (d : Fin 128) :
    walkB Xq Xk Xv i s (ix2 R d) = part (sc (qqB (qRows Xq s)) Xk R) (row Xv · d) 0 (qN i s R) := by
  have hb := blkN_lt i s
  unfold walkB
  refine wRes_at Xk Xv (qqB (qRows Xq s)) (qN i s) R d 64 (blkN i s - 1) _ _ _ (by omega) (by omega) ?_ ?_ (win_le i s R)
    (carryB_at Xk i s _ R) (accB_at Xk Xv i s _ R d)
  · intro h
    rw [blkNo_eq]
    generalize blkN i s = b at hb h
    exact (by decide : ∀ b : Fin 64, b.val - 1 = 0 → (Scalar.subi (BitVec.ofNat 32 b.val) 2#32).toInt < 0) ⟨b, hb⟩ h
  · intro k h
    rw [blkNo_eq, show blkN i s = k + 2 by omega]
    exact (by decide : ∀ t : Fin 64, Scalar.subi (BitVec.ofNat 32 (t.val + 2)) 2#32 = BitVec.ofNat 32 t.val) ⟨k, by omega⟩

end Block

end Cert.KernelIdeal.Hand

end
-- ==== Proof.Sum.Model.lean ====
/- The attention's result as one formula of the packed queries, keys and values. -/
module

public import proofs.«01_k».proof.Proof.Sum.Stick

@[expose] public section

noncomputable section

namespace Cert.Stick

open Idealize.ShloMosaic Finset

/-- An element of the packed array by its row and its column, zero outside. -/
def el (X : (⟨2, ![32768, 768]⟩ : Shape).Idx → EReal) (r c : ℕ) : EReal :=
  if h : r < 32768 ∧ c < 768 then X (ix2 ⟨r, h.1⟩ ⟨c, h.2⟩) else 0

theorem el_ix2 (X : (⟨2, ![32768, 768]⟩ : Shape).Idx → EReal) (r : Fin 32768) (c : Fin 768) :
    X (ix2 r c) = el X r.val c.val := by
  unfold el; rw [dif_pos ⟨r.isLt, c.isLt⟩]

/-- The score of the query in row `g` against key `s` of its sequence, in head `h`. -/
def score (X : (⟨2, ![32768, 768]⟩ : Shape).Idx → EReal) (g h s : ℕ) : EReal :=
  (∑ l : Fin 64, el X g (h * 64 + l.val) * el X (g / 8192 * 8192 + s) (256 + h * 64 + l.val)) * ((1 / 8 : ℝ) : EReal)

/-- The result at row `g` and column `col`. -/
def model (X : (⟨2, ![32768, 768]⟩ : Shape).Idx → EReal) (g col : ℕ) : EReal :=
  part (score X g (col / 64)) (fun s => el X (g / 8192 * 8192 + s) (512 + col)) 0 (g % 8192)

/-- Only the keys before the query matter. -/
theorem part_congr {z z' v v' : ℕ → EReal} {n : ℕ} (hz : ∀ s < n, z s = z' s) (hv : ∀ s < n, v s = v' s) :
    part z v 0 n = part z' v' 0 n := by
  refine Finset.sum_congr rfl fun s hs => ?_
  have h := (mem_Ico.mp hs).2
  rw [wt, wt, hz s h, hv s h]
  refine congrArg (fun T => Ideal.exp (z' s + lg (z' s) + T) * v' s) (Finset.sum_congr rfl fun t ht => ?_)
  rw [hz t (mem_Ico.mp ht).2]

/-- A real factor that is not negative goes through a sum. -/
theorem sum_mul_real {ι : Type} (u : Finset ι) (f : ι → EReal) {r : ℝ} (hr : 0 ≤ r) :
    (∑ i ∈ u, f i) * (r : EReal) = ∑ i ∈ u, f i * (r : EReal) := by
  classical
  induction u using Finset.induction_on with
  | empty => simp
  | insert a u ha ih =>
    rw [Finset.sum_insert ha, Finset.sum_insert ha, ← ih,
      EReal.right_distrib_of_nonneg_of_ne_top (EReal.coe_nonneg.mpr hr) (EReal.coe_ne_top _)]

/-- A product over 128 lanes in which only one half's are kept, as a sum over that half. -/
theorem half_sum (h : ℕ) (hh : h < 2) (f g : ℕ → EReal) :
    (∑ l : Fin 128, (if l.val / 64 = h then f l.val * ((1 / 8 : ℝ) : EReal) else 0) * g l.val)
      = (∑ l : Fin 64, f (h * 64 + l.val) * g (h * 64 + l.val)) * ((1 / 8 : ℝ) : EReal) := by
  rw [sum_mul_real _ _ (by norm_num)]
  rw [Fin.sum_univ_eq_sum_range (fun l => (if l / 64 = h then f l * ((1 / 8 : ℝ) : EReal) else 0) * g l) 128]
  rw [Fin.sum_univ_eq_sum_range (fun l => f (h * 64 + l) * g (h * 64 + l) * ((1 / 8 : ℝ) : EReal)) 64]
  have e : (range 128).filter (fun l => l / 64 = h) = Ico (h * 64) (h * 64 + 64) := by
    ext l; simp only [mem_filter, mem_range, mem_Ico]; omega
  have e2 : ∀ l, (if l / 64 = h then f l * ((1 / 8 : ℝ) : EReal) else 0) * g l
      = if l / 64 = h then f l * g l * ((1 / 8 : ℝ) : EReal) else 0 := fun l => by
    split
    · rw [mul_assoc, mul_assoc, mul_comm (g l)]
    · rw [zero_mul]
  simp only [e2]
  rw [← Finset.sum_filter, e, Finset.sum_Ico_eq_sum_range, Nat.add_sub_cancel_left]

end Cert.Stick

end
-- ==== Proof.PI.Final.lean ====
/- The kernel's result array: at every index the formula of `Sum/Model.lean`. -/
module

public import proofs.«01_k».proof.Proof.PI.Val
public import proofs.«01_k».proof.Proof.PI.Body
public import proofs.«01_k».proof.Proof.Sum.Model

@[expose] public section

set_option maxRecDepth 16384

noncomputable section

namespace Cert.KernelIdeal.Hand

open Cert.KernelIdeal Cert.KernelIdeal.Gen Cert.Stick
open Idealize.ShloMosaic Idealize.ShloMosaic.TcCoe Idealize.SL.Sem

/-- A row of the output's block, from the staged blocks. -/
theorem outC_at (Xq : S2048x128.Idx → Elt Ideal .bf16) (Xk Xv : S8192x128.Idx → Elt Ideal .bf16) (i : grid0.Coords) (r : Fin 2048) (l : Fin 128) :
    outC Xq Xk Xv i (ix2 r l) = part
      (fun s => (∑ d : Fin 64, (Xq (ix2 r ⟨l.val / 64 * 64 + d.val, by omega⟩) : EReal) * row Xk s ⟨l.val / 64 * 64 + d.val, by omega⟩) * ((1 / 8 : ℝ) : EReal))
      (row Xv · l) 0 ((i 2).val * 2048 + r.val) := by
  have hr := r.isLt
  have hl := l.isLt
  -- the stacked row
  let s : Fin 16 := ⟨r.val / 128, by omega⟩
  let R : Fin 256 := ⟨l.val / 64 * 128 + r.val % 128, by omega⟩
  have e1 : outC Xq Xk Xv i (ix2 r l) = walkB Xq Xk Xv i s (ix2 R l) := by
    refine (congrArg (outB Xq Xk Xv i s) (eq_ix2 (_ : S128x128.Idx))).trans ?_
    show k0_pay243 k0_pay81 (walkB Xq Xk Xv i s) (ix2 ⟨r.val % 128, Nat.mod_lt _ (by decide)⟩ l) = _
    rw [pay243_at, pay81_at]
    refine (if_congr (iff_of_eq (ofBool_eq_one (l.val < 64))) rfl rfl).trans ?_
    split
    · exact congrArg (fun t => walkB Xq Xk Xv i s (ix2 t l)) (Fin.ext (by show r.val % 128 = l.val / 64 * 128 + r.val % 128; omega))
    · exact congrArg (fun t => walkB Xq Xk Xv i s (ix2 t l)) (Fin.ext (by show 128 + r.val % 128 = l.val / 64 * 128 + r.val % 128; omega))
  have hn : qN i s R = (i 2).val * 2048 + r.val := by
    show ((i 2).val * 16 + r.val / 128) * 128 + (l.val / 64 * 128 + r.val % 128) % 128 = _
    omega
  rw [e1, walkB_at, hn]
  refine part_congr (fun t _ => ?_) (fun _ _ => rfl)
  -- the score
  unfold sc qqB
  have hq (d : Fin 128) : k0_pay84 k0_pay81 (qRows Xq s) (ix2 R d)
      = if d.val / 64 = l.val / 64 then (Xq (ix2 r d) : EReal) * ((1 / 8 : ℝ) : EReal) else 0 := by
    rw [pay84_at]
    refine if_congr ?_ (congrArg (· * ((1 / 8 : ℝ) : EReal)) (congrArg Xq ?_)) rfl
    · show d.val / 64 = (l.val / 64 * 128 + r.val % 128) / 128 ↔ _
      omega
    · funext a
      fin_cases a
      · refine Fin.ext ?_
        show 128 * (r.val / 128) + 1 * ((l.val / 64 * 128 + r.val % 128) % 128) = r.val
        omega
      · refine Fin.ext ?_
        show 0 + 1 * d.val = d.val
        omega
  simp only [hq]
  let f : ℕ → EReal := fun d => if h : d < 128 then Xq (ix2 r ⟨d, h⟩) else 0
  let g : ℕ → EReal := fun d => if h : d < 128 then row Xk t ⟨d, h⟩ else 0
  have hf (d : ℕ) (h : d < 128) : (Xq (ix2 r ⟨d, h⟩) : EReal) = f d := by
    show _ = (if h : d < 128 then (Xq (ix2 r ⟨d, h⟩) : EReal) else 0)
    rw [dif_pos h]
  have hg (d : ℕ) (h : d < 128) : row Xk t ⟨d, h⟩ = g d := by
    show _ = (if h : d < 128 then row Xk t ⟨d, h⟩ else 0)
    rw [dif_pos h]
  refine Eq.trans (Finset.sum_congr rfl fun d _ => ?_) ((half_sum (l.val / 64) (by omega) f g).trans ?_)
  · rw [← hf d.val d.isLt, ← hg d.val d.isLt]
  · refine congrArg (· * ((1 / 8 : ℝ) : EReal)) (Finset.sum_congr rfl fun d _ => ?_)
    rw [← hf _ (by omega), ← hg _ (by omega)]

variable (m : (ℓ : Loc nD τ sig) → Buf (Elt Ideal) ℓ)

theorem index_0 : ∀ t : Fin (cfg0 (F := Ideal)).N, win0_0.index t = ![(grid0.coords t 0).val * 4 + (grid0.coords t 2).val, (grid0.coords t 1).val] :=
  (by decide +kernel : ∀ t : Fin grid0.N, _)
theorem index_1 : ∀ t : Fin (cfg0 (F := Ideal)).N, win0_1.index t = ![(grid0.coords t 0).val, 2 + (grid0.coords t 1).val] :=
  (by decide +kernel : ∀ t : Fin grid0.N, _)
theorem index_2 : ∀ t : Fin (cfg0 (F := Ideal)).N, win0_2.index t = ![(grid0.coords t 0).val, 4 + (grid0.coords t 1).val] :=
  (by decide +kernel : ∀ t : Fin grid0.N, _)
theorem index_3 : ∀ t : Fin (cfg0 (F := Ideal)).N, win0_3.index t = ![(grid0.coords t 0).val * 4 + (grid0.coords t 2).val, (grid0.coords t 1).val] :=
  (by decide +kernel : ∀ t : Fin grid0.N, _)

/-- The argument on core `c`. -/
abbrev arg (c : Dev nD) : S32768x768.Idx → EReal := m ((c : Thread nD τ).loc main_arg0)

theorem el_of (X : S32768x768.Idx → EReal) (x : S32768x768.Idx) (r c : ℕ) (h0 : (x 0).val = r) (h1 : (x 1).val = c) : X x = el X r c := by
  subst h0 h1
  exact (congrArg X (eq_ix2 x)).trans (el_ix2 X (x 0) (x 1))

theorem qBlk_at (c : Dev nD) (t : Fin (cfg0 (F := Ideal)).N) (r : Fin 2048) (l : Fin 128) :
    qBlk m c t (ix2 r l) = el (arg m c) (((grid0.coords t 0).val * 4 + (grid0.coords t 2).val) * 2048 + r.val) ((grid0.coords t 1).val * 128 + l.val) := by
  refine el_of _ ((win0_0.blk t).view.emb (ix2 r l)) _ _ ?_ ?_ <;> blk_simp [index_0] <;> rfl

theorem kBlk_at (c : Dev nD) (t : Fin (cfg0 (F := Ideal)).N) (r : Fin 8192) (l : Fin 128) :
    kBlk m c t (ix2 r l) = el (arg m c) ((grid0.coords t 0).val * 8192 + r.val) ((2 + (grid0.coords t 1).val) * 128 + l.val) := by
  refine el_of _ ((win0_1.blk t).view.emb (ix2 r l)) _ _ ?_ ?_ <;> blk_simp [index_1] <;> rfl

theorem vBlk_at (c : Dev nD) (t : Fin (cfg0 (F := Ideal)).N) (r : Fin 8192) (l : Fin 128) :
    vBlk m c t (ix2 r l) = el (arg m c) ((grid0.coords t 0).val * 8192 + r.val) ((4 + (grid0.coords t 1).val) * 128 + l.val) := by
  refine el_of _ ((win0_2.blk t).view.emb (ix2 r l)) _ _ ?_ ?_ <;> blk_simp [index_2] <;> rfl

/-- The result array. -/
def res (X : S32768x768.Idx → EReal) : S32768x256.Idx → Elt Ideal .bf16 := fun j => model X (j 0).val (j 1).val

theorem row_k (c : Dev nD) (t : Fin (cfg0 (F := Ideal)).N) {s : ℕ} (hs : s < 8192) (l : Fin 128) :
    row (kBlk m c t) s l = el (arg m c) ((grid0.coords t 0).val * 8192 + s) ((2 + (grid0.coords t 1).val) * 128 + l.val) := by
  unfold row; rw [dif_pos hs, kBlk_at]

theorem row_v (c : Dev nD) (t : Fin (cfg0 (F := Ideal)).N) {s : ℕ} (hs : s < 8192) (l : Fin 128) :
    row (vBlk m c t) s l = el (arg m c) ((grid0.coords t 0).val * 8192 + s) ((4 + (grid0.coords t 1).val) * 128 + l.val) := by
  unfold row; rw [dif_pos hs, vBlk_at]

theorem out_model (c : Dev nD) (t : Fin (cfg0 (F := Ideal)).N) (r : Fin 2048) (l : Fin 128) (y : S2048x128.Idx) (hy : y = ix2 r l) :
    outC (qBlk m c t) (kBlk m c t) (vBlk m c t) (grid0.coords t) y
      = model (arg m c) (((grid0.coords t 0).val * 4 + (grid0.coords t 2).val) * 2048 + r.val) ((grid0.coords t 1).val * 128 + l.val) := by
  subst hy
  have hr := r.isLt
  have hl := l.isLt
  have hb : (grid0.coords t 0).val < 4 := (grid0.coords t 0).isLt
  have hp : (grid0.coords t 1).val < 2 := (grid0.coords t 1).isLt
  have hq : (grid0.coords t 2).val < 4 := (grid0.coords t 2).isLt
  rw [outC_at]
  generalize hbb : (grid0.coords t 0).val = b at hb
  generalize hpp : (grid0.coords t 1).val = p at hp
  generalize hqq : (grid0.coords t 2).val = q at hq
  unfold model
  rw [show ((b * 4 + q) * 2048 + r.val) % 8192 = q * 2048 + r.val by omega]
  refine part_congr (fun s hs => ?_) (fun s hs => ?_)
  · unfold score
    refine congrArg (· * ((1 / 8 : ℝ) : EReal)) (Finset.sum_congr rfl fun d _ => ?_)
    have hd := d.isLt
    rw [qBlk_at, row_k m c t (by omega), hbb, hpp, hqq]
    refine congrArg₂ (· * ·) (congrArg₂ (el (arg m c)) rfl ?_) (congrArg₂ (el (arg m c)) ?_ ?_)
    · show p * 128 + (l.val / 64 * 64 + d.val) = _; omega
    · omega
    · show (2 + p) * 128 + (l.val / 64 * 64 + d.val) = _; omega
  · rw [row_v m c t (by omega), hbb, hpp]
    refine congrArg₂ (el (arg m c)) ?_ ?_ <;> omega

theorem final_o (c : Dev nD) : (dats m 0 c).arrAt 3 (cfg0 (F := Ideal)).N = res (arg m c) := by
  refine (dats m 0 c).arrAt_eq_of_covers 3 _ (by decide +kernel) fun t hf y => ?_
  blk_simp
  show outC (qBlk m c t) (kBlk m c t) (vBlk m c t) (grid0.coords t) y = model (arg m c) ((win0_3.blk t).view.emb y 0).val ((win0_3.blk t).view.emb y 1).val
  have g0 : ((win0_3.blk t).view.emb y 0).val = ((grid0.coords t 0).val * 4 + (grid0.coords t 2).val) * 2048 + (y 0).val := by
    blk_simp [index_3] <;> rfl
  have g1 : ((win0_3.blk t).view.emb y 1).val = (grid0.coords t 1).val * 128 + (y 1).val := by
    blk_simp [index_3] <;> rfl
  rw [g0, g1]
  exact out_model m c t (y 0) (y 1) y (eq_ix2 y)

end Cert.KernelIdeal.Hand

end
-- ==== Proof.RI.Val.lean ====
/- The reference's result at an index: the formula of `Sum/Model.lean`. -/
module

public import proofs.«01_k».proof.Proof.Gen.ReferenceIdeal.Run
public import proofs.«01_k».proof.Proof.Sum.Model

@[expose] public section

set_option maxRecDepth 16384

noncomputable section

namespace Cert.ReferenceIdeal.Hand

open Cert.ReferenceIdeal Cert.ReferenceIdeal.Gen Cert.ReferenceIdeal.Value Cert.Stick
open Idealize.ShloMosaic Idealize.ShloMosaic.TcCoe Idealize.SL.Sem

/-- A left fold of sums is the sum. -/
theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- An element of the padded array whose first three places are inside. -/
theorem pad_elem {α : Type} {n0 n1 n2 N : ℕ} (x : (⟨4, ![n0, n1, n2, N]⟩ : Shape).Idx → α) (v0 : α) (b : Fin n0) (hd : Fin n1)
    (q : Fin n2) (k : ℕ) (P : Fin 4 → ℕ) (h0 : P 0 = b.val) (h1 : P 1 = hd.val) (h2 : P 2 = q.val) (h3 : P 3 = k)
    {D : Decidable (∀ a : Fin 4, (![0, 0, 0, 0] : Fin 4 → ℕ) a ≤ P a ∧
      P a - (![0, 0, 0, 0] : Fin 4 → ℕ) a < (![n0, n1, n2, N] : Fin 4 → ℕ) a)} :
    (if hin : ∀ a : Fin 4, (![0, 0, 0, 0] : Fin 4 → ℕ) a ≤ P a ∧ P a - (![0, 0, 0, 0] : Fin 4 → ℕ) a < (![n0, n1, n2, N] : Fin 4 → ℕ) a
      then x (fun a => ⟨P a - (![0, 0, 0, 0] : Fin 4 → ℕ) a, (hin a).2⟩) else v0)
      = if hs : k < N then x (ix4 b hd q ⟨k, hs⟩) else v0 := by
  by_cases hs : k < N
  · have hin : ∀ a : Fin 4, (![0, 0, 0, 0] : Fin 4 → ℕ) a ≤ P a ∧ P a - (![0, 0, 0, 0] : Fin 4 → ℕ) a < (![n0, n1, n2, N] : Fin 4 → ℕ) a := by
      intro a
      have := b.isLt; have := hd.isLt; have := q.isLt
      fin_cases a
      · show 0 ≤ P 0 ∧ P 0 - 0 < n0; omega
      · show 0 ≤ P 1 ∧ P 1 - 0 < n1; omega
      · show 0 ≤ P 2 ∧ P 2 - 0 < n2; omega
      · show 0 ≤ P 3 ∧ P 3 - 0 < N; omega
    refine (dif_pos hin).trans (Eq.trans ?_ (dif_pos hs).symm)
    refine congrArg x (funext fun a => Fin.ext ?_)
    fin_cases a
    · exact h0
    · exact h1
    · exact h2
    · exact h3
  · rw [dif_neg hs]
    refine dif_neg fun hin => hs ?_
    have h : P 3 - 0 < N := (hin 3).2
    omega

/-- The running sum from the far end: every element from place `s` on. -/
theorem window_gen {n0 n1 n2 N p : ℕ} {u : Shape} (x : FVec Ideal (⟨4, ![n0, n1, n2, N]⟩ : Shape) .f32) (v : u.Idx → Ideal .f32)
    (h : (⟨4, ![n0, n1, n2, N]⟩ : Shape).ReduceWindows (![1, 1, 1, N] : Fin 4 → ℕ) ![1, 1, 1, 1] ![0, 0, 0, 0] ![0, 0, 0, p]
      ⟨4, ![n0, n1, n2, N]⟩)
    (hu : 0 < u.numel) (b : Fin n0) (hd : Fin n1) (q : Fin n2) (s : Fin N) :
    Host.reduceWindowAdd (F := Ideal) (φ := .f32) (s := ⟨4, ![n0, n1, n2, N]⟩) (t := ⟨4, ![n0, n1, n2, N]⟩)
        (![1, 1, 1, N] : Fin 4 → ℕ) ![1, 1, 1, 1] ![0, 0, 0, 0] ![0, 0, 0, p] x v h hu (ix4 b hd q s)
      = ((v (Shape.Idx.first hu) + ∑ t : Fin N,
          if hs : s.val + t.val < N then x (ix4 b hd q ⟨s.val + t.val, hs⟩) else v (Shape.Idx.first hu) : EReal) : Ideal .f32) := by
  unfold Host.reduceWindowAdd
  generalize v (Shape.Idx.first hu) = v0
  refine Eq.trans (b := Ideal.hostReduceWindowAdd (s := ⟨4, ![n0, n1, n2, N]⟩) (![1, 1, 1, N] : Fin 4 → ℕ) ![1, 1, 1, 1] ![0, 0, 0, 0]
    ![0, 0, 0, p] h x v0 (ix4 b hd q s)) rfl ?_
  unfold Ideal.hostReduceWindowAdd Host.reduceWindow
  dsimp only
  rw [foldl_add, ← List.ofFn_eq_map, List.sum_ofFn]
  let G : (⟨4, ![1, 1, 1, N]⟩ : Shape).Idx → EReal := fun w =>
    if hs : s.val + (w 3).val < N then x (ix4 b hd q ⟨s.val + (w 3).val, hs⟩) else v0
  refine congrArg (fun y : EReal => v0 + y) (Eq.trans (Finset.sum_congr rfl fun n _ => ?_)
    ((Equiv.sum_comp (Shape.rowMajor ⟨4, ![1, 1, 1, N]⟩).symm G).trans ((sum_idx4 G).trans ?_)))
  · have low (w : (⟨4, ![1, 1, 1, N]⟩ : Shape).Idx) : (w 0).val = 0 ∧ (w 1).val = 0 ∧ (w 2).val = 0 :=
      ⟨Nat.lt_one_iff.mp (w 0).isLt, Nat.lt_one_iff.mp (w 1).isLt, Nat.lt_one_iff.mp (w 2).isLt⟩
    obtain ⟨w0, w1, w2⟩ := low ((Shape.rowMajor ⟨4, ![1, 1, 1, N]⟩).symm n)
    refine pad_elem (α := EReal) x v0 b hd q (s.val + ((Shape.rowMajor ⟨4, ![1, 1, 1, N]⟩).symm n 3).val) (fun a => (ix4 b hd q s (a.cast h.1.symm)).val * (![1, 1, 1, 1] : Fin 4 → ℕ) a
      + ((Shape.rowMajor ⟨4, ![1, 1, 1, N]⟩).symm n a).val) ?_ ?_ ?_ ?_
    · show b.val * 1 + _ = _; rw [w0]; omega
    · show hd.val * 1 + _ = _; rw [w1]; omega
    · show q.val * 1 + _ = _; rw [w2]; omega
    · show s.val * 1 + _ = _; rw [Nat.mul_one]
  · simp only [Fin.sum_univ_one, Finset.univ_unique, Finset.sum_singleton]
    rfl

/-- The same at the program's shapes. -/
theorem window_at {u : Shape} (x : FVec Ideal S4x4x8192x8192 .f32) (v : u.Idx → Ideal .f32)
    (h : S4x4x8192x8192.ReduceWindows (![1, 1, 1, 8192] : Fin 4 → ℕ) ![1, 1, 1, 1] ![0, 0, 0, 0] ![0, 0, 0, 8191] S4x4x8192x8192)
    (hu : 0 < u.numel) (b hd : Fin 4) (q s : Fin 8192) :
    Host.reduceWindowAdd (F := Ideal) (φ := .f32) ![1, 1, 1, 8192] ![1, 1, 1, 1] ![0, 0, 0, 0] ![0, 0, 0, 8191] x v h hu (ix4 b hd q s)
      = ((v (Shape.Idx.first hu) + ∑ t : Fin 8192,
          if hs : s.val + t.val < 8192 then x (ix4 b hd q ⟨s.val + t.val, hs⟩) else v (Shape.Idx.first hu) : EReal) : Ideal .f32) :=
  window_gen x v h hu b hd q s

end Cert.ReferenceIdeal.Hand

end
-- ==== Proof.RI.Res.lean ====
/- The reference's result at an index: the formula of `Sum/Model.lean`. -/
module

public import proofs.«01_k».proof.Proof.RI.Val
public import proofs.«01_k».proof.Proof.PI.Pay

@[expose] public section

set_option maxRecDepth 16384

noncomputable section

namespace Cert.ReferenceIdeal.Hand

open Cert.ReferenceIdeal Cert.ReferenceIdeal.Gen Cert.ReferenceIdeal.Value Cert.Stick
open Idealize.ShloMosaic Idealize.ShloMosaic.TcCoe Idealize.SL.Sem
open Cert.KernelIdeal.Hand (slt_small select_eq ofBool_eq_one eighth32)
open Finset (Ico mem_Ico)

/-- The host's log-sigmoid. -/
theorem lg_host (x : EReal) : -(max x 0 + Ideal.log1p (Ideal.exp (-(FloatOps.absf (F := Ideal) (φ := .f32) x)))) = lg x := by
  rw [lg, zero_sub, zero_sub]; rfl

/-- The reference's sum over the keys, as the sum the kernel forms. -/
theorem ref_sum (z v : ℕ → EReal) {N n : ℕ} (hn : n ≤ N) :
    (∑ x : Fin N, v x.val * if x.val < n then
        Ideal.exp (lg (-z x.val) + ((∑ t : Fin N, if x.val + t.val < N then (if x.val + t.val < n then lg (z (x.val + t.val)) else 0) else 0)
          - if x.val < n then lg (z x.val) else 0)) else 0) = part z v 0 n := by
  rw [part, ← fin_sum_ico 0 N 0 n le_rfl (by omega)]
  refine Finset.sum_congr rfl fun x _ => ?_
  simp only [Nat.zero_add, Nat.zero_le, true_and]
  by_cases hx : x.val < n
  · rw [if_pos hx, if_pos hx, if_pos hx, mul_comm]
    have e : (∑ t : Fin N, if x.val + t.val < N then (if x.val + t.val < n then lg (z (x.val + t.val)) else 0) else 0)
        = lg (z x.val) + left z (x.val + 1) n := by
      rw [left, ← Finset.sum_eq_sum_Ico_succ_bot hx (fun t => lg (z t)),
        ← fin_sum_ico x.val N x.val n le_rfl (by omega) (fun t => lg (z t))]
      refine Finset.sum_congr rfl fun t _ => ?_
      by_cases ht : x.val + t.val < n
      · rw [if_pos (by omega), if_pos ht, if_pos ⟨by omega, ht⟩]
      · rw [if_neg ht, ite_self, if_neg fun h => ht h.2]
    rw [e, lg_neg_add, wt]
  · rw [if_neg hx, if_neg hx, mul_zero]

/-- The mask, read as a condition on the places. -/
theorem mask_at {a b : ℕ} (ha : a < 2 ^ 31) (hb : b < 2 ^ 31) (x y : EReal) :
    Scalar.select (IntOp.cmpi .slt (BitVec.ofNat 32 a) (BitVec.ofNat 32 b)) x y = if a < b then x else y := by
  rw [slt_small ha hb, select_eq]
  exact if_congr (iff_of_eq (ofBool_eq_one _)) rfl rfl

theorem zero_at : (id (constant (F := Ideal) S_ FTy.f32 0x00000000#32) ix0 : EReal) = 0 := by
  show (constant (F := Ideal) S_ FTy.f32 0x00000000#32 ix0 : EReal) = 0
  pointwise []

/-- The score, from the elements of the argument. -/
theorem score_at (X : (⟨2, ![32768, 768]⟩ : Shape).Idx → EReal) (g : Fin 32768) (col : Fin 256) (s : ℕ)
    (hs : g.val / 8192 * 8192 + s < 32768) :
    (∑ l : Fin 64, X (ix2 g ⟨col.val / 64 * 64 + l.val, by omega⟩)
      * X (ix2 ⟨g.val / 8192 * 8192 + s, hs⟩ ⟨256 + (col.val / 64 * 64 + l.val), by omega⟩)) * ((1 / 8 : ℝ) : EReal)
      = score X g.val (col.val / 64) s := by
  rw [score]
  refine congrArg (· * ((1 / 8 : ℝ) : EReal)) (Finset.sum_congr rfl fun l _ => ?_)
  rw [el_ix2 X, el_ix2 X, Nat.add_assoc 256]

/-- The reference's result at an index. -/
theorem res_at (m : (ℓ : Loc nD τ sig) → Buf (Elt Ideal) ℓ) (c : Dev nD) (g : Fin 32768) (col : Fin 256) :
    res_main_v28 m c (ix2 g col) = model (m ((c : Thread nD τ).loc main_arg0)) g.val col.val := by
  have hg : g.val % 8192 < 8192 := Nat.mod_lt _ (by omega)
  unfold res_main_v28
  pointwise [window_at]
  simp only [ne_eq, not_true_eq_false, if_false, lg_host, zero_at, neg_neg, eighth32]
  refine Eq.trans (Finset.sum_congr (M := EReal) rfl fun x _ => ?_)
    (ref_sum (score (m ((c : Thread nD τ).loc main_arg0)) g.val (col.val / 64))
      (fun s => el (m ((c : Thread nD τ).loc main_arg0)) (g.val / 8192 * 8192 + s) (512 + col.val)) (Nat.le_of_lt hg))
  rw [mask_at (by omega) (by omega), mask_at (by omega) (by omega)]
  have hz := score_at (m ((c : Thread nD τ).loc main_arg0)) g col
  refine congrArg₂ (fun a b : EReal => a * b) (el_ix2 (m ((c : Thread nD τ).loc main_arg0)) _ _) (if_congr Iff.rfl (congrArg Ideal.exp (congrArg₂ (· + ·) (congrArg (fun y => lg (-y)) (hz _ _))
    (congrArg₂ (· - ·) (Finset.sum_congr rfl fun t _ => ?_) (if_congr Iff.rfl (congrArg lg (hz _ _)) rfl)))) rfl)
  by_cases ht : x.val + t.val < 8192
  · rw [dif_pos ht, if_pos ht, mask_at (by omega) (by omega)]
    exact if_congr Iff.rfl (congrArg lg (hz _ _)) rfl
  · rw [dif_neg ht, if_neg ht]

end Cert.ReferenceIdeal.Hand

end
-- ==== Proof.Value.lean ====
/- The kernel and the reference end with the same result over the extended reals. -/
module

public import proofs.«01_k».proof.Proof.Frames
public import proofs.«01_k».proof.Proof.PI.Final
public import proofs.«01_k».proof.Proof.RI.Res

@[expose] public section

noncomputable section

namespace Cert.Value

open Idealize.ShloMosaic Idealize.ShloMosaic.TcCoe Idealize.SL.Sem

/-- From equal arguments both programs leave the array of `Sum/Model.lean`. -/
theorem algebraic : Cert.algebraic_KernelIdeal_ReferenceIdeal := fun m ρ m' ρ' _ hm =>
  ⟨fun c => Cert.KernelIdeal.Hand.res (Cert.KernelIdeal.Hand.arg m c),
    (θ_run Cert.KernelIdeal.defs _ _).mono
      (fun _ h c => ⟨(Pipeline.FramePost.out_eq h.1 c 3).trans (Cert.KernelIdeal.Hand.final_o m c), Cert.KernelIdeal.Hand.final_arg0 h.1 c⟩)
      (Cert.KernelIdeal.Hand.run_main (F := Ideal) m ρ),
    (θ_run Cert.ReferenceIdeal.defs _ _).mono
      (fun _ h c => ⟨(h c).1.trans (funext fun j => by
          rw [eq_ix2 j]
          refine (Cert.ReferenceIdeal.Hand.res_at m' c (j 0) (j 1)).trans ?_
          rw [hm c]
          rfl), (h c).2⟩)
      (Cert.ReferenceIdeal.Value.run (F := Ideal) m' ρ')⟩

end Cert.Value

end
-- ==== Proof.Ffn.Model.lean ====
/- What the feed-forward call computes, element by element, over plain functions of a row and a column. -/
module

public import Idealize.ShloMosaic.Lib.Pointwise

@[expose] public section

noncomputable section

namespace Cert.FfnModel

open Idealize.ShloMosaic

/-- An array's element at two natural numbers, zero outside the array. -/
def el {n m : ℕ} (X : (⟨2, ![n, m]⟩ : Shape).Idx → EReal) (r c : ℕ) : EReal :=
  if h : r < n ∧ c < m then X (ix2 ⟨r, h.1⟩ ⟨c, h.2⟩) else 0

theorem el_ix2 {n m : ℕ} (X : (⟨2, ![n, m]⟩ : Shape).Idx → EReal) (r : Fin n) (c : Fin m) :
    X (ix2 r c) = el X r.val c.val := by
  rw [el, dif_pos ⟨r.isLt, c.isLt⟩]

/-- The call's arguments: the layer's input, the projections for the short convolution, the two other mixers'
outputs, and the weights (short convolution, the three parts of the output projection, the norm, up, its
convolution, down, the final norm). -/
structure Args where
  (x osc yg ysb ws wa wb wc wn wu wk wd wf : ℕ → ℕ → EReal)

/-- The value `d` rows earlier in the same sequence of 8192 rows, zero before its start. -/
def back (f : ℕ → EReal) (d r : ℕ) : EReal := if d ≤ r % 8192 then f (r - d) else 0

/-- The causal convolution of width three along the rows. -/
def cv (f : ℕ → EReal) (w0 w1 w2 : EReal) (r : ℕ) : EReal := f r * w2 + back f 1 r * w1 + back f 2 r * w0

/-- A row of 1024 values over its root mean square, times a weight, at one column. -/
def rms (f : ℕ → EReal) (w : EReal) (c : ℕ) : EReal :=
  f c * Ideal.rsqrt (Ideal.div (∑ i : Fin 1024, f i.val * f i.val) (Ideal.ofBits FTy.f32 1149239296#32)
    + Ideal.ofBits FTy.f32 897988541#32) * w

variable (a : Args)

/-- The short convolution's input. -/
def sc (k r : ℕ) : EReal := a.osc r (256 + k) * a.osc r (512 + k)

/-- The short convolution mixer's output. -/
def ysc (r k : ℕ) : EReal := a.osc r k * cv (sc a k) (a.ws 0 k) (a.ws 1 k) (a.ws 2 k) r

/-- The residual after the mixers. -/
def xn (r c : ℕ) : EReal :=
  a.x r c + ∑ k : Fin 256, ysc a r k.val * a.wa k.val c + ∑ k : Fin 512, a.yg r k.val * a.wb k.val c
    + ∑ k : Fin 256, a.ysb r k.val * a.wc k.val c

/-- The up projection of the normed residual. -/
def up (j r : ℕ) : EReal := ∑ d : Fin 1024, rms (xn a r) (a.wn 0 d.val) d.val * a.wu d.val j

/-- The up projection after its convolution. -/
def gate (r j : ℕ) : EReal := cv (up a j) (a.wk 0 j) (a.wk 1 j) (a.wk 2 j) r

/-- A value gated by its column's partner. -/
def glu (g v : EReal) : EReal := g * Ideal.div 1 (1 + Ideal.exp (-g)) * v

/-- The gated activation. -/
def act (r j : ℕ) : EReal := glu (gate a r j) (gate a r (2816 + j))

/-- The residual after the feed-forward. -/
def yn (r c : ℕ) : EReal := xn a r c + ∑ j : Fin 2816, act a r j.val * a.wd j.val c

/-- The call's result. -/
def out (r c : ℕ) : EReal := rms (yn a r) (a.wf 0 c) c

/-- A sum over 1024 columns, cut at the borders of the three mixers. -/
theorem sum_cut (F : ℕ → EReal) : ∑ x : Fin 1024, F x.val
    = ∑ x : Fin 256, F x.val + (∑ x : Fin 512, F (256 + x.val) + ∑ x : Fin 256, F (768 + x.val)) := by
  have h1 := Finset.sum_range F (n := 1024)
  have h2 := Finset.sum_range F (n := 256)
  have h3 := Finset.sum_range (fun x => F (256 + x)) (n := 512)
  have h4 := Finset.sum_range (fun x => F (768 + x)) (n := 256)
  rw [← h1, ← h2, ← h3, ← h4, show (1024 : ℕ) = 256 + 512 + 256 from rfl, Finset.sum_range_add, Finset.sum_range_add, add_assoc]

end Cert.FfnModel
end
-- ==== Proof.Ffn.Block.lean ====
/- The blocks of the feed-forward kernel, read at an element.

The kernel works on 512 rows at a time. The vector expressions of one block are named here once and read at a
row and a column, as the model's values at the block's rows. -/
module

public import proofs.«01_k».proof.Proof.Ffn.Model
public import proofs.«01_k».proof.Proof.Gen.FfnIdeal.Skeleton

@[expose] public section

set_option maxRecDepth 16384

noncomputable section

namespace Cert.FfnBlock

open Idealize.ShloMosaic Cert.FfnIdeal Cert.FfnIdeal.Gen Cert.FfnModel

/-- Eight rows from before the block (or zeros, at the first block of a sequence) above its 512 rows. -/
def cat (keep : BitVec 1) (u : FVec Ideal S512x256 .f32) (halo : FVec Ideal S8x256 .f32) : FVec Ideal S520x256 .f32 :=
  concatenate S520x256 0 [⟨S8x256, Scalar.select keep halo (broadcast S8x256 (Scalar.ofBits .f32 0x00000000#32))⟩, ⟨S512x256, u⟩]
    concatenates_S8x256_S512x256_S520x256_d0

/-- The causal convolution of width three of one block's 256 columns. -/
def conv (keep : BitVec 1) (u : FVec Ideal S512x256 .f32) (halo : FVec Ideal S8x256 .f32) (w : FVec Ideal S3x256 .f32) :
    FVec Ideal S512x256 .f32 :=
  addf (addf
    (mulf (extractStridedSlice S512x256 ![8, 0] (cat keep u halo) slices_S520x256_o8_0_S512x256)
      (broadcastTo S512x256 (extractStridedSlice S1x256 ![2, 0] w slices_S3x256_o2_0_S1x256) broadcasts_S1x256_S512x256))
    (mulf (extractStridedSlice S512x256 ![7, 0] (cat keep u halo) slices_S520x256_o7_0_S512x256)
      (broadcastTo S512x256 (extractStridedSlice S1x256 ![1, 0] w slices_S3x256_o1_0_S1x256) broadcasts_S1x256_S512x256)))
    (mulf (extractStridedSlice S512x256 ![6, 0] (cat keep u halo) slices_S520x256_o6_0_S512x256)
      (broadcastTo S512x256 (extractStridedSlice S1x256 ![0, 0] w slices_S3x256_o0_0_S1x256) broadcasts_S1x256_S512x256))

/-- The residual after the mixers, of one block. -/
def residv (keep : BitVec 1) (xb xc xh : FVec Ideal S512x256 .f32) (pc ph : FVec Ideal S8x256 .f32) (ws : FVec Ideal S3x256 .f32)
    (x : FVec Ideal S512x1024 .f32) (wa : FVec Ideal S256x1024 .bf16) (yg : FVec Ideal S512x512 .bf16) (wb : FVec Ideal S512x1024 .bf16)
    (ysb : FVec Ideal S512x256 .bf16) (wc : FVec Ideal S256x1024 .bf16) : FVec Ideal S512x1024 .f32 :=
  addf (addf (addf x (matmul dot_S512x256_S256x1024_S512x1024_1_0_0_1_n_n none
      (truncf .bf16 (mulf xb (conv keep (mulf xc xh) (mulf pc ph) ws)) bitsLt_bf16_f32) wa (constant S512x1024 .f32 0x00000000#32)))
    (matmul dot_S512x512_S512x1024_S512x1024_1_0_0_1_n_n none yg wb (constant S512x1024 .f32 0x00000000#32)))
    (matmul dot_S512x256_S256x1024_S512x1024_1_0_0_1_n_n none ysb wc (constant S512x1024 .f32 0x00000000#32))

/-- One block's rows over their root mean squares, times the weights. -/
def normv (X : FVec Ideal S512x1024 .f32) (w : FVec Ideal S1x1024 .f32) : FVec Ideal S512x1024 .f32 :=
  mulf (mulf X (broadcastTo S512x1024 (rsqrt (addf (divf (shapeCast S512x1
      (multiReduction .add [1] S512 (mulf X X) 0x00000000#32 reduces_S512x1024_S512 (.inl rfl) rfl) shapeCasts_S512_S512x1)
      (broadcast S512x1 (Scalar.ofBits .f32 0x44800000#32))) (broadcast S512x1 (Scalar.ofBits .f32 0x358637BD#32))))
    broadcasts_S512x1_S512x1024)) (broadcastTo S512x1024 w broadcasts_S1x1024_S512x1024)

/-- One block of 256 columns of the up projection. -/
def upv (h : FVec Ideal S512x1024 .bf16) (w : FVec Ideal S1024x256 .bf16) : FVec Ideal S512x256 .f32 :=
  matmul dot_S512x1024_S1024x256_S512x256_1_0_0_1_n_n none h w (constant S512x256 .f32 0x00000000#32)

/-- Its last eight rows, which the next block reads. -/
def tailv (u : FVec Ideal S512x256 .f32) : FVec Ideal S8x256 .f32 :=
  shapeCast S8x256 (extractStridedSlice S8x256 ![504, 0] u slices_S512x256_o504_0_S8x256) shapeCasts_S8x256_S8x256

/-- The gated activation of a block of gate columns and the block of value columns beside it. -/
def actv (g v : FVec Ideal S512x256 .f32) : FVec Ideal S512x256 .bf16 :=
  shapeCast S512x256 (truncf .bf16 (mulf (mulf g (divf (broadcast S512x256 (Scalar.ofBits .f32 0x3F800000#32))
    (addf (broadcast S512x256 (Scalar.ofBits .f32 0x3F800000#32))
      (exp (subf (broadcast S512x256 (Scalar.ofBits .f32 0x00000000#32)) g))))) v) bitsLt_bf16_f32) shapeCasts_S512x256_S512x256

/-- The residual plus the down projection. -/
def downv (X : FVec Ideal S512x1024 .f32) (A : FVec Ideal S512x2816 .bf16) (w : FVec Ideal S2816x1024 .bf16) : FVec Ideal S512x1024 .f32 :=
  addf X (matmul dot_S512x2816_S2816x1024_S512x1024_1_0_0_1_n_n none A w (constant S512x1024 .f32 0x00000000#32))

/-- What the block's start says of the rows before it: none in its sequence, or at least 512. -/
structure Start (keep : BitVec 1) (g : ℕ) : Prop where
  tile : g % 512 = 0
  first : keep ≠ 1#1 → g % 8192 = 0
  later : keep = 1#1 → 512 ≤ g % 8192

theorem select_halo (keep : BitVec 1) (x y : EReal) : Scalar.select keep x y = if keep = 1#1 then x else y := rfl

theorem conv_at {keep : BitVec 1} {g : ℕ} (hs : Start keep g) (u : FVec Ideal S512x256 .f32) (halo : FVec Ideal S8x256 .f32)
    (w : FVec Ideal S3x256 .f32) (k : Fin 256) (f : ℕ → EReal) (hu : ∀ r : Fin 512, u (ix2 r k) = f (g + r.val))
    (hh : keep = 1#1 → ∀ i : Fin 8, halo (ix2 i k) = f (g - 8 + i.val)) (r : Fin 512) :
    conv keep u halo w (ix2 r k) = cv f (w (ix2 0 k)) (w (ix2 1 k)) (w (ix2 2 k)) (g + r.val) := by
  obtain ⟨h1, h2, h3⟩ := hs
  have back_eq : ∀ (d : ℕ) (hd : 1 ≤ d ∧ d ≤ 2), (if h : (8 - d) + r.val < 8 then
      Scalar.select keep (halo (ix2 ⟨(8 - d) + r.val, h⟩ k)) 0 else u (ix2 ⟨(8 - d) + r.val - 8, by omega⟩ k)) = back f d (g + r.val) := by
    intro d hd
    unfold back
    by_cases h : (8 - d) + r.val < 8
    · rw [dif_pos h, select_halo]
      by_cases hk : keep = 1#1
      · have := h3 hk
        rw [if_pos hk, hh hk, if_pos (by omega)]
        exact congrArg f (show g - 8 + (8 - d + r.val) = g + r.val - d by omega)
      · have := h2 hk
        rw [if_neg hk, if_neg (by omega)]
    · rw [dif_neg h, hu, if_pos (by omega)]
      exact congrArg f (show g + (8 - d + r.val - 8) = g + r.val - d by omega)
  unfold conv cat
  pointwise
  unfold cv
  rw [← back_eq 1 (by omega), ← back_eq 2 (by omega), hu]

theorem actv_at (g v : FVec Ideal S512x256 .f32) (r : Fin 512) (k : Fin 256) : actv g v (ix2 r k) = glu (g (ix2 r k)) (v (ix2 r k)) := by
  unfold actv
  pointwise
  rw [zero_sub]
  rfl

theorem upv_at (h : FVec Ideal S512x1024 .bf16) (w : FVec Ideal S1024x256 .bf16) (r : Fin 512) (k : Fin 256) :
    upv h w (ix2 r k) = ∑ d : Fin 1024, h (ix2 r d) * w (ix2 d k) := by
  unfold upv
  pointwise

theorem tailv_at (u : FVec Ideal S512x256 .f32) (i : Fin 8) (k : Fin 256) : tailv u (ix2 i k) = u (ix2 ⟨504 + i.val, by omega⟩ k) := by
  unfold tailv
  pointwise

theorem downv_at (X : FVec Ideal S512x1024 .f32) (A : FVec Ideal S512x2816 .bf16) (w : FVec Ideal S2816x1024 .bf16) (r : Fin 512) (c : Fin 1024) :
    downv X A w (ix2 r c) = X (ix2 r c) + ∑ j : Fin 2816, A (ix2 r j) * w (ix2 j c) := by
  unfold downv
  pointwise

theorem normv_at (X : FVec Ideal S512x1024 .f32) (w : FVec Ideal S1x1024 .f32) (f : ℕ → EReal) (r : Fin 512)
    (hX : ∀ c : Fin 1024, X (ix2 r c) = f c.val) (c : Fin 1024) : normv X w (ix2 r c) = rms f (w (ix2 0 c)) c.val := by
  unfold normv
  pointwise
  simp only [hX]
  rfl

theorem residv_at {keep : BitVec 1} {g : ℕ} (hs : Start keep g) (a : Args) (xb xc xh : FVec Ideal S512x256 .f32) (pc ph : FVec Ideal S8x256 .f32)
    (ws : FVec Ideal S3x256 .f32) (x : FVec Ideal S512x1024 .f32) (wa : FVec Ideal S256x1024 .bf16) (yg : FVec Ideal S512x512 .bf16)
    (wb : FVec Ideal S512x1024 .bf16) (ysb : FVec Ideal S512x256 .bf16) (wc : FVec Ideal S256x1024 .bf16)
    (hxb : ∀ (r : Fin 512) (k : Fin 256), xb (ix2 r k) = a.osc (g + r.val) k.val)
    (hxc : ∀ (r : Fin 512) (k : Fin 256), xc (ix2 r k) = a.osc (g + r.val) (256 + k.val))
    (hxh : ∀ (r : Fin 512) (k : Fin 256), xh (ix2 r k) = a.osc (g + r.val) (512 + k.val))
    (hpc : keep = 1#1 → ∀ (i : Fin 8) (k : Fin 256), pc (ix2 i k) = a.osc (g - 8 + i.val) (256 + k.val))
    (hph : keep = 1#1 → ∀ (i : Fin 8) (k : Fin 256), ph (ix2 i k) = a.osc (g - 8 + i.val) (512 + k.val))
    (hws : ∀ (i : Fin 3) (k : Fin 256), ws (ix2 i k) = a.ws i.val k.val)
    (hx : ∀ (r : Fin 512) (c : Fin 1024), x (ix2 r c) = a.x (g + r.val) c.val)
    (hwa : ∀ (k : Fin 256) (c : Fin 1024), wa (ix2 k c) = a.wa k.val c.val)
    (hyg : ∀ (r : Fin 512) (k : Fin 512), yg (ix2 r k) = a.yg (g + r.val) k.val)
    (hwb : ∀ (k : Fin 512) (c : Fin 1024), wb (ix2 k c) = a.wb k.val c.val)
    (hysb : ∀ (r : Fin 512) (k : Fin 256), ysb (ix2 r k) = a.ysb (g + r.val) k.val)
    (hwc : ∀ (k : Fin 256) (c : Fin 1024), wc (ix2 k c) = a.wc k.val c.val) (r : Fin 512) (c : Fin 1024) :
    residv keep xb xc xh pc ph ws x wa yg wb ysb wc (ix2 r c) = xn a (g + r.val) c.val := by
  have hconv : ∀ k : Fin 256, conv keep (mulf xc xh) (mulf pc ph) ws (ix2 r k)
      = cv (sc a k.val) (a.ws 0 k.val) (a.ws 1 k.val) (a.ws 2 k.val) (g + r.val) := by
    intro k
    rw [conv_at hs _ _ _ k (sc a k.val) ?_ ?_ r, hws, hws, hws]
    · rfl
    · intro s
      show xc (ix2 s k) * xh (ix2 s k) = _
      rw [hxc, hxh]; rfl
    · intro hk i
      show pc (ix2 i k) * ph (ix2 i k) = _
      rw [hpc hk, hph hk]; rfl
  unfold residv
  pointwise
  simp only [hconv, hxb, hx, hwa, hyg, hwb, hysb, hwc]
  rfl

/-- A block of the up projection's columns, at the model's values. -/
theorem up_at (a : Args) (g o : ℕ) (h : FVec Ideal S512x1024 .bf16) (w : FVec Ideal S1024x256 .bf16)
    (hh : ∀ (r : Fin 512) (d : Fin 1024), h (ix2 r d) = rms (xn a (g + r.val)) (a.wn 0 d.val) d.val)
    (hw : ∀ (d : Fin 1024) (k : Fin 256), w (ix2 d k) = a.wu d.val (o + k.val)) (r : Fin 512) (k : Fin 256) :
    upv h w (ix2 r k) = up a (o + k.val) (g + r.val) := by
  rw [upv_at]
  simp only [hh, hw]
  rfl

/-- The eight rows a block leaves to the next, at the model's values. -/
theorem tail_at (a : Args) (g o : ℕ) (h : FVec Ideal S512x1024 .bf16) (w : FVec Ideal S1024x256 .bf16)
    (hh : ∀ (r : Fin 512) (d : Fin 1024), h (ix2 r d) = rms (xn a (g + r.val)) (a.wn 0 d.val) d.val)
    (hw : ∀ (d : Fin 1024) (k : Fin 256), w (ix2 d k) = a.wu d.val (o + k.val)) (i : Fin 8) (k : Fin 256) :
    tailv (upv h w) (ix2 i k) = up a (o + k.val) (g + 504 + i.val) := by
  rw [tailv_at, up_at a g o h w hh hw, add_assoc]

/-- A block of the gated activation, at the model's values. -/
theorem act_at {keep : BitVec 1} {g : ℕ} (hs : Start keep g) (a : Args) (o : ℕ) (h : FVec Ideal S512x1024 .bf16)
    (wg wv : FVec Ideal S1024x256 .bf16) (hg hv : FVec Ideal S8x256 .f32) (cg cw : FVec Ideal S3x256 .f32)
    (hh : ∀ (r : Fin 512) (d : Fin 1024), h (ix2 r d) = rms (xn a (g + r.val)) (a.wn 0 d.val) d.val)
    (hwg : ∀ (d : Fin 1024) (k : Fin 256), wg (ix2 d k) = a.wu d.val (o + k.val))
    (hwv : ∀ (d : Fin 1024) (k : Fin 256), wv (ix2 d k) = a.wu d.val (2816 + o + k.val))
    (hhg : keep = 1#1 → ∀ (i : Fin 8) (k : Fin 256), hg (ix2 i k) = up a (o + k.val) (g - 8 + i.val))
    (hhv : keep = 1#1 → ∀ (i : Fin 8) (k : Fin 256), hv (ix2 i k) = up a (2816 + o + k.val) (g - 8 + i.val))
    (hcg : ∀ (i : Fin 3) (k : Fin 256), cg (ix2 i k) = a.wk i.val (o + k.val))
    (hcw : ∀ (i : Fin 3) (k : Fin 256), cw (ix2 i k) = a.wk i.val (2816 + o + k.val)) (r : Fin 512) (k : Fin 256) :
    actv (conv keep (upv h wg) hg cg) (conv keep (upv h wv) hv cw) (ix2 r k) = act a (g + r.val) (o + k.val) := by
  rw [actv_at, conv_at hs _ _ _ k _ (fun r => up_at a g o h wg hh hwg r k) (fun hk i => hhg hk i k) r,
    conv_at hs _ _ _ k _ (fun r => up_at a g (2816 + o) h wv hh hwv r k) (fun hk i => hhv hk i k) r, hcg, hcg, hcg, hcw, hcw, hcw,
    act, add_assoc]
  rfl

end Cert.FfnBlock
end
-- ==== Proof.Ffn.Body.lean ====
/- One grid point of the feed-forward kernel: what it stores, as the model's values at the block's rows. -/
module

public import proofs.«01_k».proof.Proof.Ffn.Block
public import proofs.«01_k».proof.Proof.Gen.FfnIdeal.Value
public import Idealize.ShloMosaic.Lib.WholeRead

@[expose] public section

set_option maxRecDepth 16384

noncomputable section

namespace Cert.FfnBody

open Idealize.ShloMosaic Cert.FfnIdeal Cert.FfnIdeal.Gen Cert.FfnModel Cert.FfnBlock

/-- A load of whole rows from column `o` on, of a buffer that holds `X`. -/
theorem load_at {sg : RefSig} {R M w o : ℕ} {e : EltTy} (m : Memref sg .tc .vmem ⟨2, ![R, M]⟩ e) (h : m.IsWhole)
    (X : (⟨2, ![R, M]⟩ : Shape).Idx → Elt Ideal e) (inb : ∀ a, (![0, o] : Fin 2 → ℕ) a + (![R, w] : Fin 2 → ℕ) a ≤ (![R, M] : Fin 2 → ℕ) a)
    (r : Fin R) (k : Fin w) :
    View.readAt (Elt Ideal) m.view (Rect.unit (s := ⟨2, ![R, M]⟩) ![0, o] ![R, w] inb).toLoadRect (h.unread X) (ix2 r k)
      = X (ix2 r ⟨o + k.val, lt_of_lt_of_le (Nat.add_lt_add_left k.isLt o) (inb 1)⟩) := by
  refine (Memref.IsWhole.readAt_unread h X _ _).trans (congrArg X (funext fun a => ?_))
  fin_cases a
  · exact Fin.ext (show 0 + 1 * r.val = r.val by omega)
  · exact Fin.ext (show o + 1 * k.val = o + k.val by omega)

/-- A load of a whole buffer that holds `X`. -/
theorem load_whole {sg : RefSig} {R M : ℕ} {e : EltTy} (m : Memref sg .tc .vmem ⟨2, ![R, M]⟩ e) (h : m.IsWhole)
    (X : (⟨2, ![R, M]⟩ : Shape).Idx → Elt Ideal e) (inb : ∀ a, (![0, 0] : Fin 2 → ℕ) a + (![R, M] : Fin 2 → ℕ) a ≤ (![R, M] : Fin 2 → ℕ) a)
    (r : Fin R) (k : Fin M) :
    View.readAt (Elt Ideal) m.view (Rect.unit (s := ⟨2, ![R, M]⟩) ![0, 0] ![R, M] inb).toLoadRect (h.unread X) (ix2 r k) = X (ix2 r k) :=
  (load_at m h X inb r k).trans (congrArg X (congrArg (ix2 r) (Fin.ext (Nat.zero_add k.val))))

/-- The whole buffer's rectangle names each element as itself. -/
theorem whole_idx {R M : ℕ} (inb : ∀ a, (![0, 0] : Fin 2 → ℕ) a + (![R, M] : Fin 2 → ℕ) a ≤ (![R, M] : Fin 2 → ℕ) a) (r : Fin R) (k : Fin M) :
    (Rect.unit (s := ⟨2, ![R, M]⟩) ![0, 0] ![R, M] inb).toLoadRect.idx (ix2 r k) = ix2 r k := by
  funext a
  fin_cases a
  · exact Fin.ext (show 0 + 1 * r.val = r.val by omega)
  · exact Fin.ext (show 0 + 1 * k.val = k.val by omega)

/-- The contents after a list of stores of whole columns, opened at its newest store: under it the payload, beside it the
older stores. -/
theorem canon_step {R M w o : ℕ} {e : EltTy} (inb : ∀ a, (![0, o] : Fin 2 → ℕ) a + (![R, w] : Fin 2 → ℕ) a ≤ (![R, M] : Fin 2 → ℕ) a)
    (W : (⟨2, ![R, w]⟩ : Shape).Idx → Elt Ideal e) (L : List (View.Piece (Elt Ideal) ⟨2, ![R, M]⟩ e)) (r : Fin R) (c : Fin M) (v : Elt Ideal e)
    (hw : ∀ k : Fin w, o + k.val = c.val → W (ix2 r k) = v)
    (hL : ¬ (o ≤ c.val ∧ c.val < o + w) → View.canon L (ix2 r c) = v) :
    View.canon (⟨Rect.unit (s := ⟨2, ![R, M]⟩) ![0, o] ![R, w] inb, W⟩ :: L) (ix2 r c) = v := by
  by_cases h : o ≤ c.val ∧ c.val < o + w
  · have e0 : ix2 r c = (Rect.unit (s := ⟨2, ![R, M]⟩) ![0, o] ![R, w] inb).emb (ix2 r (⟨c.val - o, by omega⟩ : Fin w)) := by
      funext a
      fin_cases a
      · exact Fin.ext (show r.val = 0 + 1 * r.val by omega)
      · exact Fin.ext (show c.val = o + 1 * (c.val - o) by omega)
    rw [e0, View.canon_cons_emb]
    exact hw _ (show o + (c.val - o) = c.val by omega)
  · refine (View.canon_cons_of_not_mem _ L fun hm => h ?_).trans (hL h)
    obtain ⟨j, hj, he⟩ := (LoadRect.mem_set _).mp hm 1
    have hj' : j < w := hj
    have he' : c.val = o + 1 * j := he
    omega

/-- What the block's inputs hold, when the block's first row is row `g`. -/
structure Reads (a : Args) (keep : BitVec 1) (g : ℕ) (x0 : Vec Ideal S512x1024 .f32) (x1 : Vec Ideal S512x768 .f32) (x2 : Vec Ideal S8x768 .f32)
    (x3 : Vec Ideal S512x512 .bf16) (x4 : Vec Ideal S512x256 .bf16) (x5 : Vec Ideal S3x256 .f32) (x6 : Vec Ideal S256x1024 .bf16)
    (x7 : Vec Ideal S512x1024 .bf16) (x8 : Vec Ideal S256x1024 .bf16) (x9 : Vec Ideal S1x1024 .f32) (x10 : Vec Ideal S1024x5632 .bf16)
    (x11 : Vec Ideal S3x5632 .f32) (x12 : Vec Ideal S2816x1024 .bf16) (x13 : Vec Ideal S1x1024 .f32) : Prop where
  h0 : ∀ (r : Fin 512) (k : Fin 1024), x0 (ix2 r k) = a.x (g + r.val) k.val
  h1 : ∀ (r : Fin 512) (k : Fin 768), x1 (ix2 r k) = a.osc (g + r.val) k.val
  h2 : keep = 1#1 → ∀ (r : Fin 8) (k : Fin 768), x2 (ix2 r k) = a.osc (g - 8 + r.val) k.val
  h3 : ∀ (r : Fin 512) (k : Fin 512), x3 (ix2 r k) = a.yg (g + r.val) k.val
  h4 : ∀ (r : Fin 512) (k : Fin 256), x4 (ix2 r k) = a.ysb (g + r.val) k.val
  h5 : ∀ (r : Fin 3) (k : Fin 256), x5 (ix2 r k) = a.ws r.val k.val
  h6 : ∀ (r : Fin 256) (k : Fin 1024), x6 (ix2 r k) = a.wa r.val k.val
  h7 : ∀ (r : Fin 512) (k : Fin 1024), x7 (ix2 r k) = a.wb r.val k.val
  h8 : ∀ (r : Fin 256) (k : Fin 1024), x8 (ix2 r k) = a.wc r.val k.val
  h9 : ∀ (r : Fin 1) (k : Fin 1024), x9 (ix2 r k) = a.wn r.val k.val
  h10 : ∀ (r : Fin 1024) (k : Fin 5632), x10 (ix2 r k) = a.wu r.val k.val
  h11 : ∀ (r : Fin 3) (k : Fin 5632), x11 (ix2 r k) = a.wk r.val k.val
  h12 : ∀ (r : Fin 2816) (k : Fin 1024), x12 (ix2 r k) = a.wd r.val k.val
  h13 : ∀ (r : Fin 1) (k : Fin 1024), x13 (ix2 r k) = a.wf r.val k.val

/-- The normed sum of the residual and the down projection. -/
theorem final_at (a : Args) (g : ℕ) (X : FVec Ideal S512x1024 .f32) (A : FVec Ideal S512x2816 .bf16) (w : FVec Ideal S2816x1024 .bf16)
    (wf : FVec Ideal S1x1024 .f32) (r : Fin 512) (hX : ∀ (r : Fin 512) (k : Fin 1024), X (ix2 r k) = xn a (g + r.val) k.val)
    (hA : ∀ (r : Fin 512) (j : Fin 2816), A (ix2 r j) = act a (g + r.val) j.val)
    (hw : ∀ (j : Fin 2816) (k : Fin 1024), w (ix2 j k) = a.wd j.val k.val) (hf : ∀ (s : Fin 1) (k : Fin 1024), wf (ix2 s k) = a.wf s.val k.val)
    (k : Fin 1024) : normv (downv X A w) wf (ix2 r k) = out a (g + r.val) k.val := by
  rw [normv_at _ _ (yn a (g + r.val)) r (fun c => ?_) k, hf]
  · rfl
  · rw [downv_at, hX]
    simp only [hA, hw]
    rfl

section Block

variable (c : Dev nD) (i : grid0.Coords)
  (arg1 : Memref sig .tc .vmem S512x1024 .f32) (harg1 : arg1.IsWhole) (arg2 : Memref sig .tc .vmem S512x768 .f32) (harg2 : arg2.IsWhole)
  (arg3 : Memref sig .tc .vmem S8x768 .f32) (harg3 : arg3.IsWhole) (arg4 : Memref sig .tc .vmem S512x512 .bf16) (harg4 : arg4.IsWhole)
  (arg5 : Memref sig .tc .vmem S512x256 .bf16) (harg5 : arg5.IsWhole) (arg6 : Memref sig .tc .vmem S3x256 .f32) (harg6 : arg6.IsWhole)
  (arg7 : Memref sig .tc .vmem S256x1024 .bf16) (harg7 : arg7.IsWhole) (arg8 : Memref sig .tc .vmem S512x1024 .bf16) (harg8 : arg8.IsWhole)
  (arg9 : Memref sig .tc .vmem S256x1024 .bf16) (harg9 : arg9.IsWhole) (arg10 : Memref sig .tc .vmem S1x1024 .f32) (harg10 : arg10.IsWhole)
  (arg11 : Memref sig .tc .vmem S1024x5632 .bf16) (harg11 : arg11.IsWhole) (arg12 : Memref sig .tc .vmem S3x5632 .f32) (harg12 : arg12.IsWhole)
  (arg13 : Memref sig .tc .vmem S2816x1024 .bf16) (harg13 : arg13.IsWhole) (arg14 : Memref sig .tc .vmem S1x1024 .f32) (harg14 : arg14.IsWhole)
  (arg15 : Memref sig .tc .vmem S512x1024 .f32) (harg15 : arg15.IsWhole) (arg16 : Memref sig .tc .vmem S512x2816 .bf16) (harg16 : arg16.IsWhole)
  (arg17 : Memref sig .tc .vmem S8x5632 .f32) (harg17 : arg17.IsWhole)
  (x0 : Vec Ideal S512x1024 .f32) (x1 : Vec Ideal S512x768 .f32) (x2 : Vec Ideal S8x768 .f32) (x3 : Vec Ideal S512x512 .bf16) (x4 : Vec Ideal S512x256 .bf16) (x5 : Vec Ideal S3x256 .f32) (x6 : Vec Ideal S256x1024 .bf16)
  (x7 : Vec Ideal S512x1024 .bf16) (x8 : Vec Ideal S256x1024 .bf16) (x9 : Vec Ideal S1x1024 .f32) (x10 : Vec Ideal S1024x5632 .bf16) (x11 : Vec Ideal S3x5632 .f32) (x12 : Vec Ideal S2816x1024 .bf16) (x13 : Vec Ideal S1x1024 .f32)

/-- The residual of the block. -/
theorem resid_B {a : Args} {g : ℕ} (hs : Start (kernelRun0_B.sl.v13 i) g)
    (hr : Reads a (kernelRun0_B.sl.v13 i) g x0 x1 x2 x3 x4 x5 x6 x7 x8 x9 x10 x11 x12 x13) (r : Fin 512) (k : Fin 1024) :
    kernelRun0_B.sl.r_4 c i arg1 harg1 arg2 harg2 arg3 harg3 arg4 harg4 arg5 harg5 arg6 harg6 arg7 harg7 arg8 harg8 arg9 harg9 x0 x1 x2 x3 x4 x5 x6 x7 x8 (ix2 r k) = xn a (g + r.val) k.val :=
  residv_at hs a _ _ _ _ _ _ _ _ _ _ _ _
    (fun r k => ((load_at arg2 harg2 x1 _ r k).trans (hr.h1 _ _)).trans (congrArg (a.osc _) (Nat.zero_add _)))
    (fun r k => (load_at arg2 harg2 x1 _ r k).trans (hr.h1 _ _))
    (fun r k => (load_at arg2 harg2 x1 _ r k).trans (hr.h1 _ _))
    (fun h r k => (load_at arg3 harg3 x2 _ r k).trans (hr.h2 h _ _))
    (fun h r k => (load_at arg3 harg3 x2 _ r k).trans (hr.h2 h _ _))
    (fun r k => (load_whole arg6 harg6 x5 _ r k).trans (hr.h5 _ _))
    (fun r k => (load_whole arg1 harg1 x0 _ r k).trans (hr.h0 _ _))
    (fun r k => (load_whole arg7 harg7 x6 _ r k).trans (hr.h6 _ _))
    (fun r k => (load_whole arg4 harg4 x3 _ r k).trans (hr.h3 _ _))
    (fun r k => (load_whole arg8 harg8 x7 _ r k).trans (hr.h7 _ _))
    (fun r k => (load_whole arg5 harg5 x4 _ r k).trans (hr.h4 _ _))
    (fun r k => (load_whole arg9 harg9 x8 _ r k).trans (hr.h8 _ _)) r k

/-- The block's normed residual. -/
theorem hidden_B {a : Args} {g : ℕ} (hs : Start (kernelRun0_B.sl.v13 i) g)
    (hr : Reads a (kernelRun0_B.sl.v13 i) g x0 x1 x2 x3 x4 x5 x6 x7 x8 x9 x10 x11 x12 x13) (r : Fin 512) (d : Fin 1024) :
    kernelRun0_B.sl.r_5 c i arg1 harg1 arg2 harg2 arg3 harg3 arg4 harg4 arg5 harg5 arg6 harg6 arg7 harg7 arg8 harg8 arg9 harg9 arg10 harg10 x0 x1 x2 x3 x4 x5 x6 x7 x8 x9 (ix2 r d) = rms (xn a (g + r.val)) (a.wn 0 d.val) d.val := by
  refine (normv_at (kernelRun0_B.sl.r_4 c i arg1 harg1 arg2 harg2 arg3 harg3 arg4 harg4 arg5 harg5 arg6 harg6 arg7 harg7 arg8 harg8 arg9 harg9 x0 x1 x2 x3 x4 x5 x6 x7 x8) _ (xn a (g + r.val)) r
    (fun k => resid_B c i arg1 harg1 arg2 harg2 arg3 harg3 arg4 harg4 arg5 harg5 arg6 harg6 arg7 harg7 arg8 harg8 arg9 harg9 x0 x1 x2 x3 x4 x5 x6 x7 x8 x9 x10 x11 x12 x13 hs hr r k) d).trans ?_
  rw [load_whole arg10 harg10 x9, hr.h9]
  rfl

/-- The gated activation of the block. -/
theorem act_B (xs1 : Vec Ideal S8x5632 .f32) {a : Args} {g : ℕ} (hs : Start (kernelRun0_B.sl.v13 i) g)
    (hr : Reads a (kernelRun0_B.sl.v13 i) g x0 x1 x2 x3 x4 x5 x6 x7 x8 x9 x10 x11 x12 x13)
    (hh : kernelRun0_B.sl.v13 i = 1#1 → ∀ (r : Fin 8) (k : Fin 5632), xs1 (ix2 r k) = up a k.val (g - 8 + r.val)) (r : Fin 512) (j : Fin 2816) :
    kernelRun0_B.sl.v760 c i arg1 harg1 arg2 harg2 arg3 harg3 arg4 harg4 arg5 harg5 arg6 harg6 arg7 harg7 arg8 harg8 arg9 harg9 arg10 harg10 arg11 harg11 arg12 harg12 arg16 arg17 harg17 x0 x1 x2 x3 x4 x5 x6 x7 x8 x9 x10 x11 xs1 (ix2 r j) = act a (g + r.val) j.val := by
  unfold kernelRun0_B.sl.v760
  rw [View.readCov_eq_canon']
  unfold kernelRun0_B.sl.HS0_11
  have hid := hidden_B c i arg1 harg1 arg2 harg2 arg3 harg3 arg4 harg4 arg5 harg5 arg6 harg6 arg7 harg7 arg8 harg8 arg9 harg9 arg10 harg10 x0 x1 x2 x3 x4 x5 x6 x7 x8 x9 x10 x11 x12 x13 hs hr
  refine (congrArg (View.canon _) (whole_idx _ r j)).trans ?_
  iterate 11
    refine canon_step _ _ _ r j _ (fun k hk => ?_) (fun hn => ?_)
    · rw [← hk]
      exact act_at hs a _ _ _ _ _ _ _ _ hid
        (fun d k => (load_at arg11 harg11 x10 _ d k).trans (hr.h10 _ _)) (fun d k => (load_at arg11 harg11 x10 _ d k).trans (hr.h10 _ _))
        (fun h s k => (load_at arg17 harg17 xs1 _ s k).trans (hh h _ _)) (fun h s k => (load_at arg17 harg17 xs1 _ s k).trans (hh h _ _))
        (fun s k => (load_at arg12 harg12 x11 _ s k).trans (hr.h11 _ _)) (fun s k => (load_at arg12 harg12 x11 _ s k).trans (hr.h11 _ _)) r k
  exfalso
  omega

/-- What a later grid point stores to the result. -/
theorem out_B (hc0 : ¬cond0_0 i) (xs1 : Vec Ideal S8x5632 .f32) {a : Args} {g : ℕ} (hs : Start (kernelRun0_B.sl.v13 i) g)
    (hr : Reads a (kernelRun0_B.sl.v13 i) g x0 x1 x2 x3 x4 x5 x6 x7 x8 x9 x10 x11 x12 x13)
    (hh : kernelRun0_B.sl.v13 i = 1#1 → ∀ (r : Fin 8) (k : Fin 5632), xs1 (ix2 r k) = up a k.val (g - 8 + r.val)) (r : Fin 512) (k : Fin 1024) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs1 (ix2 r k) = out a (g + r.val) k.val := by
  unfold out0_B_14
  rw [View.read_writes_junk_eq_canon]
  have hx := resid_B c i arg1 harg1 arg2 harg2 arg3 harg3 arg4 harg4 arg5 harg5 arg6 harg6 arg7 harg7 arg8 harg8 arg9 harg9 x0 x1 x2 x3 x4 x5 x6 x7 x8 x9 x10 x11 x12 x13 hs hr
  have ha := act_B c i arg1 harg1 arg2 harg2 arg3 harg3 arg4 harg4 arg5 harg5 arg6 harg6 arg7 harg7 arg8 harg8 arg9 harg9 arg10 harg10 arg11 harg11 arg12 harg12 arg16 arg17 harg17 x0 x1 x2 x3 x4 x5 x6 x7 x8 x9 x10 x11 x12 x13 xs1 hs hr hh
  unfold kernelRun0_B
  dsimp only
  refine canon_step _ _ _ r k _ (fun j hj => ?_) (fun hn => by omega)
  obtain rfl : j = k := Fin.ext ((Nat.zero_add _).symm.trans hj)
  unfold kernelRun0_B.sl.r_52
  exact final_at a g _ _ _ _ r hx ha (fun j k => (load_whole arg13 harg13 x12 _ j k).trans (hr.h12 _ _))
    (fun s k => (load_whole arg14 harg14 x13 _ s k).trans (hr.h13 _ _)) j

/-- What a later grid point leaves to the next. -/
theorem halo_B (hc0 : ¬cond0_0 i) (xs1 : Vec Ideal S8x5632 .f32) {a : Args} {g : ℕ} (hs : Start (kernelRun0_B.sl.v13 i) g)
    (hr : Reads a (kernelRun0_B.sl.v13 i) g x0 x1 x2 x3 x4 x5 x6 x7 x8 x9 x10 x11 x12 x13) (r : Fin 8) (k : Fin 5632) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs1 (ix2 r k) = up a k.val (g + 504 + r.val) := by
  unfold sout0_B_1
  rw [View.read_writes_junk_eq_canon]
  have hid := hidden_B c i arg1 harg1 arg2 harg2 arg3 harg3 arg4 harg4 arg5 harg5 arg6 harg6 arg7 harg7 arg8 harg8 arg9 harg9 arg10 harg10 x0 x1 x2 x3 x4 x5 x6 x7 x8 x9 x10 x11 x12 x13 hs hr
  unfold kernelRun0_B
  dsimp only
  iterate 22
    refine canon_step _ _ _ r k _ (fun j hj => ?_) (fun hn => ?_)
    · rw [← hj]
      exact tail_at a g _ _ _ hid (fun d k => (load_at arg11 harg11 x10 _ d k).trans (hr.h10 _ _)) r j
  exfalso
  omega

/-- The gated activation of the first grid point's block. -/
theorem act_A {a : Args} {g : ℕ} (hs : Start (kernelRun0_B.sl.v13 i) g) (hk : kernelRun0_B.sl.v13 i ≠ 1#1)
    (hr : Reads a (kernelRun0_B.sl.v13 i) g x0 x1 x2 x3 x4 x5 x6 x7 x8 x9 x10 x11 x12 x13) (r : Fin 512) (j : Fin 2816) :
    kernelRun0_A.sl.v760 c i arg1 harg1 arg2 harg2 arg3 harg3 arg4 harg4 arg5 harg5 arg6 harg6 arg7 harg7 arg8 harg8 arg9 harg9 arg10 harg10 arg11 harg11 arg12 harg12 arg16 arg17 x0 x1 x2 x3 x4 x5 x6 x7 x8 x9 x10 x11 (ix2 r j) = act a (g + r.val) j.val := by
  unfold kernelRun0_A.sl.v760
  rw [View.readCov_eq_canon']
  unfold kernelRun0_A.sl.HS0_11
  have hid := hidden_B c i arg1 harg1 arg2 harg2 arg3 harg3 arg4 harg4 arg5 harg5 arg6 harg6 arg7 harg7 arg8 harg8 arg9 harg9 arg10 harg10 x0 x1 x2 x3 x4 x5 x6 x7 x8 x9 x10 x11 x12 x13 hs hr
  refine (congrArg (View.canon _) (whole_idx _ r j)).trans ?_
  iterate 11
    refine canon_step _ _ _ r j _ (fun k hk => ?_) (fun hn => ?_)
    · rw [← hk]
      exact act_at hs a _ _ _ _ _ _ _ _ hid
        (fun d k => (load_at arg11 harg11 x10 _ d k).trans (hr.h10 _ _)) (fun d k => (load_at arg11 harg11 x10 _ d k).trans (hr.h10 _ _))
        (fun h => absurd h (by assumption)) (fun h => absurd h (by assumption))
        (fun s k => (load_at arg12 harg12 x11 _ s k).trans (hr.h11 _ _)) (fun s k => (load_at arg12 harg12 x11 _ s k).trans (hr.h11 _ _)) r k
  exfalso
  omega

/-- What the first grid point stores to the result. -/
theorem out_A (hc0 : cond0_0 i) {a : Args} {g : ℕ} (hs : Start (kernelRun0_B.sl.v13 i) g) (hk : kernelRun0_B.sl.v13 i ≠ 1#1)
    (hr : Reads a (kernelRun0_B.sl.v13 i) g x0 x1 x2 x3 x4 x5 x6 x7 x8 x9 x10 x11 x12 x13) (r : Fin 512) (k : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 (ix2 r k) = out a (g + r.val) k.val := by
  unfold out0_A_14
  rw [View.read_writes_junk_eq_canon]
  have hx := resid_B c i arg1 harg1 arg2 harg2 arg3 harg3 arg4 harg4 arg5 harg5 arg6 harg6 arg7 harg7 arg8 harg8 arg9 harg9 x0 x1 x2 x3 x4 x5 x6 x7 x8 x9 x10 x11 x12 x13 hs hr
  have ha := act_A c i arg1 harg1 arg2 harg2 arg3 harg3 arg4 harg4 arg5 harg5 arg6 harg6 arg7 harg7 arg8 harg8 arg9 harg9 arg10 harg10 arg11 harg11 arg12 harg12 arg16 arg17 x0 x1 x2 x3 x4 x5 x6 x7 x8 x9 x10 x11 x12 x13 hs hk hr
  unfold kernelRun0_A
  dsimp only
  refine canon_step _ _ _ r k _ (fun j hj => ?_) (fun hn => by omega)
  obtain rfl : j = k := Fin.ext ((Nat.zero_add _).symm.trans hj)
  unfold kernelRun0_A.sl.r_51
  exact final_at a g _ _ _ _ r hx ha (fun j k => (load_whole arg13 harg13 x12 _ j k).trans (hr.h12 _ _))
    (fun s k => (load_whole arg14 harg14 x13 _ s k).trans (hr.h13 _ _)) j

/-- What the first grid point leaves to the next. -/
theorem halo_A (hc0 : cond0_0 i) {a : Args} {g : ℕ} (hs : Start (kernelRun0_B.sl.v13 i) g)
    (hr : Reads a (kernelRun0_B.sl.v13 i) g x0 x1 x2 x3 x4 x5 x6 x7 x8 x9 x10 x11 x12 x13) (r : Fin 8) (k : Fin 5632) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 (ix2 r k) = up a k.val (g + 504 + r.val) := by
  unfold sout0_A_1
  rw [View.read_writes_junk_eq_canon]
  have hid := hidden_B c i arg1 harg1 arg2 harg2 arg3 harg3 arg4 harg4 arg5 harg5 arg6 harg6 arg7 harg7 arg8 harg8 arg9 harg9 arg10 harg10 x0 x1 x2 x3 x4 x5 x6 x7 x8 x9 x10 x11 x12 x13 hs hr
  unfold kernelRun0_A
  dsimp only
  iterate 22
    refine canon_step _ _ _ r k _ (fun j hj => ?_) (fun hn => ?_)
    · rw [← hj]
      exact tail_at a g _ _ _ hid (fun d k => (load_at arg11 harg11 x10 _ d k).trans (hr.h10 _ _)) r j
  exfalso
  omega

end Block

end Cert.FfnBody
end
-- ==== Proof.Ffn.Final.lean ====
/- The feed-forward kernel's result array: at every index the model's value. -/
module

public import proofs.«01_k».proof.Proof.Ffn.Body
public import Idealize.ShloMosaic.Lib.Pipeline.ValueKit.Geometry

@[expose] public section

set_option maxRecDepth 16384

noncomputable section

namespace Cert.FfnFinal

open Idealize.ShloMosaic Idealize.ShloMosaic.TcCoe Idealize.SL.Sem Cert.FfnIdeal Cert.FfnIdeal.Gen Cert.FfnModel Cert.FfnBlock Cert.FfnBody

variable (m : (ℓ : Loc nD τ sig) → Buf (Elt Ideal) ℓ)

/-- The call's arguments on core `c`, as functions of a row and a column. -/
def args (c : Dev nD) : Args where
  x := el (n := 32768) (m := 1024) (m ((c : Thread nD τ).loc main_arg0))
  osc := el (n := 32768) (m := 768) (m ((c : Thread nD τ).loc main_arg1))
  yg := el (n := 32768) (m := 512) (m ((c : Thread nD τ).loc main_arg2))
  ysb := el (n := 32768) (m := 256) (m ((c : Thread nD τ).loc main_arg3))
  ws := el (n := 3) (m := 256) (m ((c : Thread nD τ).loc main_arg4))
  wa := el (n := 256) (m := 1024) (m ((c : Thread nD τ).loc main_arg5))
  wb := el (n := 512) (m := 1024) (m ((c : Thread nD τ).loc main_arg6))
  wc := el (n := 256) (m := 1024) (m ((c : Thread nD τ).loc main_arg7))
  wn := el (n := 1) (m := 1024) (m ((c : Thread nD τ).loc main_arg8))
  wu := el (n := 1024) (m := 5632) (m ((c : Thread nD τ).loc main_arg9))
  wk := el (n := 3) (m := 5632) (m ((c : Thread nD τ).loc main_arg10))
  wd := el (n := 2816) (m := 1024) (m ((c : Thread nD τ).loc main_arg11))
  wf := el (n := 1) (m := 1024) (m ((c : Thread nD τ).loc main_arg12))

theorem el_of {n k : ℕ} (X : (⟨2, ![n, k]⟩ : Shape).Idx → EReal) (x : (⟨2, ![n, k]⟩ : Shape).Idx) (r c : ℕ) (h0 : (x 0).val = r) (h1 : (x 1).val = c) :
    X x = el X r c := by
  subst h0 h1
  exact (congrArg X (eq_ix2 x)).trans (el_ix2 X (x 0) (x 1))

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val * 64 - 1, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)
theorem index_13 : ∀ t : Fin cfg0.N, win0_13.index t = ![0, 0] := (by decide +kernel : ∀ t : Fin grid0.N, _)
theorem index_14 : ∀ t : Fin cfg0.N, win0_14.index t = ![t.val, 0] := (by decide +kernel : ∀ t : Fin grid0.N, _)

/-- The bit that keeps the rows before the block is off exactly at the first block of a sequence. -/
theorem keep_eq : ∀ t : Fin cfg0.N, kernelRun0_B.sl.v13 (grid0.coords t) = if t.val % 16 = 0 then 0#1 else 1#1 :=
  (by decide +kernel : ∀ t : Fin grid0.N, _)

theorem start_at (t : Fin cfg0.N) : Start (kernelRun0_B.sl.v13 (grid0.coords t)) (t.val * 512) := by
  rw [keep_eq]
  refine ⟨by omega, fun h => ?_, fun h => ?_⟩
  · have : t.val % 16 = 0 := by
      by_contra hn
      exact h (if_neg hn)
    omega
  · have : t.val % 16 ≠ 0 := fun hn => by
      rw [if_pos hn] at h
      exact absurd h (by decide)
    omega

theorem reads_at (c : Dev nD) (t : Fin cfg0.N) :
    Reads (args m c) (kernelRun0_B.sl.v13 (grid0.coords t)) (t.val * 512) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  refine ⟨?_, ?_, ?_, ?_, ?_, ?_, ?_, ?_, ?_, ?_, ?_, ?_, ?_, ?_⟩
  case refine_3 =>
    intro h r k
    have ht : 0 < t.val := by
      by_contra hn
      rw [keep_eq, if_pos (by omega)] at h
      exact absurd h (by decide)
    refine el_of _ ((win0_2.blk t).view.emb (ix2 r k)) _ _ ?_ ?_ <;> blk_simp [index_2] <;> omega
  · exact fun r k => el_of _ ((win0_0.blk t).view.emb (ix2 r k)) _ _ (by blk_simp [index_0] <;> rfl) (by blk_simp [index_0] <;> rfl)
  · exact fun r k => el_of _ ((win0_1.blk t).view.emb (ix2 r k)) _ _ (by blk_simp [index_1] <;> rfl) (by blk_simp [index_1] <;> rfl)
  · exact fun r k => el_of _ ((win0_3.blk t).view.emb (ix2 r k)) _ _ (by blk_simp [index_3] <;> rfl) (by blk_simp [index_3] <;> rfl)
  · exact fun r k => el_of _ ((win0_4.blk t).view.emb (ix2 r k)) _ _ (by blk_simp [index_4] <;> rfl) (by blk_simp [index_4] <;> rfl)
  · exact fun r k => el_of _ ((win0_5.blk t).view.emb (ix2 r k)) _ _ (by blk_simp [index_5] <;> rfl) (by blk_simp [index_5] <;> rfl)
  · exact fun r k => el_of _ ((win0_6.blk t).view.emb (ix2 r k)) _ _ (by blk_simp [index_6] <;> rfl) (by blk_simp [index_6] <;> rfl)
  · exact fun r k => el_of _ ((win0_7.blk t).view.emb (ix2 r k)) _ _ (by blk_simp [index_7] <;> rfl) (by blk_simp [index_7] <;> rfl)
  · exact fun r k => el_of _ ((win0_8.blk t).view.emb (ix2 r k)) _ _ (by blk_simp [index_8] <;> rfl) (by blk_simp [index_8] <;> rfl)
  · exact fun r k => el_of _ ((win0_9.blk t).view.emb (ix2 r k)) _ _ (by blk_simp [index_9] <;> rfl) (by blk_simp [index_9] <;> rfl)
  · exact fun r k => el_of _ ((win0_10.blk t).view.emb (ix2 r k)) _ _ (by blk_simp [index_10] <;> rfl) (by blk_simp [index_10] <;> rfl)
  · exact fun r k => el_of _ ((win0_11.blk t).view.emb (ix2 r k)) _ _ (by blk_simp [index_11] <;> rfl) (by blk_simp [index_11] <;> rfl)
  · exact fun r k => el_of _ ((win0_12.blk t).view.emb (ix2 r k)) _ _ (by blk_simp [index_12] <;> rfl) (by blk_simp [index_12] <;> rfl)
  · exact fun r k => el_of _ ((win0_13.blk t).view.emb (ix2 r k)) _ _ (by blk_simp [index_13] <;> rfl) (by blk_simp [index_13] <;> rfl)

/-- The rows a grid point leaves to the next. -/
theorem halo_at (c : Dev nD) (t : Fin cfg0.N) (r : Fin 8) (k : Fin 5632) :
    (outsAt0 m c t.val t.isLt).2 (ix2 r k) = up (args m c) k.val (t.val * 512 + 504 + r.val) := by
  have hs := start_at t
  have hr := reads_at m c t
  by_cases h0 : t.val % 64 = 0
  · rw [outsAt0_A m c t h0]
    dsimp only
    apply halo_A
    · exact hs
    · exact hr
  · rw [outsAt0_B m c t h0]
    dsimp only
    generalize (outsAt0 m c (t.val - 1) _).2 = xs
    apply halo_B
    · exact hs
    · exact hr

/-- What a grid point stores to the result. -/
theorem block_at (c : Dev nD) (t : Fin cfg0.N) (r : Fin 512) (k : Fin 1024) :
    (outsAt0 m c t.val t.isLt).1 (ix2 r k) = out (args m c) (t.val * 512 + r.val) k.val := by
  have hs := start_at t
  have hr := reads_at m c t
  by_cases h0 : t.val % 64 = 0
  · rw [outsAt0_A m c t h0]
    dsimp only
    apply out_A
    · exact hs
    · rw [keep_eq, if_pos (by omega)]
      decide
    · exact hr
  · have hp := halo_at m c ⟨t.val - 1, Nat.lt_of_le_of_lt (Nat.sub_le _ _) t.isLt⟩
    rw [outsAt0_B m c t h0]
    dsimp only at hp ⊢
    generalize (outsAt0 m c (t.val - 1) _).2 = xs at hp ⊢
    apply out_B
    · exact hs
    · exact hr
    · intro _ s j
      rw [hp]
      exact congrArg (up (args m c) j.val) (by omega)

/-- The result array. -/
def res (c : Dev nD) : S32768x1024.Idx → EReal := fun j => out (args m c) (j 0).val (j 1).val

theorem final_o (c : Dev nD) : (dats m 0 c).arrAt 14 cfg0.N = res m c := by
  refine (dats m 0 c).arrAt_eq_of_covers 14 _ (by decide +kernel) fun t hf y => ?_
  blk_simp
  show (dats m 0 c).after 14 t y = _
  rw [after0_14]
  show (outsAt0 m c t.val t.isLt).1 y = out (args m c) ((win0_14.blk t).view.emb y 0).val ((win0_14.blk t).view.emb y 1).val
  have g0 : ((win0_14.blk t).view.emb y 0).val = t.val * 512 + (y 0).val := by
    blk_simp [index_14] <;> rfl
  have g1 : ((win0_14.blk t).view.emb y 1).val = (y 1).val := by
    blk_simp [index_14] <;> rfl
  rw [g0, g1]
  exact (congrArg (outsAt0 m c t.val t.isLt).1 (eq_ix2 y)).trans (block_at m c t (y 0) (y 1))

end Cert.FfnFinal
end
-- ==== Proof.Ffn.Ref.lean ====
/- The feed-forward reference's result at an index. -/
module

public import proofs.«01_k».proof.Proof.Ffn.Model
public import proofs.«01_k».proof.Proof.Gen.FfnReferenceIdeal.Run

@[expose] public section

set_option maxRecDepth 16384

noncomputable section

namespace Cert.FfnReferenceIdeal.Hand

open Cert.FfnReferenceIdeal Cert.FfnReferenceIdeal.Gen Cert.FfnReferenceIdeal.Value Cert.FfnModel
open Idealize.ShloMosaic

variable (V0 : Valuation τ sig (Elt Ideal))

/-- The reference's arguments as functions of a row and a column. -/
def args : Args where
  x := el (n := 32768) (m := 1024) (V0 (Proc.devRef .tc main_arg0))
  osc := el (n := 32768) (m := 768) (V0 (Proc.devRef .tc main_arg1))
  yg := el (n := 32768) (m := 512) (V0 (Proc.devRef .tc main_arg2))
  ysb := el (n := 32768) (m := 256) (V0 (Proc.devRef .tc main_arg3))
  ws := el (n := 3) (m := 256) (V0 (Proc.devRef .tc main_arg4))
  wa := el (n := 256) (m := 1024) (V0 (Proc.devRef .tc main_arg5))
  wb := el (n := 512) (m := 1024) (V0 (Proc.devRef .tc main_arg6))
  wc := el (n := 256) (m := 1024) (V0 (Proc.devRef .tc main_arg7))
  wn := el (n := 1) (m := 1024) (V0 (Proc.devRef .tc main_arg8))
  wu := el (n := 1024) (m := 5632) (V0 (Proc.devRef .tc main_arg9))
  wk := el (n := 3) (m := 5632) (V0 (Proc.devRef .tc main_arg10))
  wd := el (n := 2816) (m := 1024) (V0 (Proc.devRef .tc main_arg11))
  wf := el (n := 1) (m := 1024) (V0 (Proc.devRef .tc main_arg12))

theorem x_at (r : Fin 32768) (c : Fin 1024) : V0 (Proc.devRef .tc main_arg0) (ix2 r c) = (args V0).x r.val c.val := el_ix2 _ r c
theorem osc_at (r : Fin 32768) (c : Fin 768) : V0 (Proc.devRef .tc main_arg1) (ix2 r c) = (args V0).osc r.val c.val := el_ix2 _ r c
theorem yg_at (r : Fin 32768) (c : Fin 512) : V0 (Proc.devRef .tc main_arg2) (ix2 r c) = (args V0).yg r.val c.val := el_ix2 _ r c
theorem ysb_at (r : Fin 32768) (c : Fin 256) : V0 (Proc.devRef .tc main_arg3) (ix2 r c) = (args V0).ysb r.val c.val := el_ix2 _ r c
theorem ws_at (r : Fin 3) (c : Fin 256) : V0 (Proc.devRef .tc main_arg4) (ix2 r c) = (args V0).ws r.val c.val := el_ix2 _ r c
theorem wa_at (r : Fin 256) (c : Fin 1024) : V0 (Proc.devRef .tc main_arg5) (ix2 r c) = (args V0).wa r.val c.val := el_ix2 _ r c
theorem wb_at (r : Fin 512) (c : Fin 1024) : V0 (Proc.devRef .tc main_arg6) (ix2 r c) = (args V0).wb r.val c.val := el_ix2 _ r c
theorem wc_at (r : Fin 256) (c : Fin 1024) : V0 (Proc.devRef .tc main_arg7) (ix2 r c) = (args V0).wc r.val c.val := el_ix2 _ r c
theorem wn_at (r : Fin 1) (c : Fin 1024) : V0 (Proc.devRef .tc main_arg8) (ix2 r c) = (args V0).wn r.val c.val := el_ix2 _ r c
theorem wu_at (r : Fin 1024) (c : Fin 5632) : V0 (Proc.devRef .tc main_arg9) (ix2 r c) = (args V0).wu r.val c.val := el_ix2 _ r c
theorem wk_at (r : Fin 3) (c : Fin 5632) : V0 (Proc.devRef .tc main_arg10) (ix2 r c) = (args V0).wk r.val c.val := el_ix2 _ r c
theorem wd_at (r : Fin 2816) (c : Fin 1024) : V0 (Proc.devRef .tc main_arg11) (ix2 r c) = (args V0).wd r.val c.val := el_ix2 _ r c
theorem wf_at (r : Fin 1) (c : Fin 1024) : V0 (Proc.devRef .tc main_arg12) (ix2 r c) = (args V0).wf r.val c.val := el_ix2 _ r c

theorem zero_word : FloatOps.sitofp (F := Ideal) FTy.f32 (0#32) = (0 : EReal) := by
  show (((0#32 : BitVec 32).toInt : ℝ) : EReal) = 0
  simp

/-- The padded convolution input of the short convolution. -/
theorem v5_at (b : Fin 4) (r : Fin 8194) (k : Fin 256) : (res_main_v5 V0 (ix3 b r k) : EReal)
    = if 2 ≤ r.val then sc (args V0) k.val (b.val * 8192 + (r.val - 2)) else 0 := by
  unfold res_main_v5 res_main_v0
  pointwise
  by_cases h : 2 ≤ r.val
  · rw [dif_pos ⟨h, by omega⟩, if_pos h]
    simp only [osc_at]; rfl
  · rw [dif_neg (by omega), if_neg h, zero_word]

/-- The reference's order of a convolution's three products. -/
theorem cv_host (f : ℕ → EReal) (w0 w1 w2 : EReal) (b r : ℕ) (hr : r < 8192) :
    w0 * (if 2 ≤ r then f (b * 8192 + (r - 2)) else 0) + w1 * (if 2 ≤ 1 + r then f (b * 8192 + (1 + r - 2)) else 0)
      + w2 * (if 2 ≤ 2 + r then f (b * 8192 + (2 + r - 2)) else 0) = cv f w0 w1 w2 (b * 8192 + r) := by
  have e : (b * 8192 + r) % 8192 = r := by omega
  have e0 : b * 8192 + (2 + r - 2) = b * 8192 + r := by omega
  unfold cv back
  rw [e, if_pos (show 2 ≤ 2 + r by omega), e0, mul_comm w0, mul_comm w1, mul_comm w2]
  have h1 : (if 2 ≤ 1 + r then f (b * 8192 + (1 + r - 2)) else 0) = if 1 ≤ r then f (b * 8192 + r - 1) else 0 :=
    if_ctx_congr (by omega) (fun _ => congrArg f (by omega)) (fun _ => rfl)
  have h2 : (if 2 ≤ r then f (b * 8192 + (r - 2)) else 0) = if 2 ≤ r then f (b * 8192 + r - 2) else 0 :=
    if_ctx_congr Iff.rfl (fun _ => congrArg f (by omega)) (fun _ => rfl)
  rw [h1, h2, add_comm (_ * w0), add_comm _ (f _ * w2), add_assoc]

/-- One product of the concatenated output projection. -/
def mixed (a : Args) (r c x : ℕ) : EReal :=
  (if x < 256 then ysc a r x else if x - 256 < 512 then a.yg r (x - 256) else a.ysb r (x - 256 - 512))
    * (if x < 256 then a.wa x c else if x - 256 < 512 then a.wb (x - 256) c else a.wc (x - 256 - 512) c)

/-- The residual after the mixers. -/
theorem v38_at (b : Fin 4) (r : Fin 8192) (k : Fin 1024) :
    (res_main_v38 V0 (ix3 b r k) : EReal) = xn (args V0) (b.val * 8192 + r.val) k.val := by
  unfold res_main_v38 res_main_v0
  pointwise
  simp only [v5_at, x_at, osc_at, yg_at, ysb_at, ws_at, wa_at, wb_at, wc_at]
  refine (congrArg (fun s : EReal => (args V0).x (b.val * 8192 + r.val) k.val + s)
    ((Finset.sum_congr (M := EReal) rfl fun x _ => ?_).trans (sum_cut (mixed (args V0) (b.val * 8192 + r.val) k.val)))).trans ?_
  · exact congrArg₂ (fun a b : EReal => a * b) (if_ctx_congr Iff.rfl (fun _ => congrArg
      (fun a : EReal => (args V0).osc (b.val * 8192 + r.val) x.val * a) (cv_host _ _ _ _ _ _ r.isLt)) (fun _ => rfl)) rfl
  · rw [xn, add_assoc, add_assoc]
    refine congrArg (fun s : EReal => (args V0).x (b.val * 8192 + r.val) k.val + s) ?_
    refine congrArg₂ (fun a b : EReal => a + b) (Finset.sum_congr (M := EReal) rfl fun x _ => ?_)
      (congrArg₂ (fun a b : EReal => a + b) (Finset.sum_congr (M := EReal) rfl fun x _ => ?_)
        (Finset.sum_congr (M := EReal) rfl fun x _ => ?_))
    · rw [mixed, if_pos x.isLt, if_pos x.isLt]
    · have h1 : ¬ 256 + x.val < 256 := by omega
      have h2 : 256 + x.val - 256 < 512 := by omega
      have h3 : 256 + x.val - 256 = x.val := by omega
      rw [mixed, if_neg h1, if_neg h1, if_pos h2, if_pos h2, h3]
    · have h1 : ¬ 768 + x.val < 256 := by omega
      have h2 : ¬ 768 + x.val - 256 < 512 := by omega
      have h3 : 768 + x.val - 256 - 512 = x.val := by omega
      rw [mixed, if_neg h1, if_neg h1, if_neg h2, if_neg h2, h3]

/-- The padded up projection. -/
theorem v55_at (b : Fin 4) (r : Fin 8194) (k : Fin 5632) : (res_main_v55 V0 (ix3 b r k) : EReal)
    = if 2 ≤ r.val then up (args V0) k.val (b.val * 8192 + (r.val - 2)) else 0 := by
  unfold res_main_v55
  pointwise
  by_cases h : 2 ≤ r.val
  · rw [dif_pos ⟨h, by omega⟩, if_pos h]
    simp only [v38_at, wn_at, wu_at]; rfl
  · rw [dif_neg (by omega), if_neg h, zero_word]

/-- The up projection after its convolution. -/
theorem v77_at (b : Fin 4) (r : Fin 8192) (k : Fin 5632) :
    (res_main_v77 V0 (ix3 b r k) : EReal) = gate (args V0) (b.val * 8192 + r.val) k.val := by
  unfold res_main_v77
  pointwise
  simp only [v55_at, wk_at]
  exact cv_host _ _ _ _ _ _ r.isLt

/-- The residual after the feed-forward. -/
theorem v84_at (b : Fin 4) (r : Fin 8192) (k : Fin 1024) :
    (res_main_v84 V0 (ix3 b r k) : EReal) = yn (args V0) (b.val * 8192 + r.val) k.val := by
  unfold res_main_v84 res_main_v78
  pointwise
  simp only [v77_at, v38_at, wd_at]
  rfl

/-- The reference's result, the last norm included. -/
def res : (⟨2, ![32768, 1024]⟩ : Shape).Idx → EReal :=
  shapeCast S32768x1024 (mulf (F := Ideal) (φ := .f32) (mulf (res_main_v84 V0) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v84 V0) (res_main_v84 V0)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (V0 (Proc.devRef .tc main_arg12)) shapeCasts_S1x1024_S1024)))) shapeCasts_S4x8192x1024_S32768x1024

theorem res_at (r : Fin 32768) (k : Fin 1024) : res V0 (ix2 r k) = out (args V0) r.val k.val := by
  unfold res
  pointwise
  simp only [v84_at, wf_at]
  have e : r.val / 8192 * 8192 + r.val % 8192 = r.val := Nat.div_add_mod' _ _
  rw [e]
  rfl

end Cert.FfnReferenceIdeal.Hand
end
-- ==== Proof.Ffn.Value.lean ====
/- The feed-forward call: the frames of the three programs, and the kernel and the reference end with the same result over
the extended reals. -/
module

public import proofs.«01_k».proof.Defs
public import proofs.«01_k».proof.Proof.Ffn.Final
public import proofs.«01_k».proof.Proof.Ffn.Ref
public import proofs.«01_k».proof.Proof.Gen.Ffn.Frame
public import Idealize.ShloMosaic.Adequacy
public import Idealize.ShloMosaic.Init

@[expose] public section

noncomputable section

namespace Cert.FfnValue

open Idealize.ShloMosaic Idealize.ShloMosaic.TcCoe Idealize.SL.Sem Idealize.ShloMosaic.StableHlo Cert.FfnModel

/-- The kernel runs to the end, leaves its arguments as they were and every counter at zero. -/
theorem frame_p : Cert.quiescent_Ffn := fun m ρ _ => Cert.Ffn.Gen.frame (F := Bits) m ρ

/-- The same of the kernel read over the extended reals. -/
theorem frame_pi : Cert.quiescent_FfnIdeal := fun m ρ _ => Cert.FfnIdeal.Gen.frame (F := Ideal) m ρ

/-- The reference runs to the end and leaves its arguments as they were; it has no counters. -/
theorem frame_ri : Cert.quiescent_FfnReferenceIdeal := fun m ρ _ =>
  (θ_run Cert.FfnReferenceIdeal.defs _ _).mono
    (fun r h => ⟨fun c => (h c).2, Idealize.ShloMosaic.sem_eq_zero_of_no_sems (by decide) r.2⟩)
    (Cert.FfnReferenceIdeal.Value.run (F := Ideal) m ρ)

/-- Equal arrays read as the same arguments. -/
theorem args_eq {X0 Y0 : (⟨2, ![32768, 1024]⟩ : Shape).Idx → EReal}
    {X1 Y1 : (⟨2, ![32768, 768]⟩ : Shape).Idx → EReal}
    {X2 Y2 : (⟨2, ![32768, 512]⟩ : Shape).Idx → EReal}
    {X3 Y3 : (⟨2, ![32768, 256]⟩ : Shape).Idx → EReal}
    {X4 Y4 : (⟨2, ![3, 256]⟩ : Shape).Idx → EReal}
    {X5 Y5 : (⟨2, ![256, 1024]⟩ : Shape).Idx → EReal}
    {X6 Y6 : (⟨2, ![512, 1024]⟩ : Shape).Idx → EReal}
    {X7 Y7 : (⟨2, ![256, 1024]⟩ : Shape).Idx → EReal}
    {X8 Y8 : (⟨2, ![1, 1024]⟩ : Shape).Idx → EReal}
    {X9 Y9 : (⟨2, ![1024, 5632]⟩ : Shape).Idx → EReal}
    {X10 Y10 : (⟨2, ![3, 5632]⟩ : Shape).Idx → EReal}
    {X11 Y11 : (⟨2, ![2816, 1024]⟩ : Shape).Idx → EReal}
    {X12 Y12 : (⟨2, ![1, 1024]⟩ : Shape).Idx → EReal}
    (h0 : X0 = Y0) (h1 : X1 = Y1) (h2 : X2 = Y2) (h3 : X3 = Y3) (h4 : X4 = Y4) (h5 : X5 = Y5) (h6 : X6 = Y6) (h7 : X7 = Y7) (h8 : X8 = Y8) (h9 : X9 = Y9) (h10 : X10 = Y10) (h11 : X11 = Y11) (h12 : X12 = Y12) :
    Args.mk (el X0) (el X1) (el X2) (el X3) (el X4) (el X5) (el X6) (el X7) (el X8) (el X9) (el X10) (el X11) (el X12)
      = Args.mk (el Y0) (el Y1) (el Y2) (el Y3) (el Y4) (el Y5) (el Y6) (el Y7) (el Y8) (el Y9) (el Y10) (el Y11) (el Y12) := by
  subst h0 h1 h2 h3 h4 h5 h6 h7 h8 h9 h10 h11 h12
  rfl

/-- From equal arguments both programs leave the model's array. -/
theorem algebraic : Cert.algebraic_FfnIdeal_FfnReferenceIdeal := fun m ρ m' ρ' _ hm =>
  ⟨fun c => Cert.FfnFinal.res m c,
    (θ_run Cert.FfnIdeal.defs _ _).mono
      (fun _ h c => ⟨(h c).1.trans ((Cert.FfnIdeal.Value.final14 m c).symm.trans (Cert.FfnFinal.final_o m c)), (h c).2⟩)
      (Cert.FfnIdeal.Value.run (F := Ideal) m ρ),
    (θ_run Cert.FfnReferenceIdeal.defs _ _).mono
      (fun _ h c => ⟨(h c).1.trans (funext fun j => by
          rw [eq_ix2 j]
          refine (Cert.FfnReferenceIdeal.Hand.res_at (launchContents m' c) (j 0) (j 1)).trans ?_
          obtain ⟨h0, h1, h2, h3, h4, h5, h6, h7, h8, h9, h10, h11, h12⟩ := hm c
          exact congrArg (fun a => out a (j 0).val (j 1).val) (args_eq h0 h1 h2 h3 h4 h5 h6 h7 h8 h9 h10 h11 h12)), (h c).2⟩)
      (Cert.FfnReferenceIdeal.Value.run (F := Ideal) m' ρ')⟩

end Cert.FfnValue

end
-- ==== Proof.Mid.Body.lean ====
/- A block of the kernel with the final norm left out: all but its last step is the other call's. -/
module

public import proofs.«01_k».proof.Proof.Ffn.Body
public import proofs.«01_k».proof.Proof.Gen.MidIdeal.Value

@[expose] public section

set_option maxRecDepth 16384

noncomputable section

namespace Cert.MidBody

open Idealize.ShloMosaic Cert.MidIdeal Cert.MidIdeal.Gen Cert.FfnModel Cert.FfnBlock Cert.FfnBody

/-- The sum of the residual and the down projection. -/
theorem down_at (a : Args) (g : ℕ) (X : FVec Ideal S512x1024 .f32) (A : FVec Ideal S512x2816 .bf16) (w : FVec Ideal S2816x1024 .bf16) (r : Fin 512)
    (hX : ∀ (r : Fin 512) (k : Fin 1024), X (ix2 r k) = xn a (g + r.val) k.val)
    (hA : ∀ (r : Fin 512) (j : Fin 2816), A (ix2 r j) = act a (g + r.val) j.val)
    (hw : ∀ (j : Fin 2816) (k : Fin 1024), w (ix2 j k) = a.wd j.val k.val) (k : Fin 1024) : downv X A w (ix2 r k) = yn a (g + r.val) k.val := by
  rw [downv_at, hX]
  simp only [hA, hw]
  rfl

section Block

variable (c : Dev nD) (i : grid0.Coords)
  (arg1 : Memref sig .tc .vmem S512x1024 .f32) (harg1 : arg1.IsWhole) (arg2 : Memref sig .tc .vmem S512x768 .f32) (harg2 : arg2.IsWhole)
  (arg3 : Memref sig .tc .vmem S8x768 .f32) (harg3 : arg3.IsWhole) (arg4 : Memref sig .tc .vmem S512x512 .bf16) (harg4 : arg4.IsWhole)
  (arg5 : Memref sig .tc .vmem S512x256 .bf16) (harg5 : arg5.IsWhole) (arg6 : Memref sig .tc .vmem S3x256 .f32) (harg6 : arg6.IsWhole)
  (arg7 : Memref sig .tc .vmem S256x1024 .bf16) (harg7 : arg7.IsWhole) (arg8 : Memref sig .tc .vmem S512x1024 .bf16) (harg8 : arg8.IsWhole)
  (arg9 : Memref sig .tc .vmem S256x1024 .bf16) (harg9 : arg9.IsWhole) (arg10 : Memref sig .tc .vmem S1x1024 .f32) (harg10 : arg10.IsWhole)
  (arg11 : Memref sig .tc .vmem S1024x5632 .bf16) (harg11 : arg11.IsWhole) (arg12 : Memref sig .tc .vmem S3x5632 .f32) (harg12 : arg12.IsWhole)
  (arg13 : Memref sig .tc .vmem S2816x1024 .bf16) (harg13 : arg13.IsWhole) (arg14 : Memref sig .tc .vmem S1x1024 .f32) (harg14 : arg14.IsWhole)
  (arg15 : Memref sig .tc .vmem S512x1024 .f32) (harg15 : arg15.IsWhole) (arg16 : Memref sig .tc .vmem S512x2816 .bf16) (harg16 : arg16.IsWhole)
  (arg17 : Memref sig .tc .vmem S8x5632 .f32) (harg17 : arg17.IsWhole)
  (x0 : Vec Ideal S512x1024 .f32) (x1 : Vec Ideal S512x768 .f32) (x2 : Vec Ideal S8x768 .f32) (x3 : Vec Ideal S512x512 .bf16) (x4 : Vec Ideal S512x256 .bf16) (x5 : Vec Ideal S3x256 .f32) (x6 : Vec Ideal S256x1024 .bf16)
  (x7 : Vec Ideal S512x1024 .bf16) (x8 : Vec Ideal S256x1024 .bf16) (x9 : Vec Ideal S1x1024 .f32) (x10 : Vec Ideal S1024x5632 .bf16) (x11 : Vec Ideal S3x5632 .f32) (x12 : Vec Ideal S2816x1024 .bf16) (x13 : Vec Ideal S1x1024 .f32)

/-- The residual of the block. -/
theorem resid_B {a : Args} {g : ℕ} (hs : Start (kernelRun0_B.sl.v13 i) g)
    (hr : Reads a (kernelRun0_B.sl.v13 i) g x0 x1 x2 x3 x4 x5 x6 x7 x8 x9 x10 x11 x12 x13) (r : Fin 512) (k : Fin 1024) :
    kernelRun0_B.sl.r_4 c i arg1 harg1 arg2 harg2 arg3 harg3 arg4 harg4 arg5 harg5 arg6 harg6 arg7 harg7 arg8 harg8 arg9 harg9 x0 x1 x2 x3 x4 x5 x6 x7 x8 (ix2 r k) = xn a (g + r.val) k.val :=
  Cert.FfnBody.resid_B c i arg1 harg1 arg2 harg2 arg3 harg3 arg4 harg4 arg5 harg5 arg6 harg6 arg7 harg7 arg8 harg8 arg9 harg9 x0 x1 x2 x3 x4 x5 x6 x7 x8 x9 x10 x11 x12 x13 hs hr r k

/-- The block's normed residual. -/
theorem hidden_B {a : Args} {g : ℕ} (hs : Start (kernelRun0_B.sl.v13 i) g)
    (hr : Reads a (kernelRun0_B.sl.v13 i) g x0 x1 x2 x3 x4 x5 x6 x7 x8 x9 x10 x11 x12 x13) (r : Fin 512) (d : Fin 1024) :
    kernelRun0_B.sl.r_5 c i arg1 harg1 arg2 harg2 arg3 harg3 arg4 harg4 arg5 harg5 arg6 harg6 arg7 harg7 arg8 harg8 arg9 harg9 arg10 harg10 x0 x1 x2 x3 x4 x5 x6 x7 x8 x9 (ix2 r d) = rms (xn a (g + r.val)) (a.wn 0 d.val) d.val :=
  Cert.FfnBody.hidden_B c i arg1 harg1 arg2 harg2 arg3 harg3 arg4 harg4 arg5 harg5 arg6 harg6 arg7 harg7 arg8 harg8 arg9 harg9 arg10 harg10 x0 x1 x2 x3 x4 x5 x6 x7 x8 x9 x10 x11 x12 x13 hs hr r d

/-- The gated activation of the block. -/
theorem act_B (xs1 : Vec Ideal S8x5632 .f32) {a : Args} {g : ℕ} (hs : Start (kernelRun0_B.sl.v13 i) g)
    (hr : Reads a (kernelRun0_B.sl.v13 i) g x0 x1 x2 x3 x4 x5 x6 x7 x8 x9 x10 x11 x12 x13)
    (hh : kernelRun0_B.sl.v13 i = 1#1 → ∀ (r : Fin 8) (k : Fin 5632), xs1 (ix2 r k) = up a k.val (g - 8 + r.val)) (r : Fin 512) (j : Fin 2816) :
    kernelRun0_B.sl.v760 c i arg1 harg1 arg2 harg2 arg3 harg3 arg4 harg4 arg5 harg5 arg6 harg6 arg7 harg7 arg8 harg8 arg9 harg9 arg10 harg10 arg11 harg11 arg12 harg12 arg16 arg17 harg17 x0 x1 x2 x3 x4 x5 x6 x7 x8 x9 x10 x11 xs1 (ix2 r j) = act a (g + r.val) j.val :=
  Cert.FfnBody.act_B c i arg1 harg1 arg2 harg2 arg3 harg3 arg4 harg4 arg5 harg5 arg6 harg6 arg7 harg7 arg8 harg8 arg9 harg9 arg10 harg10 arg11 harg11 arg12 harg12 arg16 arg17 harg17 x0 x1 x2 x3 x4 x5 x6 x7 x8 x9 x10 x11 x12 x13 xs1 hs hr hh r j

/-- The gated activation of the first grid point's block. -/
theorem act_A {a : Args} {g : ℕ} (hs : Start (kernelRun0_B.sl.v13 i) g) (hk : kernelRun0_B.sl.v13 i ≠ 1#1)
    (hr : Reads a (kernelRun0_B.sl.v13 i) g x0 x1 x2 x3 x4 x5 x6 x7 x8 x9 x10 x11 x12 x13) (r : Fin 512) (j : Fin 2816) :
    kernelRun0_A.sl.v760 c i arg1 harg1 arg2 harg2 arg3 harg3 arg4 harg4 arg5 harg5 arg6 harg6 arg7 harg7 arg8 harg8 arg9 harg9 arg10 harg10 arg11 harg11 arg12 harg12 arg16 arg17 x0 x1 x2 x3 x4 x5 x6 x7 x8 x9 x10 x11 (ix2 r j) = act a (g + r.val) j.val :=
  Cert.FfnBody.act_A c i arg1 harg1 arg2 harg2 arg3 harg3 arg4 harg4 arg5 harg5 arg6 harg6 arg7 harg7 arg8 harg8 arg9 harg9 arg10 harg10 arg11 harg11 arg12 harg12 arg16 arg17 x0 x1 x2 x3 x4 x5 x6 x7 x8 x9 x10 x11 x12 x13 hs hk hr r j

/-- What a later grid point leaves to the next. -/
theorem halo_B (hc0 : ¬cond0_0 i) (xs1 : Vec Ideal S8x5632 .f32) {a : Args} {g : ℕ} (hs : Start (kernelRun0_B.sl.v13 i) g)
    (hr : Reads a (kernelRun0_B.sl.v13 i) g x0 x1 x2 x3 x4 x5 x6 x7 x8 x9 x10 x11 x12 x13) (r : Fin 8) (k : Fin 5632) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs1 (ix2 r k) = up a k.val (g + 504 + r.val) := by
  unfold sout0_B_1
  rw [View.read_writes_junk_eq_canon]
  have hid := hidden_B c i arg1 harg1 arg2 harg2 arg3 harg3 arg4 harg4 arg5 harg5 arg6 harg6 arg7 harg7 arg8 harg8 arg9 harg9 arg10 harg10 x0 x1 x2 x3 x4 x5 x6 x7 x8 x9 x10 x11 x12 x13 hs hr
  unfold kernelRun0_B
  dsimp only
  iterate 22
    refine canon_step _ _ _ r k _ (fun j hj => ?_) (fun hn => ?_)
    · rw [← hj]
      exact tail_at a g _ _ _ hid (fun d k => (load_at arg11 harg11 x10 _ d k).trans (hr.h10 _ _)) r j
  exfalso
  omega

/-- What the first grid point leaves to the next. -/
theorem halo_A (hc0 : cond0_0 i) {a : Args} {g : ℕ} (hs : Start (kernelRun0_B.sl.v13 i) g)
    (hr : Reads a (kernelRun0_B.sl.v13 i) g x0 x1 x2 x3 x4 x5 x6 x7 x8 x9 x10 x11 x12 x13) (r : Fin 8) (k : Fin 5632) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 (ix2 r k) = up a k.val (g + 504 + r.val) := by
  unfold sout0_A_1
  rw [View.read_writes_junk_eq_canon]
  have hid := hidden_B c i arg1 harg1 arg2 harg2 arg3 harg3 arg4 harg4 arg5 harg5 arg6 harg6 arg7 harg7 arg8 harg8 arg9 harg9 arg10 harg10 x0 x1 x2 x3 x4 x5 x6 x7 x8 x9 x10 x11 x12 x13 hs hr
  unfold kernelRun0_A
  dsimp only
  iterate 22
    refine canon_step _ _ _ r k _ (fun j hj => ?_) (fun hn => ?_)
    · rw [← hj]
      exact tail_at a g _ _ _ hid (fun d k => (load_at arg11 harg11 x10 _ d k).trans (hr.h10 _ _)) r j
  exfalso
  omega

/-- What a later grid point stores to the result. -/
theorem out_B (hc0 : ¬cond0_0 i) (xs1 : Vec Ideal S8x5632 .f32) {a : Args} {g : ℕ} (hs : Start (kernelRun0_B.sl.v13 i) g)
    (hr : Reads a (kernelRun0_B.sl.v13 i) g x0 x1 x2 x3 x4 x5 x6 x7 x8 x9 x10 x11 x12 x13)
    (hh : kernelRun0_B.sl.v13 i = 1#1 → ∀ (r : Fin 8) (k : Fin 5632), xs1 (ix2 r k) = up a k.val (g - 8 + r.val)) (r : Fin 512) (k : Fin 1024) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xs1 (ix2 r k) = yn a (g + r.val) k.val := by
  unfold out0_B_14
  rw [View.read_writes_junk_eq_canon]
  have hx := resid_B c i arg1 harg1 arg2 harg2 arg3 harg3 arg4 harg4 arg5 harg5 arg6 harg6 arg7 harg7 arg8 harg8 arg9 harg9 x0 x1 x2 x3 x4 x5 x6 x7 x8 x9 x10 x11 x12 x13 hs hr
  have ha := act_B c i arg1 harg1 arg2 harg2 arg3 harg3 arg4 harg4 arg5 harg5 arg6 harg6 arg7 harg7 arg8 harg8 arg9 harg9 arg10 harg10 arg11 harg11 arg12 harg12 arg16 arg17 harg17 x0 x1 x2 x3 x4 x5 x6 x7 x8 x9 x10 x11 x12 x13 xs1 hs hr hh
  unfold kernelRun0_B
  dsimp only
  refine canon_step _ _ _ r k _ (fun j hj => ?_) (fun hn => by omega)
  obtain rfl : j = k := Fin.ext ((Nat.zero_add _).symm.trans hj)
  exact down_at a g _ _ _ r hx ha (fun j k => (load_whole arg13 harg13 x12 _ j k).trans (hr.h12 _ _)) j

/-- What the first grid point stores to the result. -/
theorem out_A (hc0 : cond0_0 i) {a : Args} {g : ℕ} (hs : Start (kernelRun0_B.sl.v13 i) g) (hk : kernelRun0_B.sl.v13 i ≠ 1#1)
    (hr : Reads a (kernelRun0_B.sl.v13 i) g x0 x1 x2 x3 x4 x5 x6 x7 x8 x9 x10 x11 x12 x13) (r : Fin 512) (k : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 (ix2 r k) = yn a (g + r.val) k.val := by
  unfold out0_A_14
  rw [View.read_writes_junk_eq_canon]
  have hx := resid_B c i arg1 harg1 arg2 harg2 arg3 harg3 arg4 harg4 arg5 harg5 arg6 harg6 arg7 harg7 arg8 harg8 arg9 harg9 x0 x1 x2 x3 x4 x5 x6 x7 x8 x9 x10 x11 x12 x13 hs hr
  have ha := act_A c i arg1 harg1 arg2 harg2 arg3 harg3 arg4 harg4 arg5 harg5 arg6 harg6 arg7 harg7 arg8 harg8 arg9 harg9 arg10 harg10 arg11 harg11 arg12 harg12 arg16 arg17 x0 x1 x2 x3 x4 x5 x6 x7 x8 x9 x10 x11 x12 x13 hs hk hr
  unfold kernelRun0_A
  dsimp only
  refine canon_step _ _ _ r k _ (fun j hj => ?_) (fun hn => by omega)
  obtain rfl : j = k := Fin.ext ((Nat.zero_add _).symm.trans hj)
  exact down_at a g _ _ _ r hx ha (fun j k => (load_whole arg13 harg13 x12 _ j k).trans (hr.h12 _ _)) j

end Block

end Cert.MidBody
end
-- ==== Proof.Mid.Final.lean ====
/- The result array of the call without the final norm: at every index the model's value before that norm. -/
module

public import proofs.«01_k».proof.Proof.Mid.Body
public import proofs.«01_k».proof.Proof.Ffn.Final

@[expose] public section

set_option maxRecDepth 16384

noncomputable section

namespace Cert.MidFinal

open Idealize.ShloMosaic Idealize.ShloMosaic.TcCoe Idealize.SL.Sem Cert.MidIdeal Cert.MidIdeal.Gen Cert.FfnModel Cert.FfnBlock Cert.FfnBody
open Cert.FfnFinal (args)

variable (m : (ℓ : Loc nD τ sig) → Buf (Elt Ideal) ℓ)

theorem index_14 : ∀ t : Fin cfg0.N, win0_14.index t = ![t.val, 0] := (by decide +kernel : ∀ t : Fin grid0.N, _)

/-- The first rows of the blocks are those of the other call. -/
theorem start_at (t : Fin cfg0.N) : Start (kernelRun0_B.sl.v13 (grid0.coords t)) (t.val * 512) := Cert.FfnFinal.start_at t

/-- The blocks of the arguments are those of the other call. -/
theorem reads_at (c : Dev nD) (t : Fin cfg0.N) :
    Reads (args m c) (kernelRun0_B.sl.v13 (grid0.coords t)) (t.val * 512) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := Cert.FfnFinal.reads_at m c t

/-- The rows a grid point leaves to the next. -/
theorem halo_at (c : Dev nD) (t : Fin cfg0.N) (r : Fin 8) (k : Fin 5632) :
    (outsAt0 m c t.val t.isLt).2 (ix2 r k) = up (args m c) k.val (t.val * 512 + 504 + r.val) := by
  have hs := start_at t
  have hr := reads_at m c t
  by_cases h0 : t.val % 64 = 0
  · rw [outsAt0_A m c t h0]
    dsimp only
    apply Cert.MidBody.halo_A
    · exact hs
    · exact hr
  · rw [outsAt0_B m c t h0]
    dsimp only
    generalize (outsAt0 m c (t.val - 1) _).2 = xs
    apply Cert.MidBody.halo_B
    · exact hs
    · exact hr

/-- What a grid point stores to the result. -/
theorem block_at (c : Dev nD) (t : Fin cfg0.N) (r : Fin 512) (k : Fin 1024) :
    (outsAt0 m c t.val t.isLt).1 (ix2 r k) = yn (args m c) (t.val * 512 + r.val) k.val := by
  have hs := start_at t
  have hr := reads_at m c t
  by_cases h0 : t.val % 64 = 0
  · rw [outsAt0_A m c t h0]
    dsimp only
    apply Cert.MidBody.out_A
    · exact hs
    · intro hk
      have h := (Cert.FfnFinal.keep_eq t).symm.trans hk
      rw [if_pos (by omega)] at h
      exact absurd h (by decide)
    · exact hr
  · have hp := halo_at m c ⟨t.val - 1, Nat.lt_of_le_of_lt (Nat.sub_le _ _) t.isLt⟩
    rw [outsAt0_B m c t h0]
    dsimp only at hp ⊢
    generalize (outsAt0 m c (t.val - 1) _).2 = xs at hp ⊢
    apply Cert.MidBody.out_B
    · exact hs
    · exact hr
    · intro _ s j
      rw [hp]
      exact congrArg (up (args m c) j.val) (by omega)

/-- The result array. -/
def res (c : Dev nD) : S32768x1024.Idx → EReal := fun j => yn (args m c) (j 0).val (j 1).val

theorem final_o (c : Dev nD) : (dats m 0 c).arrAt 14 cfg0.N = res m c := by
  refine (dats m 0 c).arrAt_eq_of_covers 14 _ (by decide +kernel) fun t hf y => ?_
  blk_simp
  show (dats m 0 c).after 14 t y = _
  rw [after0_14]
  show (outsAt0 m c t.val t.isLt).1 y = yn (args m c) ((win0_14.blk t).view.emb y 0).val ((win0_14.blk t).view.emb y 1).val
  have g0 : ((win0_14.blk t).view.emb y 0).val = t.val * 512 + (y 0).val := by
    blk_simp [index_14] <;> rfl
  have g1 : ((win0_14.blk t).view.emb y 1).val = (y 1).val := by
    blk_simp [index_14] <;> rfl
  rw [g0, g1]
  exact (congrArg (outsAt0 m c t.val t.isLt).1 (eq_ix2 y)).trans (block_at m c t (y 0) (y 1))

end Cert.MidFinal
end
-- ==== Proof.Mid.Ref.lean ====
/- The reference without the final norm. Its values are those the other reference has before that norm, read from the same
arguments. -/
module

public import proofs.«01_k».proof.Proof.Ffn.Ref
public import proofs.«01_k».proof.Proof.Gen.MidReferenceIdeal.Run

@[expose] public section

set_option maxRecDepth 16384

noncomputable section

namespace Cert.MidReferenceIdeal.Hand

open Cert.MidReferenceIdeal Cert.MidReferenceIdeal.Gen Idealize.ShloMosaic Idealize.ShloMosaic.TcCoe Idealize.SL.Sem Idealize.ShloMosaic.StableHlo Cert.FfnModel

/-- The arguments' contents, as contents of the other reference's arguments; its other arrays hold anything. -/
def carry (V0 : Valuation τ sig (Elt Ideal)) : Valuation Cert.FfnReferenceIdeal.τ Cert.FfnReferenceIdeal.sig (Elt Ideal) :=
  let V : Valuation Cert.FfnReferenceIdeal.τ Cert.FfnReferenceIdeal.sig (Elt Ideal) := fun _ _ => default
  let V := Function.update V (Proc.devRef .tc Cert.FfnReferenceIdeal.main_arg0) (V0 (Proc.devRef .tc main_arg0))
  let V := Function.update V (Proc.devRef .tc Cert.FfnReferenceIdeal.main_arg1) (V0 (Proc.devRef .tc main_arg1))
  let V := Function.update V (Proc.devRef .tc Cert.FfnReferenceIdeal.main_arg2) (V0 (Proc.devRef .tc main_arg2))
  let V := Function.update V (Proc.devRef .tc Cert.FfnReferenceIdeal.main_arg3) (V0 (Proc.devRef .tc main_arg3))
  let V := Function.update V (Proc.devRef .tc Cert.FfnReferenceIdeal.main_arg4) (V0 (Proc.devRef .tc main_arg4))
  let V := Function.update V (Proc.devRef .tc Cert.FfnReferenceIdeal.main_arg5) (V0 (Proc.devRef .tc main_arg5))
  let V := Function.update V (Proc.devRef .tc Cert.FfnReferenceIdeal.main_arg6) (V0 (Proc.devRef .tc main_arg6))
  let V := Function.update V (Proc.devRef .tc Cert.FfnReferenceIdeal.main_arg7) (V0 (Proc.devRef .tc main_arg7))
  let V := Function.update V (Proc.devRef .tc Cert.FfnReferenceIdeal.main_arg8) (V0 (Proc.devRef .tc main_arg8))
  let V := Function.update V (Proc.devRef .tc Cert.FfnReferenceIdeal.main_arg9) (V0 (Proc.devRef .tc main_arg9))
  let V := Function.update V (Proc.devRef .tc Cert.FfnReferenceIdeal.main_arg10) (V0 (Proc.devRef .tc main_arg10))
  let V := Function.update V (Proc.devRef .tc Cert.FfnReferenceIdeal.main_arg11) (V0 (Proc.devRef .tc main_arg11))
  let V := Function.update V (Proc.devRef .tc Cert.FfnReferenceIdeal.main_arg12) (V0 (Proc.devRef .tc main_arg12))
  V

/-- The reference's result. -/
def res (V0 : Valuation τ sig (Elt Ideal)) : (⟨2, ![32768, 1024]⟩ : Shape).Idx → EReal :=
  shapeCast S32768x1024 (Cert.FfnReferenceIdeal.Value.res_main_v84 (F := Ideal) (carry V0)) shapeCasts_S4x8192x1024_S32768x1024

theorem res_at (V0 : Valuation τ sig (Elt Ideal)) (r : Fin 32768) (k : Fin 1024) :
    res V0 (ix2 r k) = yn (Cert.FfnReferenceIdeal.Hand.args (carry V0)) r.val k.val := by
  unfold res
  pointwise
  simp only [Cert.FfnReferenceIdeal.Hand.v84_at]
  rw [Nat.div_add_mod']

end Cert.MidReferenceIdeal.Hand
end
-- ==== Proof.Mid.Value.lean ====
/- The feed-forward call without the final norm: the frames of the three programs, and the kernel and the reference end with the same result over
the extended reals. -/
module

public import proofs.«01_k».proof.Defs
public import proofs.«01_k».proof.Proof.Mid.Final
public import proofs.«01_k».proof.Proof.Mid.Ref
public import proofs.«01_k».proof.Proof.Gen.Mid.Frame
public import proofs.«01_k».proof.Proof.Ffn.Value
public import Idealize.ShloMosaic.Adequacy
public import Idealize.ShloMosaic.Init

@[expose] public section

noncomputable section

namespace Cert.MidValue

open Idealize.ShloMosaic Idealize.ShloMosaic.TcCoe Idealize.SL.Sem Idealize.ShloMosaic.StableHlo Cert.FfnModel

/-- The kernel runs to the end, leaves its arguments as they were and every counter at zero. -/
theorem frame_p : Cert.quiescent_Mid := fun m ρ _ => Cert.Mid.Gen.frame (F := Bits) m ρ

/-- The same of the kernel read over the extended reals. -/
theorem frame_pi : Cert.quiescent_MidIdeal := fun m ρ _ => Cert.MidIdeal.Gen.frame (F := Ideal) m ρ

/-- The reference runs to the end and leaves its arguments as they were; it has no counters. -/
theorem frame_ri : Cert.quiescent_MidReferenceIdeal := fun m ρ _ =>
  (θ_run Cert.MidReferenceIdeal.defs _ _).mono
    (fun r h => ⟨fun c => (h c).2, Idealize.ShloMosaic.sem_eq_zero_of_no_sems (by decide) r.2⟩)
    (Cert.MidReferenceIdeal.Value.run (F := Ideal) m ρ)

/-- From equal arguments both programs leave the model's array. -/
theorem algebraic : Cert.algebraic_MidIdeal_MidReferenceIdeal := fun m ρ m' ρ' _ hm =>
  ⟨fun c => Cert.MidFinal.res m c,
    (θ_run Cert.MidIdeal.defs _ _).mono
      (fun _ h c => ⟨(h c).1.trans ((Cert.MidIdeal.Value.final14 m c).symm.trans (Cert.MidFinal.final_o m c)), (h c).2⟩)
      (Cert.MidIdeal.Value.run (F := Ideal) m ρ),
    (θ_run Cert.MidReferenceIdeal.defs _ _).mono
      (fun _ h c => ⟨(h c).1.trans (funext fun j => by
          rw [eq_ix2 j]
          refine (Cert.MidReferenceIdeal.Hand.res_at (launchContents m' c) (j 0) (j 1)).trans ?_
          obtain ⟨h0, h1, h2, h3, h4, h5, h6, h7, h8, h9, h10, h11, h12⟩ := hm c
          exact congrArg (fun a => yn a (j 0).val (j 1).val) (Cert.FfnValue.args_eq h0 h1 h2 h3 h4 h5 h6 h7 h8 h9 h10 h11 h12)), (h c).2⟩)
      (Cert.MidReferenceIdeal.Value.run (F := Ideal) m' ρ')⟩

end Cert.MidValue

end
-- ==== Proof.Inproj.Model.lean ====
/- The input projection call's four results as formulas of a row and a column of its arguments. -/
module

public import proofs.«01_k».proof.Proof.Ffn.Model

@[expose] public section

noncomputable section

namespace Cert.InprojModel

open Idealize.ShloMosaic Cert.FfnModel

/-- The call's arguments: the layer's input, the norm's weights, the four column blocks of the projection (short convolution,
gated delta rule, attention, the rule's gates) and the convolution of the rule's queries, keys and values. -/
structure Ins where
  (x wn ws wg wb wa wk : ℕ → ℕ → EReal)

/-- Equal arrays read as the same arguments. -/
theorem ins_eq {X0 Y0 : (⟨2, ![32768, 1024]⟩ : Shape).Idx → EReal} {X1 Y1 : (⟨2, ![1, 1024]⟩ : Shape).Idx → EReal}
    {X2 Y2 : (⟨2, ![1024, 768]⟩ : Shape).Idx → EReal} {X3 Y3 : (⟨2, ![1024, 2048]⟩ : Shape).Idx → EReal}
    {X4 Y4 : (⟨2, ![1024, 768]⟩ : Shape).Idx → EReal} {X5 Y5 : (⟨2, ![1024, 128]⟩ : Shape).Idx → EReal}
    {X6 Y6 : (⟨2, ![4, 1536]⟩ : Shape).Idx → EReal}
    (h0 : X0 = Y0) (h1 : X1 = Y1) (h2 : X2 = Y2) (h3 : X3 = Y3) (h4 : X4 = Y4) (h5 : X5 = Y5) (h6 : X6 = Y6) :
    Ins.mk (el X0) (el X1) (el X2) (el X3) (el X4) (el X5) (el X6) = Ins.mk (el Y0) (el Y1) (el Y2) (el Y3) (el Y4) (el Y5) (el Y6) := by
  subst h0 h1 h2 h3 h4 h5 h6
  rfl

/-- The causal convolution of width four along the rows. -/
def cv (f : ℕ → EReal) (w0 w1 w2 w3 : EReal) (r : ℕ) : EReal := f r * w3 + back f 1 r * w2 + back f 2 r * w1 + back f 3 r * w0

/-- A value times its sigmoid. -/
def silu (g : EReal) : EReal := g * Ideal.div 1 (1 + Ideal.exp (-g))

/-- One over the norm of 128 values. -/
def inv (f : ℕ → EReal) : EReal := Ideal.rsqrt (∑ i : Fin 128, f i.val * f i.val + Ideal.ofBits FTy.f32 897988541#32)

/-- One over the root of the heads' width. -/
def qs : EReal := Ideal.ofBits FTy.f32 1035273459#32

variable (a : Ins)

/-- A column of the normed input times a block of the projection. -/
def proj (w : ℕ → ℕ → EReal) (j r : ℕ) : EReal := ∑ d : Fin 1024, rms (a.x r) (a.wn 0 d.val) d.val * w d.val j

/-- A convolved and activated column of the queries, keys and values. -/
def act (r j : ℕ) : EReal := silu (cv (proj a a.wg j) (a.wk 0 j) (a.wk 1 j) (a.wk 2 j) (a.wk 3 j) r)

/-- One over the norm of head `g`'s values. -/
def hinv (r g : ℕ) : EReal := inv fun i => act a r (g * 128 + i)

/-- The gated delta rule's inputs: queries and keys over their norms, the queries scaled, values, and the output's gate. -/
def gdn (r j : ℕ) : EReal :=
  if j < 512 then act a r j * hinv a r (j / 128) * qs else if j < 1024 then act a r j * hinv a r (j / 128)
    else if j < 1536 then act a r j else proj a a.wg j r

end Cert.InprojModel
end
-- ==== Proof.Inproj.Block.lean ====
/- The blocks of the input projection kernel, read at an element.

The kernel works on 1024 rows at a time. The vector expressions of one block are named here once and read at a
row and a column, as the model's values at the block's rows. -/
module

public import proofs.«01_k».proof.Proof.Inproj.Model
public import proofs.«01_k».proof.Proof.Gen.InprojIdeal.Skeleton

@[expose] public section

set_option maxRecDepth 16384

noncomputable section

namespace Cert.InprojBlock

open Idealize.ShloMosaic Cert.InprojIdeal Cert.InprojIdeal.Gen Cert.FfnModel Cert.InprojModel

/-- One block's rows over their root mean squares, times the weights. -/
def normv (X : FVec Ideal S1024x1024 .f32) (w : FVec Ideal S1x1024 .f32) : FVec Ideal S1024x1024 .bf16 :=
  truncf .bf16 (mulf (mulf X (broadcastTo S1024x1024 (rsqrt (addf (divf (shapeCast S1024x1
      (multiReduction .add [1] S1024 (mulf X X) 0x00000000#32 reduces_S1024x1024_S1024 (.inl rfl) rfl) shapeCasts_S1024_S1024x1)
      (broadcast S1024x1 (Scalar.ofBits .f32 0x44800000#32))) (broadcast S1024x1 (Scalar.ofBits .f32 0x358637BD#32))))
    broadcasts_S1024x1_S1024x1024)) (broadcastTo S1024x1024 w broadcasts_S1x1024_S1024x1024)) bitsLt_bf16_f32

/-- Eight rows from before the block (or zeros, at the first block of a sequence) above its 1024 rows. -/
def cat (keep : BitVec 1) (u : FVec Ideal S1024x128 .f32) (halo : FVec Ideal S8x128 .f32) : FVec Ideal S1032x128 .f32 :=
  concatenate S1032x128 0 [⟨S8x128, Scalar.select keep halo (broadcast S8x128 (Scalar.ofBits .f32 0x00000000#32))⟩,
    ⟨S1024x128, shapeCast S1024x128 u shapeCasts_S1024x128_S1024x128⟩] concatenates_S8x128_S1024x128_S1032x128_d0

/-- The causal convolution of width four of 128 columns below their eight rows, from column `o` of the weights on. -/
def conv (K : FVec Ideal S1032x128 .f32) (w : FVec Ideal S4x1536 .f32) (o : ℕ)
    (s3 : S4x1536.Slices ![3, o] S1x128) (s2 : S4x1536.Slices ![2, o] S1x128) (s1 : S4x1536.Slices ![1, o] S1x128)
    (s0 : S4x1536.Slices ![0, o] S1x128) : FVec Ideal S1024x128 .f32 :=
  addf (addf (addf
    (mulf (extractStridedSlice S1024x128 ![8, 0] K slices_S1032x128_o8_0_S1024x128)
      (broadcastTo S1024x128 (extractStridedSlice S1x128 ![3, o] w s3) broadcasts_S1x128_S1024x128))
    (mulf (extractStridedSlice S1024x128 ![7, 0] K slices_S1032x128_o7_0_S1024x128)
      (broadcastTo S1024x128 (extractStridedSlice S1x128 ![2, o] w s2) broadcasts_S1x128_S1024x128)))
    (mulf (extractStridedSlice S1024x128 ![6, 0] K slices_S1032x128_o6_0_S1024x128)
      (broadcastTo S1024x128 (extractStridedSlice S1x128 ![1, o] w s1) broadcasts_S1x128_S1024x128)))
    (mulf (extractStridedSlice S1024x128 ![5, 0] K slices_S1032x128_o5_0_S1024x128)
      (broadcastTo S1024x128 (extractStridedSlice S1x128 ![0, o] w s0) broadcasts_S1x128_S1024x128))

/-- Each value times its sigmoid. -/
def siluv (v : FVec Ideal S1024x128 .f32) : FVec Ideal S1024x128 .f32 :=
  mulf v (divf (broadcast S1024x128 (Scalar.ofBits .f32 0x3F800000#32)) (addf (broadcast S1024x128 (Scalar.ofBits .f32 0x3F800000#32))
    (exp (subf (broadcast S1024x128 (Scalar.ofBits .f32 0x00000000#32)) v))))

/-- One over each row's norm. -/
def invv (v : FVec Ideal S1024x128 .f32) : FVec Ideal S1024x1 .f32 :=
  rsqrt (addf (shapeCast S1024x1 (multiReduction .add [1] S1024 (mulf v v) 0x00000000#32 reduces_S1024x128_S1024 (.inl rfl) rfl)
    shapeCasts_S1024_S1024x1) (broadcast S1024x1 (Scalar.ofBits .f32 0x358637BD#32)))

/-- A head's keys over their norms. -/
def keyv (v : FVec Ideal S1024x128 .f32) : FVec Ideal S1024x128 .f32 :=
  mulf v (broadcastTo S1024x128 (invv v) broadcasts_S1024x1_S1024x128)

/-- A head's queries over their norms, scaled. -/
def queryv (v : FVec Ideal S1024x128 .f32) : FVec Ideal S1024x128 .f32 :=
  mulf v (broadcastTo S1024x128 (mulf (invv v) (broadcast S1024x1 (Scalar.ofBits .f32 0x3DB504F3#32))) broadcasts_S1024x1_S1024x128)

/-- The last eight rows of 128 columns, which the next block reads. -/
def tailv (u : FVec Ideal S1024x128 .f32) : FVec Ideal S8x128 .f32 :=
  shapeCast S8x128 (extractStridedSlice S8x128 ![1016, 0] (shapeCast S1024x128 u shapeCasts_S1024x128_S1024x128)
    slices_S1024x128_o1016_0_S8x128) shapeCasts_S8x128_S8x128

/-- 512 columns of the projection. -/
def wide (h : FVec Ideal S1024x1024 .bf16) (w : FVec Ideal S1024x512 .bf16) : FVec Ideal S1024x512 .f32 :=
  matmul dot_S1024x1024_S1024x512_S1024x512_1_0_0_1_n_n none h w (constant S1024x512 .f32 0x00000000#32)

/-- What the block's start says of the rows before it: none in its sequence, or at least 1024. -/
structure Start (keep : BitVec 1) (g : ℕ) : Prop where
  tile : g % 1024 = 0
  first : keep ≠ 1#1 → g % 8192 = 0
  later : keep = 1#1 → 1024 ≤ g % 8192

theorem select_halo (keep : BitVec 1) (x y : EReal) : Scalar.select keep x y = if keep = 1#1 then x else y := rfl

theorem normv_at (X : FVec Ideal S1024x1024 .f32) (w : FVec Ideal S1x1024 .f32) (f : ℕ → EReal) (r : Fin 1024)
    (hX : ∀ c : Fin 1024, X (ix2 r c) = f c.val) (c : Fin 1024) : normv X w (ix2 r c) = rms f (w (ix2 0 c)) c.val := by
  unfold normv
  pointwise
  simp only [hX]
  rfl

theorem wide_at (a : Ins) (g o : ℕ) (h : FVec Ideal S1024x1024 .bf16) (w : FVec Ideal S1024x512 .bf16)
    (hh : ∀ (r d : Fin 1024), h (ix2 r d) = rms (a.x (g + r.val)) (a.wn 0 d.val) d.val)
    (hw : ∀ (d : Fin 1024) (k : Fin 512), w (ix2 d k) = a.wg d.val (o + k.val)) (r : Fin 1024) (k : Fin 512) :
    wide h w (ix2 r k) = proj a a.wg (o + k.val) (g + r.val) := by
  unfold wide
  pointwise
  simp only [hh, hw]
  rfl

/-- The short convolution's columns of the projection. -/
theorem short_at (a : Ins) (W : ℕ → ℕ → EReal) (g : ℕ) (h : FVec Ideal S1024x1024 .bf16) (w : FVec Ideal S1024x768 .bf16)
    (hh : ∀ (r d : Fin 1024), h (ix2 r d) = rms (a.x (g + r.val)) (a.wn 0 d.val) d.val)
    (hw : ∀ (d : Fin 1024) (k : Fin 768), w (ix2 d k) = W d.val k.val) (r : Fin 1024) (k : Fin 768) :
    (matmul dot_S1024x1024_S1024x768_S1024x768_1_0_0_1_n_n none h w (constant S1024x768 .f32 0x00000000#32) : FVec Ideal S1024x768 .f32) (ix2 r k) = proj a W k.val (g + r.val) := by
  pointwise
  simp only [hh, hw]
  rfl

/-- Attention's columns of the projection. -/
theorem attn_at (a : Ins) (W : ℕ → ℕ → EReal) (g : ℕ) (h : FVec Ideal S1024x1024 .bf16) (w : FVec Ideal S1024x768 .bf16)
    (hh : ∀ (r d : Fin 1024), h (ix2 r d) = rms (a.x (g + r.val)) (a.wn 0 d.val) d.val)
    (hw : ∀ (d : Fin 1024) (k : Fin 768), w (ix2 d k) = W d.val k.val) (r : Fin 1024) (k : Fin 768) :
    truncf .bf16 (matmul dot_S1024x1024_S1024x768_S1024x768_1_0_0_1_n_n none h w (constant S1024x768 .f32 0x00000000#32) : FVec Ideal S1024x768 .f32) bitsLt_bf16_f32 (ix2 r k) = proj a W k.val (g + r.val) := by
  pointwise
  simp only [hh, hw]
  rfl

/-- The rule's gates of the projection. -/
theorem gate_at (a : Ins) (W : ℕ → ℕ → EReal) (g : ℕ) (h : FVec Ideal S1024x1024 .bf16) (w : FVec Ideal S1024x128 .bf16)
    (hh : ∀ (r d : Fin 1024), h (ix2 r d) = rms (a.x (g + r.val)) (a.wn 0 d.val) d.val)
    (hw : ∀ (d : Fin 1024) (k : Fin 128), w (ix2 d k) = W d.val k.val) (r : Fin 1024) (k : Fin 128) :
    (matmul dot_S1024x1024_S1024x128_S1024x128_1_0_0_1_n_n none h w (constant S1024x128 .f32 0x00000000#32) : FVec Ideal S1024x128 .f32) (ix2 r k) = proj a W k.val (g + r.val) := by
  pointwise
  simp only [hh, hw]
  rfl

theorem tailv_at (a : Ins) (g o : ℕ) (u : FVec Ideal S1024x128 .f32) (T : FVec Ideal S8x128 .f32) (hT : T = tailv u)
    (hu : ∀ (r : Fin 1024) (k : Fin 128), u (ix2 r k) = proj a a.wg (o + k.val) (g + r.val)) (i : Fin 8) (k : Fin 128) :
    T (ix2 i k) = proj a a.wg (o + k.val) (g + 1016 + i.val) := by
  have h : tailv u (ix2 i k) = u (ix2 ⟨1016 + i.val, by omega⟩ k) := by
    unfold tailv
    pointwise
  rw [hT, h, hu, add_assoc]

theorem conv_at {keep : BitVec 1} {g : ℕ} (hs : Start keep g) (u : FVec Ideal S1024x128 .f32) (halo : FVec Ideal S8x128 .f32)
    (w : FVec Ideal S4x1536 .f32) (o : ℕ) (ho : o + 128 ≤ 1536) (s3 : S4x1536.Slices ![3, o] S1x128) (s2 : S4x1536.Slices ![2, o] S1x128)
    (s1 : S4x1536.Slices ![1, o] S1x128) (s0 : S4x1536.Slices ![0, o] S1x128) (k : Fin 128) (f : ℕ → EReal)
    (hu : ∀ r : Fin 1024, u (ix2 r k) = f (g + r.val)) (hh : keep = 1#1 → ∀ i : Fin 8, halo (ix2 i k) = f (g - 8 + i.val)) (r : Fin 1024) :
    conv (cat keep u halo) w o s3 s2 s1 s0 (ix2 r k) = InprojModel.cv f (w (ix2 0 ⟨o + k.val, by omega⟩)) (w (ix2 1 ⟨o + k.val, by omega⟩))
      (w (ix2 2 ⟨o + k.val, by omega⟩)) (w (ix2 3 ⟨o + k.val, by omega⟩)) (g + r.val) := by
  obtain ⟨h1, h2, h3⟩ := hs
  have back_eq : ∀ (d : ℕ) (hd : 1 ≤ d ∧ d ≤ 3), (if h : (8 - d) + r.val < 8 then
      Scalar.select keep (halo (ix2 ⟨(8 - d) + r.val, h⟩ k)) 0 else u (ix2 ⟨(8 - d) + r.val - 8, by omega⟩ k)) = back f d (g + r.val) := by
    intro d hd
    unfold back
    by_cases h : (8 - d) + r.val < 8
    · rw [dif_pos h, select_halo]
      by_cases hk : keep = 1#1
      · have := h3 hk
        rw [if_pos hk, hh hk, if_pos (by omega)]
        exact congrArg f (show g - 8 + (8 - d + r.val) = g + r.val - d by omega)
      · have := h2 hk
        rw [if_neg hk, if_neg (by omega)]
    · rw [dif_neg h, hu, if_pos (by omega)]
      exact congrArg f (show g + (8 - d + r.val - 8) = g + r.val - d by omega)
  unfold conv cat
  pointwise
  unfold InprojModel.cv
  rw [← back_eq 1 (by omega), ← back_eq 2 (by omega), ← back_eq 3 (by omega), hu]

/-- 128 convolved and activated columns, at the model's values. -/
theorem act_at {keep : BitVec 1} {g : ℕ} (hs : Start keep g) (a : Ins) (u : FVec Ideal S1024x128 .f32) (halo : FVec Ideal S8x128 .f32)
    (w : FVec Ideal S4x1536 .f32) (o : ℕ) (ho : o + 128 ≤ 1536) (s3 : S4x1536.Slices ![3, o] S1x128) (s2 : S4x1536.Slices ![2, o] S1x128)
    (s1 : S4x1536.Slices ![1, o] S1x128) (s0 : S4x1536.Slices ![0, o] S1x128)
    (hu : ∀ (r : Fin 1024) (k : Fin 128), u (ix2 r k) = proj a a.wg (o + k.val) (g + r.val))
    (hh : keep = 1#1 → ∀ (i : Fin 8) (k : Fin 128), halo (ix2 i k) = proj a a.wg (o + k.val) (g - 8 + i.val))
    (hw : ∀ (i : Fin 4) (k : Fin 1536), w (ix2 i k) = a.wk i.val k.val) (r : Fin 1024) (k : Fin 128) :
    siluv (conv (cat keep u halo) w o s3 s2 s1 s0) (ix2 r k) = act a (g + r.val) (o + k.val) := by
  have h := conv_at hs u halo w o ho s3 s2 s1 s0 k _ (fun r => hu r k) (fun hk i => hh hk i k) r
  simp only [hw] at h
  unfold siluv
  pointwise
  rw [h, zero_sub]
  rfl

/-- One over a head's norm, at the model's values. -/
theorem invv_at (a : Ins) (g o : ℕ) (ho : o % 128 = 0) (v : FVec Ideal S1024x128 .f32)
    (hv : ∀ (r : Fin 1024) (k : Fin 128), v (ix2 r k) = act a (g + r.val) (o + k.val)) (r : Fin 1024) (k : Fin 128) :
    invv v (ix2 r 0) = hinv a (g + r.val) ((o + k.val) / 128) := by
  unfold invv
  pointwise
  simp only [hv]
  unfold hinv
  rw [show (o + k.val) / 128 * 128 = o by omega]
  rfl

theorem keyv_at (v : FVec Ideal S1024x128 .f32) (r : Fin 1024) (k : Fin 128) : keyv v (ix2 r k) = v (ix2 r k) * invv v (ix2 r 0) := by
  unfold keyv
  pointwise

theorem queryv_at (v : FVec Ideal S1024x128 .f32) (r : Fin 1024) (k : Fin 128) :
    queryv v (ix2 r k) = v (ix2 r k) * (invv v (ix2 r 0) * qs) := by
  unfold queryv
  pointwise
  rfl

/-- What the block's columns from `o` on are made of: 128 columns of the projection, the eight rows above them, and the weights. -/
structure Cols (a : Ins) (keep : BitVec 1) (g o : ℕ) (u : FVec Ideal S1024x128 .f32) (halo : FVec Ideal S8x128 .f32)
    (w : FVec Ideal S4x1536 .f32) : Prop where
  start : Start keep g
  hu : ∀ (r : Fin 1024) (k : Fin 128), u (ix2 r k) = proj a a.wg (o + k.val) (g + r.val)
  hh : keep = 1#1 → ∀ (i : Fin 8) (k : Fin 128), halo (ix2 i k) = proj a a.wg (o + k.val) (g - 8 + i.val)
  hw : ∀ (i : Fin 4) (k : Fin 1536), w (ix2 i k) = a.wk i.val k.val

variable {a : Ins} {keep : BitVec 1} {g o : ℕ} {u : FVec Ideal S1024x128 .f32} {halo : FVec Ideal S8x128 .f32} {w : FVec Ideal S4x1536 .f32}

/-- A head of queries, at the model's values. -/
theorem query_at (h : Cols a keep g o u halo w) (ho : o % 128 = 0 ∧ o < 512) (r : Fin 1024) (k : Fin 128)
    (s3 : S4x1536.Slices ![3, o] S1x128) (s2 : S4x1536.Slices ![2, o] S1x128)
    (s1 : S4x1536.Slices ![1, o] S1x128) (s0 : S4x1536.Slices ![0, o] S1x128) (T V C : FVec Ideal S1024x128 .f32) (K : FVec Ideal S1032x128 .f32)
    (hT : T = queryv V) (hV : V = siluv C) (hC : C = conv K w o s3 s2 s1 s0) (hK : K = cat keep u halo) : T (ix2 r k) = gdn a (g + r.val) (o + k.val) := by
  have hv := act_at h.start a u halo w o (by omega) s3 s2 s1 s0 h.hu h.hh h.hw
  rw [hT, hV, hC, hK, queryv_at, invv_at a g o ho.1 _ hv r k, hv, ← mul_assoc, gdn, if_pos (by omega)]

/-- A head of keys, at the model's values. -/
theorem key_at (h : Cols a keep g o u halo w) (ho : o % 128 = 0 ∧ 512 ≤ o ∧ o < 1024) (r : Fin 1024) (k : Fin 128)
    (s3 : S4x1536.Slices ![3, o] S1x128) (s2 : S4x1536.Slices ![2, o] S1x128)
    (s1 : S4x1536.Slices ![1, o] S1x128) (s0 : S4x1536.Slices ![0, o] S1x128) (T V C : FVec Ideal S1024x128 .f32) (K : FVec Ideal S1032x128 .f32)
    (hT : T = keyv V) (hV : V = siluv C) (hC : C = conv K w o s3 s2 s1 s0) (hK : K = cat keep u halo) : T (ix2 r k) = gdn a (g + r.val) (o + k.val) := by
  have hv := act_at h.start a u halo w o (by omega) s3 s2 s1 s0 h.hu h.hh h.hw
  rw [hT, hV, hC, hK, keyv_at, invv_at a g o ho.1 _ hv r k, hv, gdn, if_neg (by omega), if_pos (by omega)]

/-- A head of values, at the model's values. -/
theorem value_at (h : Cols a keep g o u halo w) (ho : 1024 ≤ o ∧ o + 128 ≤ 1536) (r : Fin 1024) (k : Fin 128)
    (s3 : S4x1536.Slices ![3, o] S1x128) (s2 : S4x1536.Slices ![2, o] S1x128)
    (s1 : S4x1536.Slices ![1, o] S1x128) (s0 : S4x1536.Slices ![0, o] S1x128) (V C : FVec Ideal S1024x128 .f32) (K : FVec Ideal S1032x128 .f32)
    (hV : V = siluv C) (hC : C = conv K w o s3 s2 s1 s0) (hK : K = cat keep u halo) : V (ix2 r k) = gdn a (g + r.val) (o + k.val) := by
  rw [hV, hC, hK, act_at h.start a u halo w o (by omega) s3 s2 s1 s0 h.hu h.hh h.hw, gdn, if_neg (by omega), if_neg (by omega), if_pos (by omega)]

end Cert.InprojBlock
end
-- ==== Proof.Inproj.Body.lean ====
/- One grid point of the input projection kernel: what it stores, as the model's values at the block's rows. -/
module

public import proofs.«01_k».proof.Proof.Inproj.Block
public import proofs.«01_k».proof.Proof.Gen.InprojIdeal.Value
public import proofs.«01_k».proof.Proof.Ffn.Body

@[expose] public section

set_option maxRecDepth 16384

noncomputable section

namespace Cert.InprojBody

open Idealize.ShloMosaic Cert.InprojIdeal Cert.InprojIdeal.Gen Cert.FfnModel Cert.InprojModel Cert.InprojBlock
open Cert.FfnBody (load_at load_whole canon_step)

/-- A load of whole rows from column `o` on, of a buffer a list of stores has written. -/
theorem cov_at {sg : RefSig} {R M w o : ℕ} {e : EltTy} {m : Memref sg .tc .vmem ⟨2, ![R, M]⟩ e}
    (L : List (View.Piece (Elt Ideal) ⟨2, ![R, M]⟩ e)) (inb : ∀ a, (![0, o] : Fin 2 → ℕ) a + (![R, w] : Fin 2 → ℕ) a ≤ (![R, M] : Fin 2 → ℕ) a)
    (r : Fin R) (k : Fin w) (v : Elt Ideal e)
    (h : View.canon L (ix2 r ⟨o + k.val, lt_of_lt_of_le (Nat.add_lt_add_left k.isLt o) (inb 1)⟩) = v) :
    View.readCov m.view L (Rect.unit (s := ⟨2, ![R, M]⟩) ![0, o] ![R, w] inb).toLoadRect (ix2 r k) = v := by
  rw [View.readCov_eq_canon']
  refine (congrArg (View.canon L) (funext fun a => ?_)).trans h
  fin_cases a
  · exact Fin.ext (show 0 + 1 * r.val = r.val by omega)
  · exact Fin.ext (show o + 1 * k.val = o + k.val by omega)

/-- What the block's inputs hold, when the block's first row is row `g`. -/
structure Reads (a : Ins) (g : ℕ) (x0 : Vec Ideal S1024x1024 .f32) (x1 : Vec Ideal S1x1024 .f32) (x2 : Vec Ideal S1024x768 .bf16)
    (x3 : Vec Ideal S1024x2048 .bf16) (x4 : Vec Ideal S1024x768 .bf16) (x5 : Vec Ideal S1024x128 .bf16) (x6 : Vec Ideal S4x1536 .f32) : Prop where
  h0 : ∀ (r k : Fin 1024), x0 (ix2 r k) = a.x (g + r.val) k.val
  h1 : ∀ (r : Fin 1) (k : Fin 1024), x1 (ix2 r k) = a.wn r.val k.val
  h2 : ∀ (r : Fin 1024) (k : Fin 768), x2 (ix2 r k) = a.ws r.val k.val
  h3 : ∀ (r : Fin 1024) (k : Fin 2048), x3 (ix2 r k) = a.wg r.val k.val
  h4 : ∀ (r : Fin 1024) (k : Fin 768), x4 (ix2 r k) = a.wb r.val k.val
  h5 : ∀ (r : Fin 1024) (k : Fin 128), x5 (ix2 r k) = a.wa r.val k.val
  h6 : ∀ (r : Fin 4) (k : Fin 1536), x6 (ix2 r k) = a.wk r.val k.val

section Block

variable (c : Dev nD) (i : grid0.Coords)
  (arg1 : Memref sig .tc .vmem S1024x1024 .f32) (harg1 : arg1.IsWhole) (arg2 : Memref sig .tc .vmem S1x1024 .f32) (harg2 : arg2.IsWhole)
  (arg3 : Memref sig .tc .vmem S1024x768 .bf16) (harg3 : arg3.IsWhole) (arg4 : Memref sig .tc .vmem S1024x2048 .bf16) (harg4 : arg4.IsWhole)
  (arg5 : Memref sig .tc .vmem S1024x768 .bf16) (harg5 : arg5.IsWhole) (arg6 : Memref sig .tc .vmem S1024x128 .bf16) (harg6 : arg6.IsWhole)
  (arg7 : Memref sig .tc .vmem S4x1536 .f32) (harg7 : arg7.IsWhole) (arg8 : Memref sig .tc .vmem S1024x768 .f32) (harg8 : arg8.IsWhole)
  (arg9 : Memref sig .tc .vmem S1024x2048 .f32) (harg9 : arg9.IsWhole) (arg10 : Memref sig .tc .vmem S1024x768 .bf16) (harg10 : arg10.IsWhole)
  (arg11 : Memref sig .tc .vmem S1024x128 .f32) (harg11 : arg11.IsWhole) (arg12 : Memref sig .tc .vmem S8x1536 .f32) (harg12 : arg12.IsWhole)
  (x0 : Vec Ideal S1024x1024 .f32) (x1 : Vec Ideal S1x1024 .f32) (x2 : Vec Ideal S1024x768 .bf16) (x3 : Vec Ideal S1024x2048 .bf16) (x4 : Vec Ideal S1024x768 .bf16) (x5 : Vec Ideal S1024x128 .bf16) (x6 : Vec Ideal S4x1536 .f32)

/-- The block's normed rows. -/
theorem hidden {a : Ins} {g : ℕ} (hr : Reads a g x0 x1 x2 x3 x4 x5 x6) (r d : Fin 1024) :
    kernelRun0_B.sl.r c arg1 harg1 arg2 harg2 x0 x1 (ix2 r d) = rms (a.x (g + r.val)) (a.wn 0 d.val) d.val := by
  refine (normv_at _ _ (a.x (g + r.val)) r (fun k => (load_whole arg1 harg1 x0 _ r k).trans (hr.h0 _ _)) d).trans ?_
  rw [load_whole arg2 harg2 x1, hr.h1]
  rfl

/-- What a later grid point stores of the short convolution's columns. -/
theorem out_B_7 (hc0 : ¬cond0_0 i) (xs0 : Vec Ideal S8x1536 .f32) {a : Ins} {g : ℕ} (hr : Reads a g x0 x1 x2 x3 x4 x5 x6) (r : Fin 1024) (k : Fin 768) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (ix2 r k) = proj a a.ws k.val (g + r.val) := by
  unfold out0_B_7
  rw [View.read_writes_junk_eq_canon]
  have hid := hidden c arg1 harg1 arg2 harg2 x0 x1 x2 x3 x4 x5 x6 hr
  unfold kernelRun0_B
  dsimp only
  refine canon_step _ _ _ r k _ (fun j hj => ?_) (fun hn => by omega)
  obtain rfl : j = k := Fin.ext ((Nat.zero_add _).symm.trans hj)
  exact short_at a a.ws g _ _ hid (fun d k => (load_whole arg3 harg3 x2 _ d k).trans (hr.h2 _ _)) r j

/-- What a first grid point stores of the short convolution's columns. -/
theorem out_A_7 (hc0 : cond0_0 i) {a : Ins} {g : ℕ} (hr : Reads a g x0 x1 x2 x3 x4 x5 x6) (r : Fin 1024) (k : Fin 768) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r k) = proj a a.ws k.val (g + r.val) := by
  unfold out0_A_7
  rw [View.read_writes_junk_eq_canon]
  have hid := hidden c arg1 harg1 arg2 harg2 x0 x1 x2 x3 x4 x5 x6 hr
  unfold kernelRun0_A
  dsimp only
  refine canon_step _ _ _ r k _ (fun j hj => ?_) (fun hn => by omega)
  obtain rfl : j = k := Fin.ext ((Nat.zero_add _).symm.trans hj)
  exact short_at a a.ws g _ _ hid (fun d k => (load_whole arg3 harg3 x2 _ d k).trans (hr.h2 _ _)) r j

/-- What a later grid point stores of the attention's columns. -/
theorem out_B_9 (hc0 : ¬cond0_0 i) (xs0 : Vec Ideal S8x1536 .f32) {a : Ins} {g : ℕ} (hr : Reads a g x0 x1 x2 x3 x4 x5 x6) (r : Fin 1024) (k : Fin 768) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (ix2 r k) = proj a a.wb k.val (g + r.val) := by
  unfold out0_B_9
  rw [View.read_writes_junk_eq_canon]
  have hid := hidden c arg1 harg1 arg2 harg2 x0 x1 x2 x3 x4 x5 x6 hr
  unfold kernelRun0_B
  dsimp only
  refine canon_step _ _ _ r k _ (fun j hj => ?_) (fun hn => by omega)
  obtain rfl : j = k := Fin.ext ((Nat.zero_add _).symm.trans hj)
  exact attn_at a a.wb g _ _ hid (fun d k => (load_whole arg5 harg5 x4 _ d k).trans (hr.h4 _ _)) r j

/-- What a first grid point stores of the attention's columns. -/
theorem out_A_9 (hc0 : cond0_0 i) {a : Ins} {g : ℕ} (hr : Reads a g x0 x1 x2 x3 x4 x5 x6) (r : Fin 1024) (k : Fin 768) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r k) = proj a a.wb k.val (g + r.val) := by
  unfold out0_A_9
  rw [View.read_writes_junk_eq_canon]
  have hid := hidden c arg1 harg1 arg2 harg2 x0 x1 x2 x3 x4 x5 x6 hr
  unfold kernelRun0_A
  dsimp only
  refine canon_step _ _ _ r k _ (fun j hj => ?_) (fun hn => by omega)
  obtain rfl : j = k := Fin.ext ((Nat.zero_add _).symm.trans hj)
  exact attn_at a a.wb g _ _ hid (fun d k => (load_whole arg5 harg5 x4 _ d k).trans (hr.h4 _ _)) r j

/-- What a later grid point stores of the rule's gates. -/
theorem out_B_10 (hc0 : ¬cond0_0 i) (xs0 : Vec Ideal S8x1536 .f32) {a : Ins} {g : ℕ} (hr : Reads a g x0 x1 x2 x3 x4 x5 x6) (r : Fin 1024) (k : Fin 128) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (ix2 r k) = proj a a.wa k.val (g + r.val) := by
  unfold out0_B_10
  rw [View.read_writes_junk_eq_canon]
  have hid := hidden c arg1 harg1 arg2 harg2 x0 x1 x2 x3 x4 x5 x6 hr
  unfold kernelRun0_B
  dsimp only
  refine canon_step _ _ _ r k _ (fun j hj => ?_) (fun hn => by omega)
  obtain rfl : j = k := Fin.ext ((Nat.zero_add _).symm.trans hj)
  exact gate_at a a.wa g _ _ hid (fun d k => (load_whole arg6 harg6 x5 _ d k).trans (hr.h5 _ _)) r j

/-- What a first grid point stores of the rule's gates. -/
theorem out_A_10 (hc0 : cond0_0 i) {a : Ins} {g : ℕ} (hr : Reads a g x0 x1 x2 x3 x4 x5 x6) (r : Fin 1024) (k : Fin 128) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r k) = proj a a.wa k.val (g + r.val) := by
  unfold out0_A_10
  rw [View.read_writes_junk_eq_canon]
  have hid := hidden c arg1 harg1 arg2 harg2 x0 x1 x2 x3 x4 x5 x6 hr
  unfold kernelRun0_A
  dsimp only
  refine canon_step _ _ _ r k _ (fun j hj => ?_) (fun hn => by omega)
  obtain rfl : j = k := Fin.ext ((Nat.zero_add _).symm.trans hj)
  exact gate_at a a.wa g _ _ hid (fun d k => (load_whole arg6 harg6 x5 _ d k).trans (hr.h5 _ _)) r j

/-- What a later grid point stores of the gated delta rule's columns. -/
theorem out_B_8 (hc0 : ¬cond0_0 i) (xs0 : Vec Ideal S8x1536 .f32) {a : Ins} {g : ℕ} (hs : Start (kernelRun0_B.sl.v28 i) g) (hr : Reads a g x0 x1 x2 x3 x4 x5 x6)
    (hh : kernelRun0_B.sl.v28 i = 1#1 → ∀ (r : Fin 8) (k : Fin 1536), xs0 (ix2 r k) = proj a a.wg k.val (g - 8 + r.val)) (r : Fin 1024) (k : Fin 2048) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (ix2 r k) = gdn a (g + r.val) k.val := by
  unfold out0_B_8
  rw [View.read_writes_junk_eq_canon]
  have hid := hidden c arg1 harg1 arg2 harg2 x0 x1 x2 x3 x4 x5 x6 hr
  unfold kernelRun0_B
  dsimp only
  iterate 4
    refine canon_step _ _ _ r k _ (fun j hj => ?_) (fun hn => ?_)
    · rw [← hj]
      try dsimp only [kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27,
        k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
      refine value_at ⟨hs, fun r k => ?_, ?_, ?_⟩
          (by omega) r j (by decide) (by decide) (by decide) (by decide) _ _ _ (by exact rfl) (by exact rfl) (by exact rfl)
      · refine cov_at _ _ r k _ ?_
        repeat refine canon_step _ _ _ r _ _ (fun j hj => absurd hj (by dsimp only; omega)) (fun _ => ?_)
        refine canon_step _ _ _ r _ _ (fun j hj => ?_) (fun hn => absurd hn (by dsimp only; omega))
        exact (wide_at a g _ _ _ hid (fun d k => (load_at arg4 harg4 x3 _ d k).trans (hr.h3 _ _)) r j).trans
          (congrArg (fun c => proj a a.wg c (g + r.val)) hj)
      · exact fun h s k => (load_at arg12 harg12 xs0 _ s k).trans (hh h _ _)
      · exact fun s k => (load_whole arg7 harg7 x6 _ s k).trans (hr.h6 _ _)
  refine canon_step _ _ _ r k _ (fun j hj => ?_) (fun hn => ?_)
  · rw [← hj]
    exact (wide_at a g _ _ _ hid (fun d k => (load_at arg4 harg4 x3 _ d k).trans (hr.h3 _ _)) r j).trans (by rw [gdn, if_neg (by omega), if_neg (by omega), if_neg (by omega)])
  iterate 4
    refine canon_step _ _ _ r k _ (fun j hj => ?_) (fun hn => ?_)
    · rw [← hj]
      try dsimp only [kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27,
        k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
      refine key_at ⟨hs, fun r k => ?_, ?_, ?_⟩
          (by omega) r j (by decide) (by decide) (by decide) (by decide) _ _ _ _ (by exact rfl) (by exact rfl) (by exact rfl) (by exact rfl)
      · refine cov_at _ _ r k _ ?_
        repeat refine canon_step _ _ _ r _ _ (fun j hj => absurd hj (by dsimp only; omega)) (fun _ => ?_)
        refine canon_step _ _ _ r _ _ (fun j hj => ?_) (fun hn => absurd hn (by dsimp only; omega))
        exact (wide_at a g _ _ _ hid (fun d k => (load_at arg4 harg4 x3 _ d k).trans (hr.h3 _ _)) r j).trans
          (congrArg (fun c => proj a a.wg c (g + r.val)) hj)
      · exact fun h s k => (load_at arg12 harg12 xs0 _ s k).trans (hh h _ _)
      · exact fun s k => (load_whole arg7 harg7 x6 _ s k).trans (hr.h6 _ _)
  refine canon_step _ _ _ r k _ (fun j hj => by omega) (fun hn => ?_)
  iterate 4
    refine canon_step _ _ _ r k _ (fun j hj => ?_) (fun hn => ?_)
    · rw [← hj]
      try dsimp only [kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27,
        k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
      refine query_at ⟨hs, fun r k => ?_, ?_, ?_⟩
          (by omega) r j (by decide) (by decide) (by decide) (by decide) _ _ _ _ (by exact rfl) (by exact rfl) (by exact rfl) (by exact rfl)
      · refine cov_at _ _ r k _ ?_
        repeat refine canon_step _ _ _ r _ _ (fun j hj => absurd hj (by dsimp only; omega)) (fun _ => ?_)
        refine canon_step _ _ _ r _ _ (fun j hj => ?_) (fun hn => absurd hn (by dsimp only; omega))
        exact (wide_at a g _ _ _ hid (fun d k => (load_at arg4 harg4 x3 _ d k).trans (hr.h3 _ _)) r j).trans
          (congrArg (fun c => proj a a.wg c (g + r.val)) hj)
      · exact fun h s k => (load_at arg12 harg12 xs0 _ s k).trans (hh h _ _)
      · exact fun s k => (load_whole arg7 harg7 x6 _ s k).trans (hr.h6 _ _)
  refine canon_step _ _ _ r k _ (fun j hj => by omega) (fun hn => ?_)
  refine canon_step _ _ _ r k _ (fun j hj => by omega) (fun hn => ?_)
  exfalso
  omega

/-- What a later grid point leaves to the next. -/
theorem halo_B (hc0 : ¬cond0_0 i) (xs0 : Vec Ideal S8x1536 .f32) {a : Ins} {g : ℕ} (hr : Reads a g x0 x1 x2 x3 x4 x5 x6) (r : Fin 8) (k : Fin 1536) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 (ix2 r k) = proj a a.wg k.val (g + 1016 + r.val) := by
  unfold sout0_B_0
  rw [View.read_writes_junk_eq_canon]
  have hid := hidden c arg1 harg1 arg2 harg2 x0 x1 x2 x3 x4 x5 x6 hr
  unfold kernelRun0_B
  dsimp only
  iterate 12
    refine canon_step _ _ _ r k _ (fun j hj => ?_) (fun hn => ?_)
    · rw [← hj]
      try dsimp only [kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27,
        k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
      refine tailv_at a g _ _ _ (by exact rfl) (fun r k => ?_) r j
      · refine cov_at _ _ r k _ ?_
        repeat refine canon_step _ _ _ r _ _ (fun j hj => absurd hj (by dsimp only; omega)) (fun _ => ?_)
        refine canon_step _ _ _ r _ _ (fun j hj => ?_) (fun hn => absurd hn (by dsimp only; omega))
        exact (wide_at a g _ _ _ hid (fun d k => (load_at arg4 harg4 x3 _ d k).trans (hr.h3 _ _)) r j).trans
          (congrArg (fun c => proj a a.wg c (g + r.val)) hj)
  exfalso
  omega

/-- What a first grid point stores of the gated delta rule's columns. -/
theorem out_A_8 (hc0 : cond0_0 i) {a : Ins} {g : ℕ} (hs : Start (kernelRun0_B.sl.v28 i) g) (hr : Reads a g x0 x1 x2 x3 x4 x5 x6)
    (hk : kernelRun0_B.sl.v28 i ≠ 1#1) (r : Fin 1024) (k : Fin 2048) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r k) = gdn a (g + r.val) k.val := by
  unfold out0_A_8
  rw [View.read_writes_junk_eq_canon]
  have hid := hidden c arg1 harg1 arg2 harg2 x0 x1 x2 x3 x4 x5 x6 hr
  unfold kernelRun0_A
  dsimp only
  iterate 4
    refine canon_step _ _ _ r k _ (fun j hj => ?_) (fun hn => ?_)
    · rw [← hj]
      try dsimp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27,
        k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
      refine value_at ⟨hs, fun r k => ?_, ?_, ?_⟩
          (by omega) r j (by decide) (by decide) (by decide) (by decide) _ _ _ (by exact rfl) (by exact rfl) (by exact rfl)
      · refine cov_at _ _ r k _ ?_
        repeat refine canon_step _ _ _ r _ _ (fun j hj => absurd hj (by dsimp only; omega)) (fun _ => ?_)
        refine canon_step _ _ _ r _ _ (fun j hj => ?_) (fun hn => absurd hn (by dsimp only; omega))
        exact (wide_at a g _ _ _ hid (fun d k => (load_at arg4 harg4 x3 _ d k).trans (hr.h3 _ _)) r j).trans
          (congrArg (fun c => proj a a.wg c (g + r.val)) hj)
      · exact fun h => absurd h (by assumption)
      · exact fun s k => (load_whole arg7 harg7 x6 _ s k).trans (hr.h6 _ _)
  refine canon_step _ _ _ r k _ (fun j hj => ?_) (fun hn => ?_)
  · rw [← hj]
    exact (wide_at a g _ _ _ hid (fun d k => (load_at arg4 harg4 x3 _ d k).trans (hr.h3 _ _)) r j).trans (by rw [gdn, if_neg (by omega), if_neg (by omega), if_neg (by omega)])
  iterate 4
    refine canon_step _ _ _ r k _ (fun j hj => ?_) (fun hn => ?_)
    · rw [← hj]
      try dsimp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27,
        k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
      refine key_at ⟨hs, fun r k => ?_, ?_, ?_⟩
          (by omega) r j (by decide) (by decide) (by decide) (by decide) _ _ _ _ (by exact rfl) (by exact rfl) (by exact rfl) (by exact rfl)
      · refine cov_at _ _ r k _ ?_
        repeat refine canon_step _ _ _ r _ _ (fun j hj => absurd hj (by dsimp only; omega)) (fun _ => ?_)
        refine canon_step _ _ _ r _ _ (fun j hj => ?_) (fun hn => absurd hn (by dsimp only; omega))
        exact (wide_at a g _ _ _ hid (fun d k => (load_at arg4 harg4 x3 _ d k).trans (hr.h3 _ _)) r j).trans
          (congrArg (fun c => proj a a.wg c (g + r.val)) hj)
      · exact fun h => absurd h (by assumption)
      · exact fun s k => (load_whole arg7 harg7 x6 _ s k).trans (hr.h6 _ _)
  refine canon_step _ _ _ r k _ (fun j hj => by omega) (fun hn => ?_)
  iterate 4
    refine canon_step _ _ _ r k _ (fun j hj => ?_) (fun hn => ?_)
    · rw [← hj]
      try dsimp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27,
        k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
      refine query_at ⟨hs, fun r k => ?_, ?_, ?_⟩
          (by omega) r j (by decide) (by decide) (by decide) (by decide) _ _ _ _ (by exact rfl) (by exact rfl) (by exact rfl) (by exact rfl)
      · refine cov_at _ _ r k _ ?_
        repeat refine canon_step _ _ _ r _ _ (fun j hj => absurd hj (by dsimp only; omega)) (fun _ => ?_)
        refine canon_step _ _ _ r _ _ (fun j hj => ?_) (fun hn => absurd hn (by dsimp only; omega))
        exact (wide_at a g _ _ _ hid (fun d k => (load_at arg4 harg4 x3 _ d k).trans (hr.h3 _ _)) r j).trans
          (congrArg (fun c => proj a a.wg c (g + r.val)) hj)
      · exact fun h => absurd h (by assumption)
      · exact fun s k => (load_whole arg7 harg7 x6 _ s k).trans (hr.h6 _ _)
  refine canon_step _ _ _ r k _ (fun j hj => by omega) (fun hn => ?_)
  refine canon_step _ _ _ r k _ (fun j hj => by omega) (fun hn => ?_)
  exfalso
  omega

/-- What a first grid point leaves to the next. -/
theorem halo_A (hc0 : cond0_0 i) {a : Ins} {g : ℕ} (hr : Reads a g x0 x1 x2 x3 x4 x5 x6) (r : Fin 8) (k : Fin 1536) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r k) = proj a a.wg k.val (g + 1016 + r.val) := by
  unfold sout0_A_0
  rw [View.read_writes_junk_eq_canon]
  have hid := hidden c arg1 harg1 arg2 harg2 x0 x1 x2 x3 x4 x5 x6 hr
  unfold kernelRun0_A
  dsimp only
  iterate 12
    refine canon_step _ _ _ r k _ (fun j hj => ?_) (fun hn => ?_)
    · rw [← hj]
      try dsimp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27,
        k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
      refine tailv_at a g _ _ _ (by exact rfl) (fun r k => ?_) r j
      · refine cov_at _ _ r k _ ?_
        repeat refine canon_step _ _ _ r _ _ (fun j hj => absurd hj (by dsimp only; omega)) (fun _ => ?_)
        refine canon_step _ _ _ r _ _ (fun j hj => ?_) (fun hn => absurd hn (by dsimp only; omega))
        exact (wide_at a g _ _ _ hid (fun d k => (load_at arg4 harg4 x3 _ d k).trans (hr.h3 _ _)) r j).trans
          (congrArg (fun c => proj a a.wg c (g + r.val)) hj)
  exfalso
  omega

end Block

end Cert.InprojBody
end
-- ==== Proof.Inproj.Final.lean ====
/- The input projection kernel's four result arrays: at every index the model's value. -/
module

public import proofs.«01_k».proof.Proof.Inproj.Body
public import proofs.«01_k».proof.Proof.Ffn.Final
public import Idealize.ShloMosaic.Lib.Pipeline.ValueKit.Geometry

@[expose] public section

set_option maxRecDepth 16384

noncomputable section

namespace Cert.InprojFinal

open Idealize.ShloMosaic Idealize.ShloMosaic.TcCoe Idealize.SL.Sem Cert.InprojIdeal Cert.InprojIdeal.Gen Cert.FfnModel Cert.InprojModel
open Cert.InprojBlock Cert.InprojBody
open Cert.FfnFinal (el_of)

variable (m : (ℓ : Loc nD τ sig) → Buf (Elt Ideal) ℓ)

/-- The call's arguments on core `c`, as functions of a row and a column. -/
def args (c : Dev nD) : Ins where
  x := el (n := 32768) (m := 1024) (m ((c : Thread nD τ).loc main_arg0))
  wn := el (n := 1) (m := 1024) (m ((c : Thread nD τ).loc main_arg1))
  ws := el (n := 1024) (m := 768) (m ((c : Thread nD τ).loc main_arg2))
  wg := el (n := 1024) (m := 2048) (m ((c : Thread nD τ).loc main_arg3))
  wb := el (n := 1024) (m := 768) (m ((c : Thread nD τ).loc main_arg4))
  wa := el (n := 1024) (m := 128) (m ((c : Thread nD τ).loc main_arg5))
  wk := el (n := 4) (m := 1536) (m ((c : Thread nD τ).loc main_arg6))

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![t.val, 0] := (by decide +kernel : ∀ t : Fin grid0.N, _)

/-- The bit that keeps the rows before the block is off exactly at the first block of a sequence. -/
theorem keep_eq : ∀ t : Fin cfg0.N, kernelRun0_B.sl.v28 (grid0.coords t) = if t.val % 8 = 0 then 0#1 else 1#1 :=
  (by decide +kernel : ∀ t : Fin grid0.N, _)

theorem start_at (t : Fin cfg0.N) : Start (kernelRun0_B.sl.v28 (grid0.coords t)) (t.val * 1024) := by
  rw [keep_eq]
  refine ⟨by omega, fun h => ?_, fun h => ?_⟩
  · have : t.val % 8 = 0 := by
      by_contra hn
      exact h (if_neg hn)
    omega
  · have : t.val % 8 ≠ 0 := fun hn => by
      rw [if_pos hn] at h
      exact absurd h (by decide)
    omega

theorem reads_at (c : Dev nD) (t : Fin cfg0.N) :
    Reads (args m c) (t.val * 1024) (iblk m c 0 t) (iblk m c 1 t) (iblk m c 2 t) (iblk m c 3 t) (iblk m c 4 t) (iblk m c 5 t) (iblk m c 6 t) := by
  refine ⟨?_, ?_, ?_, ?_, ?_, ?_, ?_⟩
  · exact fun r k => el_of _ ((win0_0.blk t).view.emb (ix2 r k)) _ _ (by blk_simp [index_0] <;> rfl) (by blk_simp [index_0] <;> rfl)
  · exact fun r k => el_of _ ((win0_1.blk t).view.emb (ix2 r k)) _ _ (by blk_simp [index_1] <;> rfl) (by blk_simp [index_1] <;> rfl)
  · exact fun r k => el_of _ ((win0_2.blk t).view.emb (ix2 r k)) _ _ (by blk_simp [index_2] <;> rfl) (by blk_simp [index_2] <;> rfl)
  · exact fun r k => el_of _ ((win0_3.blk t).view.emb (ix2 r k)) _ _ (by blk_simp [index_3] <;> rfl) (by blk_simp [index_3] <;> rfl)
  · exact fun r k => el_of _ ((win0_4.blk t).view.emb (ix2 r k)) _ _ (by blk_simp [index_4] <;> rfl) (by blk_simp [index_4] <;> rfl)
  · exact fun r k => el_of _ ((win0_5.blk t).view.emb (ix2 r k)) _ _ (by blk_simp [index_5] <;> rfl) (by blk_simp [index_5] <;> rfl)
  · exact fun r k => el_of _ ((win0_6.blk t).view.emb (ix2 r k)) _ _ (by blk_simp [index_6] <;> rfl) (by blk_simp [index_6] <;> rfl)

/-- The rows a grid point leaves to the next. -/
theorem halo_at (c : Dev nD) (t : Fin cfg0.N) (r : Fin 8) (k : Fin 1536) :
    (outsAt0 m c t.val t.isLt).2.2.2.2 (ix2 r k) = proj (args m c) (args m c).wg k.val (t.val * 1024 + 1016 + r.val) := by
  have hr := reads_at m c t
  by_cases h0 : t.val % 32 = 0
  · rw [outsAt0_A m c t h0]
    dsimp only
    apply halo_A
    exact hr
  · rw [outsAt0_B m c t h0]
    dsimp only
    generalize (outsAt0 m c (t.val - 1) _).2.2.2.2 = xs
    apply halo_B
    exact hr

/-- What a grid point stores of the short convolution's columns. -/
theorem block_7 (c : Dev nD) (t : Fin cfg0.N) (r : Fin 1024) (k : Fin 768) :
    (outsAt0 m c t.val t.isLt).1 (ix2 r k) = proj (args m c) (args m c).ws k.val (t.val * 1024 + r.val) := by
  have hr := reads_at m c t
  by_cases h0 : t.val % 32 = 0
  · rw [outsAt0_A m c t h0]
    dsimp only
    apply out_A_7
    exact hr
  · rw [outsAt0_B m c t h0]
    dsimp only
    generalize (outsAt0 m c (t.val - 1) _).2.2.2.2 = xs
    apply out_B_7
    exact hr

/-- The result array of the short convolution's columns. -/
def res7 (c : Dev nD) : S32768x768.Idx → EReal := fun j => proj (args m c) (args m c).ws (j 1).val (j 0).val

theorem final_7 (c : Dev nD) : (dats m 0 c).arrAt 7 cfg0.N = res7 m c := by
  refine (dats m 0 c).arrAt_eq_of_covers 7 _ (by decide +kernel) fun t hf y => ?_
  blk_simp
  show (dats m 0 c).after 7 t y = _
  rw [after0_7]
  show (outsAt0 m c t.val t.isLt).1 y = proj (args m c) (args m c).ws ((win0_7.blk t).view.emb y 1).val ((win0_7.blk t).view.emb y 0).val
  have g0 : ((win0_7.blk t).view.emb y 0).val = t.val * 1024 + (y 0).val := by
    blk_simp [index_7] <;> rfl
  have g1 : ((win0_7.blk t).view.emb y 1).val = (y 1).val := by
    blk_simp [index_7] <;> rfl
  rw [g0, g1]
  exact (congrArg (outsAt0 m c t.val t.isLt).1 (eq_ix2 y)).trans (block_7 m c t (y 0) (y 1))

/-- What a grid point stores of the gated delta rule's columns. -/
theorem block_8 (c : Dev nD) (t : Fin cfg0.N) (r : Fin 1024) (k : Fin 2048) :
    (outsAt0 m c t.val t.isLt).2.1 (ix2 r k) = gdn (args m c) (t.val * 1024 + r.val) k.val := by
  have hr := reads_at m c t
  by_cases h0 : t.val % 32 = 0
  · rw [outsAt0_A m c t h0]
    dsimp only
    apply out_A_8
    · exact start_at t
    · exact hr
    · rw [keep_eq, if_pos (by omega)]
      decide
  · have hp := halo_at m c ⟨t.val - 1, Nat.lt_of_le_of_lt (Nat.sub_le _ _) t.isLt⟩
    rw [outsAt0_B m c t h0]
    dsimp only at hp ⊢
    generalize (outsAt0 m c (t.val - 1) _).2.2.2.2 = xs at hp ⊢
    apply out_B_8
    · exact start_at t
    · exact hr
    · intro _ s j
      rw [hp]
      exact congrArg (proj (args m c) (args m c).wg j.val) (by omega)

/-- The result array of the gated delta rule's columns. -/
def res8 (c : Dev nD) : S32768x2048.Idx → EReal := fun j => gdn (args m c) (j 0).val (j 1).val

theorem final_8 (c : Dev nD) : (dats m 0 c).arrAt 8 cfg0.N = res8 m c := by
  refine (dats m 0 c).arrAt_eq_of_covers 8 _ (by decide +kernel) fun t hf y => ?_
  blk_simp
  show (dats m 0 c).after 8 t y = _
  rw [after0_8]
  show (outsAt0 m c t.val t.isLt).2.1 y = gdn (args m c) ((win0_8.blk t).view.emb y 0).val ((win0_8.blk t).view.emb y 1).val
  have g0 : ((win0_8.blk t).view.emb y 0).val = t.val * 1024 + (y 0).val := by
    blk_simp [index_8] <;> rfl
  have g1 : ((win0_8.blk t).view.emb y 1).val = (y 1).val := by
    blk_simp [index_8] <;> rfl
  rw [g0, g1]
  exact (congrArg (outsAt0 m c t.val t.isLt).2.1 (eq_ix2 y)).trans (block_8 m c t (y 0) (y 1))

/-- What a grid point stores of the attention's columns. -/
theorem block_9 (c : Dev nD) (t : Fin cfg0.N) (r : Fin 1024) (k : Fin 768) :
    (outsAt0 m c t.val t.isLt).2.2.1 (ix2 r k) = proj (args m c) (args m c).wb k.val (t.val * 1024 + r.val) := by
  have hr := reads_at m c t
  by_cases h0 : t.val % 32 = 0
  · rw [outsAt0_A m c t h0]
    dsimp only
    apply out_A_9
    exact hr
  · rw [outsAt0_B m c t h0]
    dsimp only
    generalize (outsAt0 m c (t.val - 1) _).2.2.2.2 = xs
    apply out_B_9
    exact hr

/-- The result array of the attention's columns. -/
def res9 (c : Dev nD) : S32768x768.Idx → EReal := fun j => proj (args m c) (args m c).wb (j 1).val (j 0).val

theorem final_9 (c : Dev nD) : (dats m 0 c).arrAt 9 cfg0.N = res9 m c := by
  refine (dats m 0 c).arrAt_eq_of_covers 9 _ (by decide +kernel) fun t hf y => ?_
  blk_simp
  show (dats m 0 c).after 9 t y = _
  rw [after0_9]
  show (outsAt0 m c t.val t.isLt).2.2.1 y = proj (args m c) (args m c).wb ((win0_9.blk t).view.emb y 1).val ((win0_9.blk t).view.emb y 0).val
  have g0 : ((win0_9.blk t).view.emb y 0).val = t.val * 1024 + (y 0).val := by
    blk_simp [index_9] <;> rfl
  have g1 : ((win0_9.blk t).view.emb y 1).val = (y 1).val := by
    blk_simp [index_9] <;> rfl
  rw [g0, g1]
  exact (congrArg (outsAt0 m c t.val t.isLt).2.2.1 (eq_ix2 y)).trans (block_9 m c t (y 0) (y 1))

/-- What a grid point stores of the rule's gates. -/
theorem block_10 (c : Dev nD) (t : Fin cfg0.N) (r : Fin 1024) (k : Fin 128) :
    (outsAt0 m c t.val t.isLt).2.2.2.1 (ix2 r k) = proj (args m c) (args m c).wa k.val (t.val * 1024 + r.val) := by
  have hr := reads_at m c t
  by_cases h0 : t.val % 32 = 0
  · rw [outsAt0_A m c t h0]
    dsimp only
    apply out_A_10
    exact hr
  · rw [outsAt0_B m c t h0]
    dsimp only
    generalize (outsAt0 m c (t.val - 1) _).2.2.2.2 = xs
    apply out_B_10
    exact hr

/-- The result array of the rule's gates. -/
def res10 (c : Dev nD) : S32768x128.Idx → EReal := fun j => proj (args m c) (args m c).wa (j 1).val (j 0).val

theorem final_10 (c : Dev nD) : (dats m 0 c).arrAt 10 cfg0.N = res10 m c := by
  refine (dats m 0 c).arrAt_eq_of_covers 10 _ (by decide +kernel) fun t hf y => ?_
  blk_simp
  show (dats m 0 c).after 10 t y = _
  rw [after0_10]
  show (outsAt0 m c t.val t.isLt).2.2.2.1 y = proj (args m c) (args m c).wa ((win0_10.blk t).view.emb y 1).val ((win0_10.blk t).view.emb y 0).val
  have g0 : ((win0_10.blk t).view.emb y 0).val = t.val * 1024 + (y 0).val := by
    blk_simp [index_10] <;> rfl
  have g1 : ((win0_10.blk t).view.emb y 1).val = (y 1).val := by
    blk_simp [index_10] <;> rfl
  rw [g0, g1]
  exact (congrArg (outsAt0 m c t.val t.isLt).2.2.2.1 (eq_ix2 y)).trans (block_10 m c t (y 0) (y 1))

end Cert.InprojFinal
end
-- ==== Proof.Inproj.Ref.lean ====
/- The reference of the input projection: its four results are the model's. -/
module

public import proofs.«01_k».proof.Proof.Inproj.Model
public import proofs.«01_k».proof.Proof.Gen.InprojReferenceIdeal.Run

@[expose] public section

noncomputable section

namespace Cert.InprojReferenceIdeal.Hand

open Cert.InprojReferenceIdeal Cert.InprojReferenceIdeal.Gen Cert.InprojReferenceIdeal.Value Cert.FfnModel Cert.InprojModel
open Idealize.ShloMosaic Idealize.ShloMosaic.TcCoe Idealize.SL.Sem Idealize.ShloMosaic.StableHlo

variable (V0 : Valuation τ sig (Elt Ideal))

/-- The arguments as functions of a row and a column. -/
def ins : Ins where
  x := el (n := 32768) (m := 1024) (V0 (Proc.devRef .tc main_arg0))
  wn := el (n := 1) (m := 1024) (V0 (Proc.devRef .tc main_arg1))
  ws := el (n := 1024) (m := 768) (V0 (Proc.devRef .tc main_arg2))
  wg := el (n := 1024) (m := 2048) (V0 (Proc.devRef .tc main_arg3))
  wb := el (n := 1024) (m := 768) (V0 (Proc.devRef .tc main_arg4))
  wa := el (n := 1024) (m := 128) (V0 (Proc.devRef .tc main_arg5))
  wk := el (n := 4) (m := 1536) (V0 (Proc.devRef .tc main_arg6))

theorem x_at (r : Fin 32768) (c : Fin 1024) : V0 (Proc.devRef .tc main_arg0) (ix2 r c) = (ins V0).x r.val c.val := el_ix2 _ r c
theorem wn_at (r : Fin 1) (c : Fin 1024) : V0 (Proc.devRef .tc main_arg1) (ix2 r c) = (ins V0).wn r.val c.val := el_ix2 _ r c
theorem ws_at (r : Fin 1024) (c : Fin 768) : V0 (Proc.devRef .tc main_arg2) (ix2 r c) = (ins V0).ws r.val c.val := el_ix2 _ r c
theorem wg_at (r : Fin 1024) (c : Fin 2048) : V0 (Proc.devRef .tc main_arg3) (ix2 r c) = (ins V0).wg r.val c.val := el_ix2 _ r c
theorem wb_at (r : Fin 1024) (c : Fin 768) : V0 (Proc.devRef .tc main_arg4) (ix2 r c) = (ins V0).wb r.val c.val := el_ix2 _ r c
theorem wa_at (r : Fin 1024) (c : Fin 128) : V0 (Proc.devRef .tc main_arg5) (ix2 r c) = (ins V0).wa r.val c.val := el_ix2 _ r c
theorem wk_at (r : Fin 4) (c : Fin 1536) : V0 (Proc.devRef .tc main_arg6) (ix2 r c) = (ins V0).wk r.val c.val := el_ix2 _ r c

theorem zero_word : FloatOps.sitofp (F := Ideal) FTy.f32 (0#32) = (0 : EReal) := by
  show (((0#32 : BitVec 32).toInt : ℝ) : EReal) = 0
  simp

/-- The normed input. -/
theorem v14_at (b : Fin 4) (r : Fin 8192) (k : Fin 1024) :
    (res_main_v14 V0 (ix3 b r k) : EReal) = rms ((ins V0).x (b.val * 8192 + r.val)) ((ins V0).wn 0 k.val) k.val := by
  unfold res_main_v14 res_main_v0
  pointwise
  simp only [x_at, wn_at]
  rfl

/-- The projection for the gated delta rule. -/
theorem v18_at (b : Fin 4) (r : Fin 8192) (k : Fin 2048) :
    (res_main_v18 V0 (ix3 b r k) : EReal) = proj (ins V0) (ins V0).wg k.val (b.val * 8192 + r.val) := by
  unfold res_main_v18
  pointwise
  simp only [v14_at, wg_at]
  rfl

/-- The padded queries, keys and values. -/
theorem v28_at (b : Fin 4) (r : Fin 8195) (k : Fin 1536) : (res_main_v28 V0 (ix3 b r k) : EReal)
    = if 3 ≤ r.val then proj (ins V0) (ins V0).wg k.val (b.val * 8192 + (r.val - 3)) else 0 := by
  unfold res_main_v28
  pointwise
  by_cases h : 3 ≤ r.val
  · rw [dif_pos ⟨h, by omega⟩, if_pos h]
    simp only [v18_at]
    by_cases h1 : k.val < 512
    · simp [h1]
    · by_cases h2 : k.val - 512 < 512
      · simp only [h1, h2, dif_pos, dif_neg, not_false_eq_true]
        rw [show 512 + (k.val - 512) = k.val by omega]
      · simp only [h1, h2, dif_neg, not_false_eq_true]
        rw [show 1024 + (k.val - 512 - 512) = k.val by omega]
  · rw [dif_neg (by omega), if_neg h, zero_word]

/-- The reference's order of a convolution's four products. -/
theorem cv_host (f : ℕ → EReal) (w0 w1 w2 w3 : EReal) (b r : ℕ) (hr : r < 8192) :
    w0 * (if 3 ≤ r then f (b * 8192 + (r - 3)) else 0) + w1 * (if 3 ≤ 1 + r then f (b * 8192 + (1 + r - 3)) else 0)
      + w2 * (if 3 ≤ 2 + r then f (b * 8192 + (2 + r - 3)) else 0) + w3 * (if 3 ≤ 3 + r then f (b * 8192 + (3 + r - 3)) else 0)
      = InprojModel.cv f w0 w1 w2 w3 (b * 8192 + r) := by
  have e : (b * 8192 + r) % 8192 = r := by omega
  have e0 : b * 8192 + (3 + r - 3) = b * 8192 + r := by omega
  have hb : ∀ d, 1 ≤ d → d ≤ 3 → (if 3 ≤ (3 - d) + r then f (b * 8192 + (3 - d + r - 3)) else 0) = back f d (b * 8192 + r) := fun d h1 h2 => by
    unfold back
    rw [e]
    exact if_ctx_congr (by omega) (fun _ => congrArg f (by omega)) (fun _ => rfl)
  unfold InprojModel.cv
  rw [if_pos (show 3 ≤ 3 + r by omega), e0, ← hb 1 (by omega) (by omega), ← hb 2 (by omega) (by omega), ← hb 3 (by omega) (by omega),
    mul_comm w0, mul_comm w1, mul_comm w2, mul_comm w3, Nat.sub_self, zero_add]
  ac_rfl

/-- The convolved queries, keys and values. -/
theorem v57_at (b : Fin 4) (r : Fin 8192) (k : Fin 1536) : (res_main_v57 V0 (ix3 b r k) : EReal)
    = InprojModel.cv (proj (ins V0) (ins V0).wg k.val) ((ins V0).wk 0 k.val) ((ins V0).wk 1 k.val) ((ins V0).wk 2 k.val) ((ins V0).wk 3 k.val)
      (b.val * 8192 + r.val) := by
  unfold res_main_v57
  pointwise
  simp only [v28_at, wk_at]
  exact cv_host _ _ _ _ _ _ _ r.isLt

/-- The same activated. -/
theorem v58_at (b : Fin 4) (r : Fin 8192) (k : Fin 1536) : (res_main_v58 V0 (ix3 b r k) : EReal) = act (ins V0) (b.val * 8192 + r.val) k.val := by
  unfold res_main_v58
  pointwise
  simp only [v57_at]
  rfl

/-- The short convolution's projections. -/
def res0 : (⟨2, ![32768, 768]⟩ : Shape).Idx → EReal :=
  shapeCast S32768x768 (Host.dotGeneral (F := Ideal) (φ₁ := .f32) (φ₂ := .f32) dot_S4x8192x1024_S1024x768_S4x8192x768_2_0_01_1_n_n none (res_main_v14 V0) (extf .f32 (V0 (Proc.devRef .tc main_arg2)) bitsLt_bf16_f32)) shapeCasts_S4x8192x768_S32768x768

theorem res0_at (r : Fin 32768) (k : Fin 768) : res0 V0 (ix2 r k) = proj (ins V0) (ins V0).ws k.val r.val := by
  unfold res0
  pointwise
  simp only [v14_at, ws_at, Nat.div_add_mod']
  rfl

/-- The attention's projections. -/
def res2 : (⟨2, ![32768, 768]⟩ : Shape).Idx → EReal :=
  truncf (F := Ideal) .bf16 (shapeCast S32768x768 (Host.dotGeneral (F := Ideal) (φ₁ := .f32) (φ₂ := .f32) dot_S4x8192x1024_S1024x768_S4x8192x768_2_0_01_1_n_n none (res_main_v14 V0) (extf .f32 (V0 (Proc.devRef .tc main_arg4)) bitsLt_bf16_f32)) shapeCasts_S4x8192x768_S32768x768) bitsLt_bf16_f32

theorem res2_at (r : Fin 32768) (k : Fin 768) : res2 V0 (ix2 r k) = proj (ins V0) (ins V0).wb k.val r.val := by
  unfold res2
  pointwise
  simp only [v14_at, wb_at, Nat.div_add_mod']
  rfl

/-- The projections for the gates. -/
def res3 : (⟨2, ![32768, 128]⟩ : Shape).Idx → EReal :=
  shapeCast S32768x128 (Host.dotGeneral (F := Ideal) (φ₁ := .f32) (φ₂ := .f32) dot_S4x8192x1024_S1024x128_S4x8192x128_2_0_01_1_n_n none (res_main_v14 V0) (extf .f32 (V0 (Proc.devRef .tc main_arg5)) bitsLt_bf16_f32)) shapeCasts_S4x8192x128_S32768x128

theorem res3_at (r : Fin 32768) (k : Fin 128) : res3 V0 (ix2 r k) = proj (ins V0) (ins V0).wa k.val r.val := by
  unfold res3
  pointwise
  simp only [v14_at, wa_at, Nat.div_add_mod']
  rfl

/-- The gated delta rule's inputs. -/
def res1 : (⟨2, ![32768, 2048]⟩ : Shape).Idx → EReal :=
  shapeCast S32768x2048 ((concatenate S4x8192x2048 2 [⟨S4x8192x512, ((shapeCast _ (mulf (mulf (res_main_v62 V0) (broadcastInDim S4x8192x4x128 ![0, 1, 2, 3] bcast_S4x8192x4x1_S4x8192x4x128_0_1_2_3 (Host.rsqrt (addf (broadcastInDim S4x8192x4x1 ![0, 1, 2] bcast_S4x8192x4_S4x8192x4x1_0_1_2 (Host.reduceAdd (mulf (res_main_v62 V0) (res_main_v62 V0)) (constant S_ .f32 0x00000000#32) reducesTo_S4x8192x4x128_S4x8192x4_d3 h_S_)) (broadcastInDim S4x8192x4x1 ![] bcast_S_S4x8192x4x1 (constant S_ .f32 0x358637BD#32)))))) (broadcastInDim S4x8192x4x128 ![] bcast_S_S4x8192x4x128 (constant S_ .f32 0x3DB504F3#32))) shapeCasts_S4x8192x4x128_S4x8192x512) : (⟨S4x8192x512, .f32⟩ : BufTy).Contents (Elt Ideal))⟩, ⟨S4x8192x512, ((shapeCast _ (mulf (res_main_v73 V0) (broadcastInDim S4x8192x4x128 ![0, 1, 2, 3] bcast_S4x8192x4x1_S4x8192x4x128_0_1_2_3 (Host.rsqrt (addf (broadcastInDim S4x8192x4x1 ![0, 1, 2] bcast_S4x8192x4_S4x8192x4x1_0_1_2 (Host.reduceAdd (mulf (res_main_v73 V0) (res_main_v73 V0)) (constant S_ .f32 0x00000000#32) reducesTo_S4x8192x4x128_S4x8192x4_d3 h_S_)) (broadcastInDim S4x8192x4x1 ![] bcast_S_S4x8192x4x1 (constant S_ .f32 0x358637BD#32)))))) shapeCasts_S4x8192x4x128_S4x8192x512) : (⟨S4x8192x512, .f32⟩ : BufTy).Contents (Elt Ideal))⟩, ⟨S4x8192x512, ((extractStridedSlice S4x8192x512 ![0, 0, 1024] (res_main_v58 V0) slices_S4x8192x1536_S4x8192x512_0_0_1024) : (⟨S4x8192x512, .f32⟩ : BufTy).Contents (Elt Ideal))⟩, ⟨S4x8192x512, ((extractStridedSlice S4x8192x512 ![0, 0, 1536] (res_main_v18 V0) slices_S4x8192x2048_S4x8192x512_0_0_1536) : (⟨S4x8192x512, .f32⟩ : BufTy).Contents (Elt Ideal))⟩] concatenates_S4x8192x512_S4x8192x512_S4x8192x512_S4x8192x512_S4x8192x2048_d2 : (⟨S4x8192x2048, .f32⟩ : BufTy).Contents (Elt Ideal))) shapeCasts_S4x8192x2048_S32768x2048

theorem res1_at (r : Fin 32768) (k : Fin 2048) : res1 V0 (ix2 r k) = gdn (ins V0) r.val k.val := by
  unfold res1 res_main_v62 res_main_v73
  pointwise
  simp only [v58_at, v18_at]
  simp only [Nat.div_add_mod']
  unfold gdn
  by_cases h1 : k.val < 512
  · rw [dif_pos h1, if_pos h1]
    rfl
  · rw [dif_neg h1, if_neg h1]
    by_cases h2 : k.val - 512 < 512
    · have e : ∀ i, 512 + ((k.val - 512) / 128 * 128 + i) = k.val / 128 * 128 + i := fun i => by omega
      rw [dif_pos h2, if_pos (by omega)]
      simp only [e]
      rw [show 512 + (k.val - 512) = k.val by omega]
      rfl
    · rw [dif_neg h2, if_neg (by omega)]
      by_cases h3 : k.val - 512 - 512 < 512
      · rw [dif_pos h3, if_pos (by omega), show 1024 + (k.val - 512 - 512) = k.val by omega]
      · rw [dif_neg h3, if_neg (by omega), show 1536 + (k.val - 512 - 512 - 512) = k.val by omega]

end Cert.InprojReferenceIdeal.Hand
end
-- ==== Proof.Inproj.Value.lean ====
/- The input projection call: the frames of the three programs, and the kernel and the reference end with the same four results
over the extended reals. -/
module

public import proofs.«01_k».proof.Defs
public import proofs.«01_k».proof.Proof.Inproj.Final
public import proofs.«01_k».proof.Proof.Inproj.Ref
public import proofs.«01_k».proof.Proof.Gen.Inproj.Frame
public import Idealize.ShloMosaic.Adequacy
public import Idealize.ShloMosaic.Init

@[expose] public section

noncomputable section

namespace Cert.InprojValue

open Idealize.ShloMosaic Idealize.ShloMosaic.TcCoe Idealize.SL.Sem Idealize.ShloMosaic.StableHlo Cert.FfnModel Cert.InprojModel

/-- The kernel runs to the end, leaves its arguments as they were and every counter at zero. -/
theorem frame_p : Cert.quiescent_Inproj := fun m ρ _ => Cert.Inproj.Gen.frame (F := Bits) m ρ

/-- The same of the kernel read over the extended reals. -/
theorem frame_pi : Cert.quiescent_InprojIdeal := fun m ρ _ => Cert.InprojIdeal.Gen.frame (F := Ideal) m ρ

/-- The reference runs to the end and leaves its arguments as they were; it has no counters. -/
theorem frame_ri : Cert.quiescent_InprojReferenceIdeal := fun m ρ _ =>
  (θ_run Cert.InprojReferenceIdeal.defs _ _).mono
    (fun r h => ⟨fun c => (h c).2.2.2.2, Idealize.ShloMosaic.sem_eq_zero_of_no_sems (by decide) r.2⟩)
    (Cert.InprojReferenceIdeal.Value.run (F := Ideal) m ρ)

/-- Two arrays that hold the same formula of the arguments at every row and column. -/
theorem same {n k : ℕ} {X Y : (⟨2, ![n, k]⟩ : Shape).Idx → EReal} {f : Ins → ℕ → ℕ → EReal} {a b : Ins} (h : a = b)
    (hX : ∀ (r : Fin n) (c : Fin k), X (ix2 r c) = f a r.val c.val) (hY : ∀ (r : Fin n) (c : Fin k), Y (ix2 r c) = f b r.val c.val) : X = Y := by
  subst h
  funext j
  rw [eq_ix2 j]
  exact (hX (j 0) (j 1)).trans (hY (j 0) (j 1)).symm

/-- From equal arguments both programs leave the model's four arrays. -/
theorem algebraic : Cert.algebraic_InprojIdeal_InprojReferenceIdeal := fun m ρ m' ρ' _ hm =>
  have args : ∀ c, Cert.InprojReferenceIdeal.Hand.ins (launchContents m' c) = Cert.InprojFinal.args m c := fun c =>
    let ⟨h0, h1, h2, h3, h4, h5, h6⟩ := hm c
    ins_eq h0 h1 h2 h3 h4 h5 h6
  ⟨fun c => Cert.InprojFinal.res7 m c, fun c => Cert.InprojFinal.res8 m c, fun c => Cert.InprojFinal.res9 m c, fun c => Cert.InprojFinal.res10 m c,
    (θ_run Cert.InprojIdeal.defs _ _).mono
      (fun _ h c => ⟨(h c).1.trans ((Cert.InprojIdeal.Value.final7 m c).symm.trans (Cert.InprojFinal.final_7 m c)),
        (h c).2.1.trans ((Cert.InprojIdeal.Value.final8 m c).symm.trans (Cert.InprojFinal.final_8 m c)),
        (h c).2.2.1.trans ((Cert.InprojIdeal.Value.final9 m c).symm.trans (Cert.InprojFinal.final_9 m c)),
        (h c).2.2.2.1.trans ((Cert.InprojIdeal.Value.final10 m c).symm.trans (Cert.InprojFinal.final_10 m c)), (h c).2.2.2.2⟩)
      (Cert.InprojIdeal.Value.run (F := Ideal) m ρ),
    (θ_run Cert.InprojReferenceIdeal.defs _ _).mono
      (fun _ h c => ⟨
        (h c).1.trans (same (f := fun a r k => proj a a.ws k r) (args c) (Cert.InprojReferenceIdeal.Hand.res0_at (launchContents m' c)) fun _ _ => rfl),
        (h c).2.1.trans (same (f := gdn) (args c) (Cert.InprojReferenceIdeal.Hand.res1_at (launchContents m' c)) fun _ _ => rfl),
        (h c).2.2.1.trans (same (f := fun a r k => proj a a.wb k r) (args c) (Cert.InprojReferenceIdeal.Hand.res2_at (launchContents m' c)) fun _ _ => rfl),
        (h c).2.2.2.1.trans (same (f := fun a r k => proj a a.wa k r) (args c) (Cert.InprojReferenceIdeal.Hand.res3_at (launchContents m' c)) fun _ _ => rfl),
        (h c).2.2.2.2⟩)
      (Cert.InprojReferenceIdeal.Value.run (F := Ideal) m' ρ')⟩

end Cert.InprojValue

end
-- ==== Proof.lean ====
/- The claims, each from its module. -/
module

public import proofs.«01_k».proof.Defs
public import proofs.«01_k».proof.Proof.Frames
public import proofs.«01_k».proof.Proof.Value
public import proofs.«01_k».proof.Proof.Gen.Kernel
public import proofs.«01_k».proof.Proof.Gen.Ffn
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Ffn.Frame
public import proofs.«01_k».proof.Proof.Ffn.Value
public import proofs.«01_k».proof.Proof.Gen.Mid
public import proofs.«01_k».proof.Proof.Gen.MidIdeal
public import proofs.«01_k».proof.Proof.Gen.MidIdeal.Value
public import proofs.«01_k».proof.Proof.Gen.MidReferenceIdeal
public import proofs.«01_k».proof.Proof.Gen.MidReferenceIdeal.Run
public import proofs.«01_k».proof.Proof.Gen.Mid.Frame
public import proofs.«01_k».proof.Proof.Mid.Value
public import proofs.«01_k».proof.Proof.Gen.Inproj
public import proofs.«01_k».proof.Proof.Gen.InprojIdeal
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.Inproj.Frame
public import proofs.«01_k».proof.Proof.Inproj.Value
public import proofs.«01_k».proof.Proof.Gen.KernelIdeal
public import proofs.«01_k».proof.Proof.Gen.ReferenceIdeal

@[expose] public section

noncomputable section

namespace Cert.Proof

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Mid.Gen.facts, Cert.MidIdeal.Gen.facts, Cert.MidReferenceIdeal.Gen.facts,
  Cert.Inproj.Gen.facts, Cert.InprojIdeal.Gen.facts, Cert.InprojReferenceIdeal.Gen.facts,
  Cert.Frames.frame_p, Cert.Frames.frame_pi, Cert.Frames.frame_ri, Cert.FfnValue.frame_p, Cert.FfnValue.frame_pi, Cert.FfnValue.frame_ri,
  Cert.MidValue.frame_p, Cert.MidValue.frame_pi, Cert.MidValue.frame_ri,
  Cert.InprojValue.frame_p, Cert.InprojValue.frame_pi, Cert.InprojValue.frame_ri,
  Cert.Frames.preserves, Cert.Value.algebraic, trivial, Cert.FfnValue.algebraic, trivial, Cert.MidValue.algebraic,
  trivial, Cert.InprojValue.algebraic⟩

end Cert.Proof

end
